-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000x4 : Shape := ⟨2, ![20000, 4]⟩
abbrev S20000 : Shape := ⟨1, ![20000]⟩
abbrev S4x20000 : Shape := ⟨2, ![4, 20000]⟩
abbrev S1x20000 : Shape := ⟨2, ![1, 20000]⟩
abbrev S_ : Shape := ⟨0, ![]⟩
abbrev S20000x1 : Shape := ⟨2, ![20000, 1]⟩
abbrev S20000x3 : Shape := ⟨2, ![20000, 3]⟩
abbrev S20000x8 : Shape := ⟨2, ![20000, 8]⟩
abbrev S1 : Shape := ⟨1, ![1]⟩
abbrev S1x1 : Shape := ⟨2, ![1, 1]⟩
abbrev S8x128 : Shape := ⟨2, ![8, 128]⟩
abbrev S8x8 : Shape := ⟨2, ![8, 8]⟩
abbrev S1x8x128 : Shape := ⟨3, ![1, 8, 128]⟩
abbrev S1x1x1 : Shape := ⟨3, ![1, 1, 1]⟩
abbrev S8x1 : Shape := ⟨2, ![8, 1]⟩
abbrev S8x127 : Shape := ⟨2, ![8, 127]⟩
abbrev S1x128 : Shape := ⟨2, ![1, 128]⟩
abbrev S7x128 : Shape := ⟨2, ![7, 128]⟩
abbrev S1024 : Shape := ⟨1, ![1024]⟩
abbrev S1000 : Shape := ⟨1, ![1000]⟩
abbrev S1000x1 : Shape := ⟨2, ![1000, 1]⟩
abbrev S1000x5 : Shape := ⟨2, ![1000, 5]⟩

abbrev nBuf : Space → Nat
  | .hbm => 88
  | .vmem => 9
  | .smem => 0
  | _ => 0

abbrev bufTy : (tb : Table) → Fin (tcTables nBuf tb) → BufTy
  | .hbm, ⟨0, _⟩ => ⟨S20000x4, .f32⟩
  | .hbm, ⟨1, _⟩ => ⟨S20000, .f32⟩
  | .hbm, ⟨2, _⟩ => ⟨S20000x4, .f32⟩
  | .hbm, ⟨3, _⟩ => ⟨S4x20000, .f32⟩
  | .hbm, ⟨4, _⟩ => ⟨S4x20000, .f32⟩
  | .hbm, ⟨5, _⟩ => ⟨S4x20000, .f32⟩
  | .hbm, ⟨6, _⟩ => ⟨S1x20000, .f32⟩
  | .hbm, ⟨7, _⟩ => ⟨S20000, .f32⟩
  | .hbm, ⟨8, _⟩ => ⟨S1x20000, .f32⟩
  | .hbm, ⟨9, _⟩ => ⟨S20000, .f32⟩
  | .hbm, ⟨10, _⟩ => ⟨S20000, .f32⟩
  | .hbm, ⟨11, _⟩ => ⟨S1x20000, .f32⟩
  | .hbm, ⟨12, _⟩ => ⟨S20000, .f32⟩
  | .hbm, ⟨13, _⟩ => ⟨S1x20000, .f32⟩
  | .hbm, ⟨14, _⟩ => ⟨S20000, .f32⟩
  | .hbm, ⟨15, _⟩ => ⟨S20000, .f32⟩
  | .hbm, ⟨16, _⟩ => ⟨S_, .f32⟩
  | .hbm, ⟨17, _⟩ => ⟨S20000, .f32⟩
  | .hbm, ⟨18, _⟩ => ⟨S20000, .i1⟩
  | .hbm, ⟨19, _⟩ => ⟨S_, .f32⟩
  | .hbm, ⟨20, _⟩ => ⟨S20000, .f32⟩
  | .hbm, ⟨21, _⟩ => ⟨S20000, .i1⟩
  | .hbm, ⟨22, _⟩ => ⟨S20000, .i1⟩
  | .hbm, ⟨23, _⟩ => ⟨S20000, .f32⟩
  | .hbm, ⟨24, _⟩ => ⟨S20000, .f32⟩
  | .hbm, ⟨25, _⟩ => ⟨S_, .f32⟩
  | .hbm, ⟨26, _⟩ => ⟨S20000, .f32⟩
  | .hbm, ⟨27, _⟩ => ⟨S20000, .f32⟩
  | .hbm, ⟨28, _⟩ => ⟨S_, .f32⟩
  | .hbm, ⟨29, _⟩ => ⟨S20000, .f32⟩
  | .hbm, ⟨30, _⟩ => ⟨S20000, .f32⟩
  | .hbm, ⟨31, _⟩ => ⟨S_, .f32⟩
  | .hbm, ⟨32, _⟩ => ⟨S_, .f32⟩
  | .hbm, ⟨33, _⟩ => ⟨S20000, .f32⟩
  | .hbm, ⟨34, _⟩ => ⟨S20000, .f32⟩
  | .hbm, ⟨35, _⟩ => ⟨S20000, .f32⟩
  | .hbm, ⟨36, _⟩ => ⟨S20000, .i32⟩
  | .hbm, ⟨37, _⟩ => ⟨S20000, .f32⟩
  | .hbm, ⟨38, _⟩ => ⟨S20000, .i32⟩
  | .hbm, ⟨39, _⟩ => ⟨S20000x4, .f32⟩
  | .hbm, ⟨40, _⟩ => ⟨S20000x1, .f32⟩
  | .hbm, ⟨41, _⟩ => ⟨S_, .f32⟩
  | .hbm, ⟨42, _⟩ => ⟨S20000x3, .f32⟩
  | .hbm, ⟨43, _⟩ => ⟨S20000x8, .f32⟩
  | .hbm, ⟨44, _⟩ => ⟨S_, .i32⟩
  | .hbm, ⟨45, _⟩ => ⟨S20000, .i32⟩
  | .hbm, ⟨46, _⟩ => ⟨S20000, .i1⟩
  | .hbm, ⟨47, _⟩ => ⟨S_, .i32⟩
  | .hbm, ⟨48, _⟩ => ⟨S20000, .i32⟩
  | .hbm, ⟨49, _⟩ => ⟨S20000, .i32⟩
  | .hbm, ⟨50, _⟩ => ⟨S20000, .i32⟩
  | .hbm, ⟨51, _⟩ => ⟨S20000x1, .i32⟩
  | .hbm, ⟨52, _⟩ => ⟨S1, .i32⟩
  | .hbm, ⟨53, _⟩ => ⟨S_, .i32⟩
  | .hbm, ⟨54, _⟩ => ⟨S20000x1, .i32⟩
  | .hbm, ⟨55, _⟩ => ⟨S20000x1, .i1⟩
  | .hbm, ⟨56, _⟩ => ⟨S1x1, .i32⟩
  | .hbm, ⟨57, _⟩ => ⟨S20000x1, .i32⟩
  | .hbm, ⟨58, _⟩ => ⟨S20000x1, .i1⟩
  | .hbm, ⟨59, _⟩ => ⟨S20000x1, .i1⟩
  | .hbm, ⟨60, _⟩ => ⟨S_, .i1⟩
  | .hbm, ⟨61, _⟩ => ⟨S20000, .i1⟩
  | .hbm, ⟨62, _⟩ => ⟨S20000x8, .f32⟩
  | .hbm, ⟨63, _⟩ => ⟨S20000x8, .i1⟩
  | .hbm, ⟨64, _⟩ => ⟨S_, .f32⟩
  | .hbm, ⟨65, _⟩ => ⟨S20000x8, .f32⟩
  | .hbm, ⟨66, _⟩ => ⟨S20000x8, .f32⟩
  | .hbm, ⟨67, _⟩ => ⟨S8x128, .f32⟩
  | .hbm, ⟨68, _⟩ => ⟨S8x128, .f32⟩
  | .hbm, ⟨69, _⟩ => ⟨S8x128, .f32⟩
  | .hbm, ⟨70, _⟩ => ⟨S8x128, .f32⟩
  | .hbm, ⟨71, _⟩ => ⟨S8x128, .f32⟩
  | .hbm, ⟨72, _⟩ => ⟨S1024, .f32⟩
  | .hbm, ⟨73, _⟩ => ⟨S1000, .f32⟩
  | .hbm, ⟨74, _⟩ => ⟨S1024, .f32⟩
  | .hbm, ⟨75, _⟩ => ⟨S1000, .f32⟩
  | .hbm, ⟨76, _⟩ => ⟨S1024, .f32⟩
  | .hbm, ⟨77, _⟩ => ⟨S1000, .f32⟩
  | .hbm, ⟨78, _⟩ => ⟨S1024, .f32⟩
  | .hbm, ⟨79, _⟩ => ⟨S1000, .f32⟩
  | .hbm, ⟨80, _⟩ => ⟨S1024, .f32⟩
  | .hbm, ⟨81, _⟩ => ⟨S1000, .f32⟩
  | .hbm, ⟨82, _⟩ => ⟨S1000x1, .f32⟩
  | .hbm, ⟨83, _⟩ => ⟨S1000x1, .f32⟩
  | .hbm, ⟨84, _⟩ => ⟨S1000x1, .f32⟩
  | .hbm, ⟨85, _⟩ => ⟨S1000x1, .f32⟩
  | .hbm, ⟨86, _⟩ => ⟨S1000x1, .f32⟩
  | .hbm, ⟨87, _⟩ => ⟨S1000x5, .f32⟩
  | .local _ .vmem, ⟨0, _⟩ => ⟨S4x20000, .f32⟩
  | .local _ .vmem, ⟨1, _⟩ => ⟨S4x20000, .f32⟩
  | .local _ .vmem, ⟨2, _⟩ => ⟨S4x20000, .f32⟩
  | .local _ .vmem, ⟨3, _⟩ => ⟨S20000x8, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | _, _ => ⟨S20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v24 : Ref sig .tc := ⟨.hbm, 34, rfl⟩
abbrev main_v25 : Ref sig .tc := ⟨.hbm, 35, rfl⟩
abbrev main_call1_v0 : Ref sig .tc := ⟨.hbm, 36, rfl⟩
abbrev main_call1_v1_0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_call2_c : Ref sig .tc := ⟨.hbm, 44, rfl⟩
abbrev main_call2_v0 : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_c_1 : Ref sig .tc := ⟨.hbm, 52, rfl⟩
abbrev main_call2_c_2 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_3 : Ref sig .tc := ⟨.hbm, 60, rfl⟩
abbrev main_call2_v12 : Ref sig .tc := ⟨.hbm, 61, rfl⟩
abbrev main_call2_v13 : Ref sig .tc := ⟨.hbm, 62, rfl⟩
abbrev main_call2_v14 : Ref sig .tc := ⟨.hbm, 63, rfl⟩
abbrev main_call2_cst : Ref sig .tc := ⟨.hbm, 64, rfl⟩
abbrev main_call2_v15 : Ref sig .tc := ⟨.hbm, 65, rfl⟩
abbrev main_v31 : Ref sig .tc := ⟨.hbm, 66, rfl⟩
abbrev main_v32_0 : Ref sig .tc := ⟨.hbm, 67, rfl⟩
abbrev main_v32_1 : Ref sig .tc := ⟨.hbm, 68, rfl⟩
abbrev main_v32_2 : Ref sig .tc := ⟨.hbm, 69, rfl⟩
abbrev main_v32_3 : Ref sig .tc := ⟨.hbm, 70, rfl⟩
abbrev main_v32_4 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8

abbrev nD : Nat := 1
abbrev τ : Topo := Topo.v7x

variable {F : FTy → Type} [FloatOps F]

abbrev grid0 : Pipeline.Grid := .none

abbrev stage0_0 : Fin 1 → Memref sig .tc .vmem S4x20000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x20000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x20000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := .none

def k1_off1 (arg6 : BitVec 32) : Fin 2 → Nat :=
  let v23 : Index := Scalar.indexCast arg6
  let c0_13 : Index := 0#32
  ![v23.toNat, 0]

def k1_chk1 (arg6 : BitVec 32) : Prop :=
  (∀ a, (k1_off1 arg6) a + S8x8.size a ≤ S20000x8.size a)
theorem k1_off1_inb : ∀ (arg6 : BitVec 32) (k1_hw1 : k1_chk1 arg6), ∀ a, (k1_off1 arg6) a + S8x8.size a ≤ S20000x8.size a := fun arg6 k1_hw1 => k1_hw1

abbrev stage1_0 : Fin 1 → Memref sig .tc .vmem S20000x8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S8x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
-- ==== ReferenceIdeal.lean ====
abbrev S20000x4 : Shape := ⟨2, ![20000, 4]⟩
abbrev S20000 : Shape := ⟨1, ![20000]⟩
abbrev S20000x1 : Shape := ⟨2, ![20000, 1]⟩
abbrev S_ : Shape := ⟨0, ![]⟩
abbrev S1 : Shape := ⟨1, ![1]⟩
abbrev S1x1 : Shape := ⟨2, ![1, 1]⟩
abbrev S1000 : Shape := ⟨1, ![1000]⟩
abbrev S1000x1 : Shape := ⟨2, ![1000, 1]⟩
abbrev S1000x4 : Shape := ⟨2, ![1000, 4]⟩
abbrev S1000x5 : Shape := ⟨2, ![1000, 5]⟩

abbrev nBuf : Space → Nat
  | .hbm => 386
  | .vmem => 0
  | .smem => 0
  | _ => 0

abbrev hbmTy0_0 (i : Nat) : BufTy := match i % 128 with
  | 0 => ⟨S20000x4, .f32⟩
  | 1 => ⟨S20000, .f32⟩
  | 2 => ⟨S20000x4, .f32⟩
  | 3 => ⟨S20000x1, .f32⟩
  | 4 => ⟨S20000, .f32⟩
  | 5 => ⟨S20000x1, .f32⟩
  | 6 => ⟨S20000, .f32⟩
  | 7 => ⟨S20000, .f32⟩
  | 8 => ⟨S20000x1, .f32⟩
  | 9 => ⟨S20000, .f32⟩
  | 10 => ⟨S20000x1, .f32⟩
  | 11 => ⟨S20000, .f32⟩
  | 12 => ⟨S20000, .f32⟩
  | 13 => ⟨S20000x1, .f32⟩
  | 14 => ⟨S20000, .f32⟩
  | 15 => ⟨S_, .f32⟩
  | 16 => ⟨S20000, .f32⟩
  | 17 => ⟨S20000, .f32⟩
  | 18 => ⟨S20000, .f32⟩
  | 19 => ⟨S20000x1, .f32⟩
  | 20 => ⟨S20000, .f32⟩
  | 21 => ⟨S_, .f32⟩
  | 22 => ⟨S20000, .f32⟩
  | 23 => ⟨S20000, .f32⟩
  | 24 => ⟨S20000, .f32⟩
  | 25 => ⟨S20000x1, .f32⟩
  | 26 => ⟨S20000, .f32⟩
  | 27 => ⟨S20000x1, .f32⟩
  | 28 => ⟨S20000, .f32⟩
  | 29 => ⟨S20000x1, .f32⟩
  | 30 => ⟨S20000, .f32⟩
  | 31 => ⟨S20000x1, .f32⟩
  | 32 => ⟨S20000, .f32⟩
  | 33 => ⟨S20000, .f32⟩
  | 34 => ⟨S20000, .f32⟩
  | 35 => ⟨S20000, .f32⟩
  | 36 => ⟨S20000, .f32⟩
  | 37 => ⟨S_, .f32⟩
  | 38 => ⟨S20000, .f32⟩
  | 39 => ⟨S20000, .f32⟩
  | 40 => ⟨S20000, .f32⟩
  | 41 => ⟨S20000, .f32⟩
  | 42 => ⟨S_, .f32⟩
  | 43 => ⟨S20000, .f32⟩
  | 44 => ⟨S20000, .f32⟩
  | 45 => ⟨S20000, .f32⟩
  | 46 => ⟨S20000, .f32⟩
  | 47 => ⟨S_, .f32⟩
  | 48 => ⟨S20000, .f32⟩
  | 49 => ⟨S20000, .f32⟩
  | 50 => ⟨S20000, .f32⟩
  | 51 => ⟨S_, .f32⟩
  | 52 => ⟨S20000, .f32⟩
  | 53 => ⟨S20000, .f32⟩
  | 54 => ⟨S20000, .f32⟩
  | 55 => ⟨S_, .f32⟩
  | 56 => ⟨S20000, .f32⟩
  | 57 => ⟨S20000, .f32⟩
  | 58 => ⟨S20000, .f32⟩
  | 59 => ⟨S_, .f32⟩
  | 60 => ⟨S20000, .f32⟩
  | 61 => ⟨S20000, .f32⟩
  | 62 => ⟨S20000, .f32⟩
  | 63 => ⟨S20000x1, .f32⟩
  | 64 => ⟨S20000x1, .f32⟩
  | 65 => ⟨S20000x1, .f32⟩
  | 66 => ⟨S20000x1, .f32⟩
  | 67 => ⟨S20000x4, .f32⟩
  | 68 => ⟨S_, .f32⟩
  | 69 => ⟨S_, .f32⟩
  | 70 => ⟨S_, .f32⟩
  | 71 => ⟨S20000x4, .f32⟩
  | 72 => ⟨S20000x4, .f32⟩
  | 73 => ⟨S_, .f32⟩
  | 74 => ⟨S20000x4, .f32⟩
  | 75 => ⟨S20000x4, .f32⟩
  | 76 => ⟨S20000x1, .f32⟩
  | 77 => ⟨S20000, .f32⟩
  | 78 => ⟨S20000x1, .f32⟩
  | 79 => ⟨S20000, .f32⟩
  | 80 => ⟨S20000, .f32⟩
  | 81 => ⟨S20000x1, .f32⟩
  | 82 => ⟨S20000, .f32⟩
  | 83 => ⟨S20000x1, .f32⟩
  | 84 => ⟨S20000, .f32⟩
  | 85 => ⟨S20000, .f32⟩
  | 86 => ⟨S_, .f32⟩
  | 87 => ⟨S20000, .f32⟩
  | 88 => ⟨S20000, .i1⟩
  | 89 => ⟨S_, .f32⟩
  | 90 => ⟨S20000, .f32⟩
  | 91 => ⟨S20000, .i1⟩
  | 92 => ⟨S20000, .i1⟩
  | 93 => ⟨S20000, .f32⟩
  | 94 => ⟨S20000, .f32⟩
  | 95 => ⟨S_, .f32⟩
  | 96 => ⟨S20000, .f32⟩
  | 97 => ⟨S20000, .f32⟩
  | 98 => ⟨S_, .f32⟩
  | 99 => ⟨S20000, .f32⟩
  | 100 => ⟨S20000, .f32⟩
  | 101 => ⟨S_, .f32⟩
  | 102 => ⟨S_, .f32⟩
  | 103 => ⟨S20000, .f32⟩
  | 104 => ⟨S20000, .f32⟩
  | 105 => ⟨S20000, .f32⟩
  | 106 => ⟨S20000, .i32⟩
  | 107 => ⟨S20000, .f32⟩
  | 108 => ⟨S20000, .i32⟩
  | 109 => ⟨S_, .i32⟩
  | 110 => ⟨S20000, .i32⟩
  | 111 => ⟨S20000, .i1⟩
  | 112 => ⟨S_, .i32⟩
  | 113 => ⟨S20000, .i32⟩
  | 114 => ⟨S20000, .i32⟩
  | 115 => ⟨S20000, .i32⟩
  | 116 => ⟨S20000x1, .i32⟩
  | 117 => ⟨S20000x4, .f32⟩
  | 118 => ⟨S_, .i32⟩
  | 119 => ⟨S20000, .i32⟩
  | 120 => ⟨S20000, .i1⟩
  | 121 => ⟨S_, .i32⟩
  | 122 => ⟨S20000, .i32⟩
  | 123 => ⟨S20000, .i32⟩
  | 124 => ⟨S20000, .i32⟩
  | 125 => ⟨S20000x1, .i32⟩
  | 126 => ⟨S20000, .f32⟩
  | 127 => ⟨S20000x1, .f32⟩
  | _ => ⟨S20000x4, .f32⟩

abbrev hbmTy0_1 (i : Nat) : BufTy := match i % 128 with
  | 0 => ⟨S20000, .f32⟩
  | 1 => ⟨S20000x1, .f32⟩
  | 2 => ⟨S20000, .f32⟩
  | 3 => ⟨S20000, .f32⟩
  | 4 => ⟨S20000x1, .f32⟩
  | 5 => ⟨S20000, .f32⟩
  | 6 => ⟨S20000x1, .f32⟩
  | 7 => ⟨S20000, .f32⟩
  | 8 => ⟨S20000, .f32⟩
  | 9 => ⟨S20000, .f32⟩
  | 10 => ⟨S_, .f32⟩
  | 11 => ⟨S20000, .f32⟩
  | 12 => ⟨S20000, .i1⟩
  | 13 => ⟨S20000, .i32⟩
  | 14 => ⟨S_, .i32⟩
  | 15 => ⟨S_, .i32⟩
  | 16 => ⟨S20000x4, .f32⟩
  | 17 => ⟨S20000, .f32⟩
  | 18 => ⟨S20000, .i32⟩
  | 19 => ⟨S_, .i32⟩
  | 20 => ⟨S_, .i32⟩
  | 21 => ⟨S20000, .i1⟩
  | 22 => ⟨S_, .i32⟩
  | 23 => ⟨S_, .i1⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S1, .i1⟩
  | 33 => ⟨S_, .i1⟩
  | 34 => ⟨S_, .i1⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i32⟩
  | 49 => ⟨S1x1, .f32⟩
  | 50 => ⟨S_, .f32⟩
  | 51 => ⟨S20000x1, .f32⟩
  | 52 => ⟨S20000, .f32⟩
  | 53 => ⟨S20000, .f32⟩
  | 54 => ⟨S20000, .f32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S_, .i32⟩
  | 69 => ⟨S1x1, .f32⟩
  | 70 => ⟨S_, .f32⟩
  | 71 => ⟨S20000x1, .f32⟩
  | 72 => ⟨S20000, .f32⟩
  | 73 => ⟨S20000, .f32⟩
  | 74 => ⟨S20000, .f32⟩
  | 75 => ⟨S_, .i32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i32⟩
  | 89 => ⟨S1x1, .f32⟩
  | 90 => ⟨S_, .f32⟩
  | 91 => ⟨S20000x1, .f32⟩
  | 92 => ⟨S20000, .f32⟩
  | 93 => ⟨S20000, .f32⟩
  | 94 => ⟨S20000, .f32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i32⟩
  | 109 => ⟨S1x1, .f32⟩
  | 110 => ⟨S_, .f32⟩
  | 111 => ⟨S20000x1, .f32⟩
  | 112 => ⟨S20000, .f32⟩
  | 113 => ⟨S20000, .f32⟩
  | 114 => ⟨S20000, .f32⟩
  | 115 => ⟨S20000, .f32⟩
  | 116 => ⟨S_, .f32⟩
  | 117 => ⟨S_, .f32⟩
  | 118 => ⟨S20000, .f32⟩
  | 119 => ⟨S20000, .f32⟩
  | 120 => ⟨S20000, .f32⟩
  | 121 => ⟨S_, .f32⟩
  | 122 => ⟨S_, .f32⟩
  | 123 => ⟨S20000, .f32⟩
  | 124 => ⟨S20000, .f32⟩
  | 125 => ⟨S20000, .f32⟩
  | 126 => ⟨S_, .i32⟩
  | 127 => ⟨S_, .i1⟩
  | _ => ⟨S20000x4, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S1, .f32⟩
  | 5 => ⟨S_, .f32⟩
  | 6 => ⟨S20000, .f32⟩
  | 7 => ⟨S20000, .f32⟩
  | 8 => ⟨S20000, .f32⟩
  | 9 => ⟨S_, .f32⟩
  | 10 => ⟨S20000, .f32⟩
  | 11 => ⟨S20000, .f32⟩
  | 12 => ⟨S20000, .f32⟩
  | 13 => ⟨S_, .f32⟩
  | 14 => ⟨S20000, .f32⟩
  | 15 => ⟨S20000, .i1⟩
  | 16 => ⟨S20000, .i1⟩
  | 17 => ⟨S20000, .i1⟩
  | 18 => ⟨S_, .i32⟩
  | 19 => ⟨S20000, .i32⟩
  | 20 => ⟨S20000, .i1⟩
  | 21 => ⟨S20000, .i1⟩
  | 22 => ⟨S20000, .i1⟩
  | 23 => ⟨S_, .i32⟩
  | 24 => ⟨S_, .i32⟩
  | 25 => ⟨S20000, .i1⟩
  | 26 => ⟨S20000, .i32⟩
  | 27 => ⟨S_, .i32⟩
  | 28 => ⟨S_, .i32⟩
  | 29 => ⟨S20000, .i32⟩
  | 30 => ⟨S_, .i32⟩
  | 31 => ⟨S1000, .i32⟩
  | 32 => ⟨S_, .i32⟩
  | 33 => ⟨S20000, .i32⟩
  | 34 => ⟨S20000, .i1⟩
  | 35 => ⟨S_, .i32⟩
  | 36 => ⟨S20000, .i32⟩
  | 37 => ⟨S20000, .i32⟩
  | 38 => ⟨S20000, .i32⟩
  | 39 => ⟨S20000x1, .i32⟩
  | 40 => ⟨S_, .i32⟩
  | 41 => ⟨S20000, .i32⟩
  | 42 => ⟨S1000, .i32⟩
  | 43 => ⟨S_, .i32⟩
  | 44 => ⟨S_, .i32⟩
  | 45 => ⟨S1000, .i32⟩
  | 46 => ⟨S_, .i32⟩
  | 47 => ⟨S_, .i32⟩
  | 48 => ⟨S1000, .i32⟩
  | 49 => ⟨S1000, .i32⟩
  | 50 => ⟨S1000, .i32⟩
  | 51 => ⟨S_, .i32⟩
  | 52 => ⟨S1000, .i32⟩
  | 53 => ⟨S1000, .i1⟩
  | 54 => ⟨S1000, .i32⟩
  | 55 => ⟨S1000, .i32⟩
  | 56 => ⟨S_, .i32⟩
  | 57 => ⟨S1000, .i32⟩
  | 58 => ⟨S1000, .i1⟩
  | 59 => ⟨S1000, .i1⟩
  | 60 => ⟨S_, .i32⟩
  | 61 => ⟨S1000, .i32⟩
  | 62 => ⟨S1000, .i32⟩
  | 63 => ⟨S1000, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S1000, .i32⟩
  | 71 => ⟨S1000, .i32⟩
  | 72 => ⟨S_, .i32⟩
  | 73 => ⟨S1000, .i32⟩
  | 74 => ⟨S1000, .i1⟩
  | 75 => ⟨S_, .i32⟩
  | 76 => ⟨S1000, .i32⟩
  | 77 => ⟨S1000, .i1⟩
  | 78 => ⟨S_, .i32⟩
  | 79 => ⟨S_, .i1⟩
  | 80 => ⟨S1000, .i1⟩
  | 81 => ⟨S1000, .i1⟩
  | 82 => ⟨S1000, .i1⟩
  | 83 => ⟨S1000, .i32⟩
  | 84 => ⟨S1000, .i32⟩
  | 85 => ⟨S1000, .i32⟩
  | 86 => ⟨S20000, .i32⟩
  | 87 => ⟨S_, .i32⟩
  | 88 => ⟨S_, .i32⟩
  | 89 => ⟨S1, .i32⟩
  | 90 => ⟨S1000, .i32⟩
  | 91 => ⟨S1000, .i32⟩
  | 92 => ⟨S1000, .i1⟩
  | 93 => ⟨S_, .i32⟩
  | 94 => ⟨S1, .i32⟩
  | 95 => ⟨S1000, .i32⟩
  | 96 => ⟨S1000, .i32⟩
  | 97 => ⟨S20000, .i32⟩
  | 98 => ⟨S_, .i32⟩
  | 99 => ⟨S_, .i32⟩
  | 100 => ⟨S_, .i32⟩
  | 101 => ⟨S_, .i32⟩
  | 102 => ⟨S1000, .i32⟩
  | 103 => ⟨S1000, .i32⟩
  | 104 => ⟨S1000, .i1⟩
  | 105 => ⟨S1000, .f32⟩
  | 106 => ⟨S_, .i32⟩
  | 107 => ⟨S1000, .i32⟩
  | 108 => ⟨S1000, .i1⟩
  | 109 => ⟨S_, .i32⟩
  | 110 => ⟨S1000, .i32⟩
  | 111 => ⟨S1000, .i32⟩
  | 112 => ⟨S1000, .i32⟩
  | 113 => ⟨S1000x1, .i32⟩
  | 114 => ⟨S1000x4, .f32⟩
  | 115 => ⟨S1000x1, .f32⟩
  | 116 => ⟨S1000x4, .f32⟩
  | 117 => ⟨S1000x4, .f32⟩
  | 118 => ⟨S_, .i32⟩
  | 119 => ⟨S1000, .i32⟩
  | 120 => ⟨S1000, .i1⟩
  | 121 => ⟨S_, .i32⟩
  | 122 => ⟨S1000, .i32⟩
  | 123 => ⟨S1000, .i32⟩
  | 124 => ⟨S1000, .i32⟩
  | 125 => ⟨S1000x1, .i32⟩
  | 126 => ⟨S1000, .f32⟩
  | 127 => ⟨S1000, .f32⟩
  | _ => ⟨S20000x4, .f32⟩

abbrev hbmTy0_3 (i : Nat) : BufTy := match i % 128 with
  | 0 => ⟨S1000x1, .f32⟩
  | 1 => ⟨S1000x5, .f32⟩
  | _ => ⟨S20000x4, .f32⟩

abbrev hbmTy (i : Nat) : BufTy := match i / 128 with
  | 0 => hbmTy0_0 i
  | 1 => hbmTy0_1 i
  | 2 => hbmTy0_2 i
  | 3 => hbmTy0_3 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_4 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_5 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_7 : Ref sig .tc := ⟨.hbm, 68, rfl⟩
abbrev main_cst_8 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_9 : Ref sig .tc := ⟨.hbm, 86, rfl⟩
abbrev main_v68 : Ref sig .tc := ⟨.hbm, 87, rfl⟩
abbrev main_v69 : Ref sig .tc := ⟨.hbm, 88, rfl⟩
abbrev main_cst_10 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_11 : Ref sig .tc := ⟨.hbm, 95, rfl⟩
abbrev main_v75 : Ref sig .tc := ⟨.hbm, 96, rfl⟩
abbrev main_v76 : Ref sig .tc := ⟨.hbm, 97, rfl⟩
abbrev main_cst_12 : Ref sig .tc := ⟨.hbm, 98, rfl⟩
abbrev main_v77 : Ref sig .tc := ⟨.hbm, 99, rfl⟩
abbrev main_v78 : Ref sig .tc := ⟨.hbm, 100, rfl⟩
abbrev main_cst_13 : Ref sig .tc := ⟨.hbm, 101, rfl⟩
abbrev main_call1_v0 : Ref sig .tc := ⟨.hbm, 102, rfl⟩
abbrev main_call1_v1 : Ref sig .tc := ⟨.hbm, 103, rfl⟩
abbrev main_v79 : Ref sig .tc := ⟨.hbm, 104, rfl⟩
abbrev main_v80 : Ref sig .tc := ⟨.hbm, 105, rfl⟩
abbrev main_call2_v0 : Ref sig .tc := ⟨.hbm, 106, rfl⟩
abbrev main_call2_v1_0 : Ref sig .tc := ⟨.hbm, 107, rfl⟩
abbrev main_v81 : Ref sig .tc := ⟨.hbm, 108, rfl⟩
abbrev main_c : Ref sig .tc := ⟨.hbm, 109, rfl⟩
abbrev main_v82 : Ref sig .tc := ⟨.hbm, 110, rfl⟩
abbrev main_v83 : Ref sig .tc := ⟨.hbm, 111, rfl⟩
abbrev main_c_14 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_c_15 : Ref sig .tc := ⟨.hbm, 118, rfl⟩
abbrev main_v89 : Ref sig .tc := ⟨.hbm, 119, rfl⟩
abbrev main_v90 : Ref sig .tc := ⟨.hbm, 120, rfl⟩
abbrev main_c_16 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_17 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_c_18 : Ref sig .tc := ⟨.hbm, 142, rfl⟩
abbrev main_c_19 : Ref sig .tc := ⟨.hbm, 143, rfl⟩
abbrev main_v110_0 : Ref sig .tc := ⟨.hbm, 144, rfl⟩
abbrev main_v110_1 : Ref sig .tc := ⟨.hbm, 145, rfl⟩
abbrev main_v110_2 : Ref sig .tc := ⟨.hbm, 146, rfl⟩
abbrev main_v110_3 : Ref sig .tc := ⟨.hbm, 147, rfl⟩
abbrev main_v110_4 : Ref sig .tc := ⟨.hbm, 148, rfl⟩
abbrev main_v110_5 : Ref sig .tc := ⟨.hbm, 149, rfl⟩
abbrev main_while0c_c_39 : Ref sig .tc := ⟨.hbm, 150, rfl⟩
abbrev main_while0c_v160 : Ref sig .tc := ⟨.hbm, 151, rfl⟩
abbrev main_while0b_c_39 : Ref sig .tc := ⟨.hbm, 152, rfl⟩
abbrev main_while0b_v160 : Ref sig .tc := ⟨.hbm, 153, rfl⟩
abbrev main_while0b_c_40 : Ref sig .tc := ⟨.hbm, 154, rfl⟩
abbrev main_while0b_v161 : Ref sig .tc := ⟨.hbm, 155, rfl⟩
abbrev main_while0b_v162 : Ref sig .tc := ⟨.hbm, 156, rfl⟩
abbrev main_while0b_c_41 : Ref sig .tc := ⟨.hbm, 157, rfl⟩
abbrev main_while0b_v163 : Ref sig .tc := ⟨.hbm, 158, rfl⟩
abbrev main_while0b_v164 : Ref sig .tc := ⟨.hbm, 159, rfl⟩
abbrev main_while0b_v165 : Ref sig .tc := ⟨.hbm, 160, rfl⟩
abbrev main_while0b_v166 : Ref sig .tc := ⟨.hbm, 161, rfl⟩
abbrev main_while0b_v167 : Ref sig .tc := ⟨.hbm, 162, rfl⟩
abbrev main_while0b_v168 : Ref sig .tc := ⟨.hbm, 163, rfl⟩
abbrev main_while0b_c_42 : Ref sig .tc := ⟨.hbm, 164, rfl⟩
abbrev main_while0b_v169 : Ref sig .tc := ⟨.hbm, 165, rfl⟩
abbrev main_while0b_c_43 : Ref sig .tc := ⟨.hbm, 166, rfl⟩
abbrev main_while0b_v170 : Ref sig .tc := ⟨.hbm, 167, rfl⟩
abbrev main_while0b_v171 : Ref sig .tc := ⟨.hbm, 168, rfl⟩
abbrev main_while0b_c_44 : Ref sig .tc := ⟨.hbm, 169, rfl⟩
abbrev main_while0b_c_45 : Ref sig .tc := ⟨.hbm, 170, rfl⟩
abbrev main_while0b_v172 : Ref sig .tc := ⟨.hbm, 171, rfl⟩
abbrev main_while0b_c_46 : Ref sig .tc := ⟨.hbm, 172, rfl⟩
abbrev main_while0b_c_47 : Ref sig .tc := ⟨.hbm, 173, rfl⟩
abbrev main_while0b_v173 : Ref sig .tc := ⟨.hbm, 174, rfl⟩
abbrev main_while0b_c_48 : Ref sig .tc := ⟨.hbm, 175, rfl⟩
abbrev main_while0b_v174 : Ref sig .tc := ⟨.hbm, 176, rfl⟩
abbrev main_while0b_v175 : Ref sig .tc := ⟨.hbm, 177, rfl⟩
abbrev main_while0b_v176 : Ref sig .tc := ⟨.hbm, 178, rfl⟩
abbrev main_while0b_v177 : Ref sig .tc := ⟨.hbm, 179, rfl⟩
abbrev main_while0b_v178 : Ref sig .tc := ⟨.hbm, 180, rfl⟩
abbrev main_while0b_v179 : Ref sig .tc := ⟨.hbm, 181, rfl⟩
abbrev main_while0b_v180 : Ref sig .tc := ⟨.hbm, 182, rfl⟩
abbrev main_while0b_v181 : Ref sig .tc := ⟨.hbm, 183, rfl⟩
abbrev main_while0b_c_49 : Ref sig .tc := ⟨.hbm, 184, rfl⟩
abbrev main_while0b_v182 : Ref sig .tc := ⟨.hbm, 185, rfl⟩
abbrev main_while0b_c_50 : Ref sig .tc := ⟨.hbm, 186, rfl⟩
abbrev main_while0b_v183 : Ref sig .tc := ⟨.hbm, 187, rfl⟩
abbrev main_while0b_v184 : Ref sig .tc := ⟨.hbm, 188, rfl⟩
abbrev main_while0b_c_51 : Ref sig .tc := ⟨.hbm, 189, rfl⟩
abbrev main_while0b_c_52 : Ref sig .tc := ⟨.hbm, 190, rfl⟩
abbrev main_while0b_v185 : Ref sig .tc := ⟨.hbm, 191, rfl⟩
abbrev main_while0b_c_53 : Ref sig .tc := ⟨.hbm, 192, rfl⟩
abbrev main_while0b_c_54 : Ref sig .tc := ⟨.hbm, 193, rfl⟩
abbrev main_while0b_v186 : Ref sig .tc := ⟨.hbm, 194, rfl⟩
abbrev main_while0b_c_55 : Ref sig .tc := ⟨.hbm, 195, rfl⟩
abbrev main_while0b_v187 : Ref sig .tc := ⟨.hbm, 196, rfl⟩
abbrev main_while0b_v188 : Ref sig .tc := ⟨.hbm, 197, rfl⟩
abbrev main_while0b_v189 : Ref sig .tc := ⟨.hbm, 198, rfl⟩
abbrev main_while0b_v190 : Ref sig .tc := ⟨.hbm, 199, rfl⟩
abbrev main_while0b_v191 : Ref sig .tc := ⟨.hbm, 200, rfl⟩
abbrev main_while0b_v192 : Ref sig .tc := ⟨.hbm, 201, rfl⟩
abbrev main_while0b_v193 : Ref sig .tc := ⟨.hbm, 202, rfl⟩
abbrev main_while0b_v194 : Ref sig .tc := ⟨.hbm, 203, rfl⟩
abbrev main_while0b_c_56 : Ref sig .tc := ⟨.hbm, 204, rfl⟩
abbrev main_while0b_v195 : Ref sig .tc := ⟨.hbm, 205, rfl⟩
abbrev main_while0b_c_57 : Ref sig .tc := ⟨.hbm, 206, rfl⟩
abbrev main_while0b_v196 : Ref sig .tc := ⟨.hbm, 207, rfl⟩
abbrev main_while0b_v197 : Ref sig .tc := ⟨.hbm, 208, rfl⟩
abbrev main_while0b_c_58 : Ref sig .tc := ⟨.hbm, 209, rfl⟩
abbrev main_while0b_c_59 : Ref sig .tc := ⟨.hbm, 210, rfl⟩
abbrev main_while0b_v198 : Ref sig .tc := ⟨.hbm, 211, rfl⟩
abbrev main_while0b_c_60 : Ref sig .tc := ⟨.hbm, 212, rfl⟩
abbrev main_while0b_c_61 : Ref sig .tc := ⟨.hbm, 213, rfl⟩
abbrev main_while0b_v199 : Ref sig .tc := ⟨.hbm, 214, rfl⟩
abbrev main_while0b_c_62 : Ref sig .tc := ⟨.hbm, 215, rfl⟩
abbrev main_while0b_v200 : Ref sig .tc := ⟨.hbm, 216, rfl⟩
abbrev main_while0b_v201 : Ref sig .tc := ⟨.hbm, 217, rfl⟩
abbrev main_while0b_v202 : Ref sig .tc := ⟨.hbm, 218, rfl⟩
abbrev main_while0b_v203 : Ref sig .tc := ⟨.hbm, 219, rfl⟩
abbrev main_while0b_v204 : Ref sig .tc := ⟨.hbm, 220, rfl⟩
abbrev main_while0b_v205 : Ref sig .tc := ⟨.hbm, 221, rfl⟩
abbrev main_while0b_v206 : Ref sig .tc := ⟨.hbm, 222, rfl⟩
abbrev main_while0b_v207 : Ref sig .tc := ⟨.hbm, 223, rfl⟩
abbrev main_while0b_c_63 : Ref sig .tc := ⟨.hbm, 224, rfl⟩
abbrev main_while0b_v208 : Ref sig .tc := ⟨.hbm, 225, rfl⟩
abbrev main_while0b_c_64 : Ref sig .tc := ⟨.hbm, 226, rfl⟩
abbrev main_while0b_v209 : Ref sig .tc := ⟨.hbm, 227, rfl⟩
abbrev main_while0b_v210 : Ref sig .tc := ⟨.hbm, 228, rfl⟩
abbrev main_while0b_c_65 : Ref sig .tc := ⟨.hbm, 229, rfl⟩
abbrev main_while0b_c_66 : Ref sig .tc := ⟨.hbm, 230, rfl⟩
abbrev main_while0b_v211 : Ref sig .tc := ⟨.hbm, 231, rfl⟩
abbrev main_while0b_c_67 : Ref sig .tc := ⟨.hbm, 232, rfl⟩
abbrev main_while0b_c_68 : Ref sig .tc := ⟨.hbm, 233, rfl⟩
abbrev main_while0b_v212 : Ref sig .tc := ⟨.hbm, 234, rfl⟩
abbrev main_while0b_c_69 : Ref sig .tc := ⟨.hbm, 235, rfl⟩
abbrev main_while0b_v213 : Ref sig .tc := ⟨.hbm, 236, rfl⟩
abbrev main_while0b_v214 : Ref sig .tc := ⟨.hbm, 237, rfl⟩
abbrev main_while0b_v215 : Ref sig .tc := ⟨.hbm, 238, rfl⟩
abbrev main_while0b_v216 : Ref sig .tc := ⟨.hbm, 239, rfl⟩
abbrev main_while0b_v217 : Ref sig .tc := ⟨.hbm, 240, rfl⟩
abbrev main_while0b_v218 : Ref sig .tc := ⟨.hbm, 241, rfl⟩
abbrev main_while0b_v219 : Ref sig .tc := ⟨.hbm, 242, rfl⟩
abbrev main_while0b_v220 : Ref sig .tc := ⟨.hbm, 243, rfl⟩
abbrev main_while0b_cst_70 : Ref sig .tc := ⟨.hbm, 244, rfl⟩
abbrev main_while0b_call3_v0 : Ref sig .tc := ⟨.hbm, 245, rfl⟩
abbrev main_while0b_call3_v1 : Ref sig .tc := ⟨.hbm, 246, rfl⟩
abbrev main_while0b_v221 : Ref sig .tc := ⟨.hbm, 247, rfl⟩
abbrev main_while0b_v222 : Ref sig .tc := ⟨.hbm, 248, rfl⟩
abbrev main_while0b_cst_71 : Ref sig .tc := ⟨.hbm, 249, rfl⟩
abbrev main_while0b_call4_v0 : Ref sig .tc := ⟨.hbm, 250, rfl⟩
abbrev main_while0b_call4_v1 : Ref sig .tc := ⟨.hbm, 251, rfl⟩
abbrev main_while0b_v223 : Ref sig .tc := ⟨.hbm, 252, rfl⟩
abbrev main_while0b_v224 : Ref sig .tc := ⟨.hbm, 253, rfl⟩
abbrev main_while0b_c_72 : Ref sig .tc := ⟨.hbm, 254, rfl⟩
abbrev main_while0b_v225 : Ref sig .tc := ⟨.hbm, 255, rfl⟩
abbrev main_while0b_v226 : Ref sig .tc := ⟨.hbm, 256, rfl⟩
abbrev main_while0b_c_73 : Ref sig .tc := ⟨.hbm, 257, rfl⟩
abbrev main_while0b_v227 : Ref sig .tc := ⟨.hbm, 258, rfl⟩
abbrev main_while0b_v228 : Ref sig .tc := ⟨.hbm, 259, rfl⟩
abbrev main_while0b_v229 : Ref sig .tc := ⟨.hbm, 260, rfl⟩
abbrev main_while0b_v230 : Ref sig .tc := ⟨.hbm, 261, rfl⟩
abbrev main_while0b_v231 : Ref sig .tc := ⟨.hbm, 262, rfl⟩
abbrev main_while0b_v232 : Ref sig .tc := ⟨.hbm, 263, rfl⟩
abbrev main_while0b_v233 : Ref sig .tc := ⟨.hbm, 264, rfl⟩
abbrev main_while0b_cst_74 : Ref sig .tc := ⟨.hbm, 265, rfl⟩
abbrev main_while0b_v234 : Ref sig .tc := ⟨.hbm, 266, rfl⟩
abbrev main_while0b_v235 : Ref sig .tc := ⟨.hbm, 267, rfl⟩
abbrev main_while0b_v236 : Ref sig .tc := ⟨.hbm, 268, rfl⟩
abbrev main_while0b_cst_75 : Ref sig .tc := ⟨.hbm, 269, rfl⟩
abbrev main_while0b_v237 : Ref sig .tc := ⟨.hbm, 270, rfl⟩
abbrev main_while0b_v238 : Ref sig .tc := ⟨.hbm, 271, rfl⟩
abbrev main_while0b_v239 : Ref sig .tc := ⟨.hbm, 272, rfl⟩
abbrev main_while0b_v240 : Ref sig .tc := ⟨.hbm, 273, rfl⟩
abbrev main_while0b_v241 : Ref sig .tc := ⟨.hbm, 274, rfl⟩
abbrev main_while0b_v242 : Ref sig .tc := ⟨.hbm, 275, rfl⟩
abbrev main_while0b_v243 : Ref sig .tc := ⟨.hbm, 276, rfl⟩
abbrev main_while0b_v244 : Ref sig .tc := ⟨.hbm, 277, rfl⟩
abbrev main_while0b_v245 : Ref sig .tc := ⟨.hbm, 278, rfl⟩
abbrev main_while0b_c_76 : Ref sig .tc := ⟨.hbm, 279, rfl⟩
abbrev main_while0b_v246 : Ref sig .tc := ⟨.hbm, 280, rfl⟩
abbrev main_v111 : Ref sig .tc := ⟨.hbm, 281, rfl⟩
abbrev main_call5_v0 : Ref sig .tc := ⟨.hbm, 282, rfl⟩
abbrev main_call5_call0_c : Ref sig .tc := ⟨.hbm, 283, rfl⟩
abbrev main_call5_call0_v0 : Ref sig .tc := ⟨.hbm, 284, rfl⟩
abbrev main_v112 : Ref sig .tc := ⟨.hbm, 285, rfl⟩
abbrev main_c_20 : Ref sig .tc := ⟨.hbm, 286, rfl⟩
abbrev main_v113 : Ref sig .tc := ⟨.hbm, 287, rfl⟩
abbrev main_c_21 : Ref sig .tc := ⟨.hbm, 288, rfl⟩
abbrev main_v114 : Ref sig .tc := ⟨.hbm, 289, rfl⟩
abbrev main_v115 : Ref sig .tc := ⟨.hbm, 290, rfl⟩
abbrev main_c_22 : Ref sig .tc := ⟨.hbm, 291, rfl⟩
abbrev main_v116 : Ref sig .tc := ⟨.hbm, 292, rfl⟩
abbrev main_v117 : Ref sig .tc := ⟨.hbm, 293, rfl⟩
abbrev main_v118 : Ref sig .tc := ⟨.hbm, 294, rfl⟩
abbrev main_v119 : Ref sig .tc := ⟨.hbm, 295, rfl⟩
abbrev main_c_23 : Ref sig .tc := ⟨.hbm, 296, rfl⟩
abbrev main_v120 : Ref sig .tc := ⟨.hbm, 297, rfl⟩
abbrev main_v121 : Ref sig .tc := ⟨.hbm, 298, rfl⟩
abbrev main_call6_call0_c : Ref sig .tc := ⟨.hbm, 299, rfl⟩
abbrev main_call6_call0_v0 : Ref sig .tc := ⟨.hbm, 300, rfl⟩
abbrev main_v122 : Ref sig .tc := ⟨.hbm, 301, rfl⟩
abbrev main_c_24 : Ref sig .tc := ⟨.hbm, 302, rfl⟩
abbrev main_call7_v0 : Ref sig .tc := ⟨.hbm, 303, rfl⟩
abbrev main_call7_v1 : Ref sig .tc := ⟨.hbm, 304, rfl⟩
abbrev main_call7_v2 : Ref sig .tc := ⟨.hbm, 305, rfl⟩
abbrev main_call7_v3 : Ref sig .tc := ⟨.hbm, 306, rfl⟩
abbrev main_call7_v4 : Ref sig .tc := ⟨.hbm, 307, rfl⟩
abbrev main_call7_v5 : Ref sig .tc := ⟨.hbm, 308, rfl⟩
abbrev main_call7_v6 : Ref sig .tc := ⟨.hbm, 309, rfl⟩
abbrev main_call7_v7 : Ref sig .tc := ⟨.hbm, 310, rfl⟩
abbrev main_call7_v8 : Ref sig .tc := ⟨.hbm, 311, rfl⟩
abbrev main_call7_c : Ref sig .tc := ⟨.hbm, 312, rfl⟩
abbrev main_call7_v9 : Ref sig .tc := ⟨.hbm, 313, rfl⟩
abbrev main_call7_v10 : Ref sig .tc := ⟨.hbm, 314, rfl⟩
abbrev main_call7_v11 : Ref sig .tc := ⟨.hbm, 315, rfl⟩
abbrev main_call7_c_0 : Ref sig .tc := ⟨.hbm, 316, rfl⟩
abbrev main_call7_v12 : Ref sig .tc := ⟨.hbm, 317, rfl⟩
abbrev main_call7_v13 : Ref sig .tc := ⟨.hbm, 318, rfl⟩
abbrev main_v123 : Ref sig .tc := ⟨.hbm, 319, rfl⟩
abbrev main_c_25 : Ref sig .tc := ⟨.hbm, 320, rfl⟩
abbrev main_call8_v0 : Ref sig .tc := ⟨.hbm, 321, rfl⟩
abbrev main_call8_c : Ref sig .tc := ⟨.hbm, 322, rfl⟩
abbrev main_call8_v1 : Ref sig .tc := ⟨.hbm, 323, rfl⟩
abbrev main_call8_c_0 : Ref sig .tc := ⟨.hbm, 324, rfl⟩
abbrev main_call8_v2 : Ref sig .tc := ⟨.hbm, 325, rfl⟩
abbrev main_call8_v3 : Ref sig .tc := ⟨.hbm, 326, rfl⟩
abbrev main_call8_v4 : Ref sig .tc := ⟨.hbm, 327, rfl⟩
abbrev main_call8_c_1 : Ref sig .tc := ⟨.hbm, 328, rfl⟩
abbrev main_call8_v5 : Ref sig .tc := ⟨.hbm, 329, rfl⟩
abbrev main_call8_v6 : Ref sig .tc := ⟨.hbm, 330, rfl⟩
abbrev main_call8_c_2 : Ref sig .tc := ⟨.hbm, 331, rfl⟩
abbrev main_call8_v7 : Ref sig .tc := ⟨.hbm, 332, rfl⟩
abbrev main_call8_v8 : Ref sig .tc := ⟨.hbm, 333, rfl⟩
abbrev main_call8_c_3 : Ref sig .tc := ⟨.hbm, 334, rfl⟩
abbrev main_call8_v9 : Ref sig .tc := ⟨.hbm, 335, rfl⟩
abbrev main_call8_v10 : Ref sig .tc := ⟨.hbm, 336, rfl⟩
abbrev main_call8_v11 : Ref sig .tc := ⟨.hbm, 337, rfl⟩
abbrev main_call8_v12 : Ref sig .tc := ⟨.hbm, 338, rfl⟩
abbrev main_call8_v13 : Ref sig .tc := ⟨.hbm, 339, rfl⟩
abbrev main_call8_v14 : Ref sig .tc := ⟨.hbm, 340, rfl⟩
abbrev main_v124 : Ref sig .tc := ⟨.hbm, 341, rfl⟩
abbrev main_v125 : Ref sig .tc := ⟨.hbm, 342, rfl⟩
abbrev main_c_26 : Ref sig .tc := ⟨.hbm, 343, rfl⟩
abbrev main_v126 : Ref sig .tc := ⟨.hbm, 344, rfl⟩
abbrev main_v127 : Ref sig .tc := ⟨.hbm, 345, rfl⟩
abbrev main_v128 : Ref sig .tc := ⟨.hbm, 346, rfl⟩
abbrev main_v129 : Ref sig .tc := ⟨.hbm, 347, rfl⟩
abbrev main_v130 : Ref sig .tc := ⟨.hbm, 348, rfl⟩
abbrev main_c_27 : Ref sig .tc := ⟨.hbm, 349, rfl⟩
abbrev main_v131 : Ref sig .tc := ⟨.hbm, 350, rfl⟩
abbrev main_call9_v0 : Ref sig .tc := ⟨.hbm, 351, rfl⟩
abbrev main_v132 : Ref sig .tc := ⟨.hbm, 352, rfl⟩
abbrev main_v133 : Ref sig .tc := ⟨.hbm, 353, rfl⟩
abbrev main_c_28 : Ref sig .tc := ⟨.hbm, 354, rfl⟩
abbrev main_v134 : Ref sig .tc := ⟨.hbm, 355, rfl⟩
abbrev main_c_29 : Ref sig .tc := ⟨.hbm, 356, rfl⟩
abbrev main_v135 : Ref sig .tc := ⟨.hbm, 357, rfl⟩
abbrev main_v136 : Ref sig .tc := ⟨.hbm, 358, rfl⟩
abbrev main_v137 : Ref sig .tc := ⟨.hbm, 359, rfl⟩
abbrev main_v138 : Ref sig .tc := ⟨.hbm, 360, rfl⟩
abbrev main_v139 : Ref sig .tc := ⟨.hbm, 361, rfl⟩
abbrev main_c_30 : Ref sig .tc := ⟨.hbm, 362, rfl⟩
abbrev main_v140 : Ref sig .tc := ⟨.hbm, 363, rfl⟩
abbrev main_v141 : Ref sig .tc := ⟨.hbm, 364, rfl⟩
abbrev main_c_31 : Ref sig .tc := ⟨.hbm, 365, rfl⟩
abbrev main_v142 : Ref sig .tc := ⟨.hbm, 366, rfl⟩
abbrev main_v143 : Ref sig .tc := ⟨.hbm, 367, rfl⟩
abbrev main_v144 : Ref sig .tc := ⟨.hbm, 368, rfl⟩
abbrev main_v145 : Ref sig .tc := ⟨.hbm, 369, rfl⟩
abbrev main_v146 : Ref sig .tc := ⟨.hbm, 370, rfl⟩
abbrev main_v147 : Ref sig .tc := ⟨.hbm, 371, rfl⟩
abbrev main_v148 : Ref sig .tc := ⟨.hbm, 372, rfl⟩
abbrev main_v149 : Ref sig .tc := ⟨.hbm, 373, rfl⟩
abbrev main_c_32 : Ref sig .tc := ⟨.hbm, 374, rfl⟩
abbrev main_v150 : Ref sig .tc := ⟨.hbm, 375, rfl⟩
abbrev main_v151 : Ref sig .tc := ⟨.hbm, 376, rfl⟩
abbrev main_c_33 : Ref sig .tc := ⟨.hbm, 377, rfl⟩
abbrev main_v152 : Ref sig .tc := ⟨.hbm, 378, rfl⟩
abbrev main_v153 : Ref sig .tc := ⟨.hbm, 379, rfl⟩
abbrev main_v154 : Ref sig .tc := ⟨.hbm, 380, rfl⟩
abbrev main_v155 : Ref sig .tc := ⟨.hbm, 381, rfl⟩
abbrev main_v156 : Ref sig .tc := ⟨.hbm, 382, rfl⟩
abbrev main_v157 : Ref sig .tc := ⟨.hbm, 383, rfl⟩
abbrev main_v158 : Ref sig .tc := ⟨.hbm, 384, rfl⟩
abbrev main_v159 : Ref sig .tc := ⟨.hbm, 385, rfl⟩

abbrev nD : Nat := 1
abbrev τ : Topo := Topo.v7x

variable {F : FTy → Type} [FloatOps F]

abbrev main_while0_count : Scf.Loop 32 := ⟨0#32, 20000#32, 1#32⟩
-- ==== Proof.KI.Blk.lean ====
/- One pass of the suppression loop as a pure function. The loop looks at eight candidate rows in
   one trip; `step` says what one candidate does to the sixteen registers of state, and each group
   of operations of the trip is shown to compute the values `step` names. -/
module

public import proofs.«01_k».proof.Proof.Gen.KernelIdeal.Skeleton

@[expose] public section

set_option maxRecDepth 16384

noncomputable section

namespace Cert.KernelIdeal.Hand

open Idealize.ShloMosaic Idealize.SL.Sem
open Cert.KernelIdeal Cert.KernelIdeal.Gen

variable {F : FTy → Type} [FloatOps F]

/-- A candidate row: the four corners of its box and its score. -/
structure Cand (F : FTy → Type) where
  x1 : F .f32
  y1 : F .f32
  x2 : F .f32
  y2 : F .f32
  sc : F .f32

/-- The registers of the loop inside a trip: the next free slot as a one-hot plane, the live mask,
   the five planes of kept rows, the plane of kept areas, the rows kept and the stop flag. -/
structure Bs (F : FTy → Type) where
  pos : FVec F S8x128 .f32
  lt : FVec F S8x128 .f32
  kx1 : FVec F S8x128 .f32
  ky1 : FVec F S8x128 .f32
  kx2 : FVec F S8x128 .f32
  ky2 : FVec F S8x128 .f32
  ks : FVec F S8x128 .f32
  ka : FVec F S8x128 .f32
  nk : BitVec 32
  bad : BitVec 1

/-- One entry of the eight rows loaded. -/
def pick (v : FVec F S8x8 .f32) (o : Fin 2 → ℕ) (h : S8x8.Slices o S1x1) : F .f32 :=
  extractAt ![0, 0] (extractStridedSlice S1x1 o v h) inpos_S1x1_p0_0

/-- The candidate's score is negative: an invalid box. -/
def inval (r : Cand F) : BitVec 1 := Scalar.cmpf .olt r.sc (Scalar.ofBits .f32 0x00000000#32)

/-- The candidate's area. -/
def carea (r : Cand F) : F .f32 := Scalar.mulf (Scalar.subf r.x2 r.x1) (Scalar.subf r.y2 r.y1)

/-- The zero plane. -/
def zeroV : FVec F S8x128 .f32 := broadcast S8x128 (Scalar.ofBits .f32 0x00000000#32)

/-- The left edges of the overlaps. -/
def ix1 (s : Bs F) (r : Cand F) : FVec F S8x128 .f32 := maximumf s.kx1 (broadcast S8x128 r.x1)
/-- The top edges of the overlaps. -/
def iy1 (s : Bs F) (r : Cand F) : FVec F S8x128 .f32 := maximumf s.ky1 (broadcast S8x128 r.y1)
/-- The overlaps' width before it is cut at zero. -/
def iw0 (s : Bs F) (r : Cand F) : FVec F S8x128 .f32 := subf (minimumf s.kx2 (broadcast S8x128 r.x2)) (ix1 s r)
/-- The overlaps' height before it is cut at zero. -/
def ih0 (s : Bs F) (r : Cand F) : FVec F S8x128 .f32 := subf (minimumf s.ky2 (broadcast S8x128 r.y2)) (iy1 s r)
/-- The overlaps' width. -/
def iw (s : Bs F) (r : Cand F) : FVec F S8x128 .f32 := maximumf (iw0 s r) zeroV
/-- The area of the overlap of the candidate with each slot. -/
def inter (s : Bs F) (r : Cand F) : FVec F S8x128 .f32 := mulf (iw s r) (maximumf (ih0 s r) zeroV)
/-- The area of the union of the candidate with each slot. -/
def union (s : Bs F) (r : Cand F) : FVec F S8x128 .f32 := subf (addf s.ka (broadcast S8x128 (carea r))) (inter s r)
/-- The small constant added to the union. -/
def epsV : FVec F S8x128 .f32 := broadcast S8x128 (Scalar.ofBits .f32 0x3089705F#32)
/-- The slots whose overlap ratio passes one half. -/
def over (s : Bs F) (r : Cand F) : IVec S8x128 1 :=
  cmpf .ogt (divf (inter s r) (addf (union s r) epsV))
    (broadcast S8x128 (Scalar.ofBits (F := F) .f32 0x3F000000#32))
/-- The live slots. -/
def live (s : Bs F) : IVec S8x128 1 := cmpf .ogt s.lt zeroV
/-- The largest of one (a live slot overlaps) and zero, as the kernel reduces it. -/
def hit (s : Bs F) (r : Cand F) : FVec F S1x1x1 .f32 :=
  shapeCast S1x1x1 (multiReduction .maximumf [1, 2] S1
    (shapeCast S1x8x128 (select (andi (over s r) (live s))
      (broadcast S8x128 (Scalar.ofBits (F := F) .f32 0x3F800000#32)) zeroV)
      shapeCasts_S8x128_S1x8x128)
    0xFF800000#32 reduces_S1x8x128_S1 (.inl rfl) rfl) shapeCasts_S1_S1x1x1
/-- The candidate is suppressed by a kept row. -/
def sup (s : Bs F) (r : Cand F) : BitVec 1 :=
  Scalar.cmpf .ogt (extractAt ![0, 0, 0] (hit s r) inpos_S1x1x1_p0_0_0)
    (Scalar.ofBits .f32 0x00000000#32)
/-- The candidate is kept. -/
def kb (s : Bs F) (r : Cand F) : BitVec 1 :=
  Scalar.andi (Scalar.xori (inval r) 1#1) (Scalar.xori (sup s r) 1#1)
/-- The slot written, if any. -/
def at' (s : Bs F) (r : Cand F) : IVec S8x128 1 :=
  andi (cmpf .ogt s.pos zeroV) (broadcast S8x128 (kb s r))
/-- The plane with each row moved by one lane. -/
def roll1 (p : FVec F S8x128 .f32) : FVec F S8x128 .f32 :=
  concatenate S8x128 1 [⟨S8x1, extractStridedSlice S8x1 ![0, 127] p slices_S8x128_o0_127_S8x1⟩,
    ⟨S8x127, extractStridedSlice S8x127 ![0, 0] p slices_S8x128_o0_0_S8x127⟩]
    concatenates_S8x1_S8x127_S8x128_d1
/-- The plane with its rows moved by one. -/
def roll0 (p : FVec F S8x128 .f32) : FVec F S8x128 .f32 :=
  concatenate S8x128 0 [⟨S1x128, extractStridedSlice S1x128 ![7, 0] p slices_S8x128_o7_0_S1x128⟩,
    ⟨S7x128, extractStridedSlice S7x128 ![0, 0] p slices_S8x128_o0_0_S7x128⟩]
    concatenates_S1x128_S7x128_S8x128_d0
/-- The one-hot plane moved on by one slot (`lane0` marks the first lane). -/
def nextPos (lane0 : IVec S8x128 1) (p : FVec F S8x128 .f32) : FVec F S8x128 .f32 := select lane0 (roll0 (roll1 p)) (roll1 p)
/-- Write a value to the slot. -/
def put (s : Bs F) (r : Cand F) (x : F .f32) (k : FVec F S8x128 .f32) : FVec F S8x128 .f32 :=
  select (at' s r) (broadcast S8x128 x) k

/-- What one candidate does to the state. -/
def step (lane0 : IVec S8x128 1) (s : Bs F) (r : Cand F) : Bs F where
  pos := Scalar.select (kb s r) (nextPos lane0 s.pos) s.pos
  lt := put s r (Scalar.ofBits .f32 0x3F800000#32) s.lt
  kx1 := put s r r.x1 s.kx1
  ky1 := put s r r.y1 s.ky1
  kx2 := put s r r.x2 s.kx2
  ky2 := put s r r.y2 s.ky2
  ks := put s r r.sc s.ks
  ka := put s r (carea r) s.ka
  nk := Scalar.addi s.nk (Scalar.extui (kb s r))
  bad := Scalar.ori s.bad (inval r)

/-- Row 0 of the eight rows loaded. -/
def cand0 (v : FVec F S8x8 .f32) : Cand F :=
  ⟨pick v ![0, 0] slices_S8x8_o0_0_S1x1,
   pick v ![0, 1] slices_S8x8_o0_1_S1x1,
   pick v ![0, 2] slices_S8x8_o0_2_S1x1,
   pick v ![0, 3] slices_S8x8_o0_3_S1x1,
   pick v ![0, 4] slices_S8x8_o0_4_S1x1⟩

/-- Row 1 of the eight rows loaded. -/
def cand1 (v : FVec F S8x8 .f32) : Cand F :=
  ⟨pick v ![1, 0] slices_S8x8_o1_0_S1x1,
   pick v ![1, 1] slices_S8x8_o1_1_S1x1,
   pick v ![1, 2] slices_S8x8_o1_2_S1x1,
   pick v ![1, 3] slices_S8x8_o1_3_S1x1,
   pick v ![1, 4] slices_S8x8_o1_4_S1x1⟩

/-- Row 2 of the eight rows loaded. -/
def cand2 (v : FVec F S8x8 .f32) : Cand F :=
  ⟨pick v ![2, 0] slices_S8x8_o2_0_S1x1,
   pick v ![2, 1] slices_S8x8_o2_1_S1x1,
   pick v ![2, 2] slices_S8x8_o2_2_S1x1,
   pick v ![2, 3] slices_S8x8_o2_3_S1x1,
   pick v ![2, 4] slices_S8x8_o2_4_S1x1⟩

/-- Row 3 of the eight rows loaded. -/
def cand3 (v : FVec F S8x8 .f32) : Cand F :=
  ⟨pick v ![3, 0] slices_S8x8_o3_0_S1x1,
   pick v ![3, 1] slices_S8x8_o3_1_S1x1,
   pick v ![3, 2] slices_S8x8_o3_2_S1x1,
   pick v ![3, 3] slices_S8x8_o3_3_S1x1,
   pick v ![3, 4] slices_S8x8_o3_4_S1x1⟩

/-- Row 4 of the eight rows loaded. -/
def cand4 (v : FVec F S8x8 .f32) : Cand F :=
  ⟨pick v ![4, 0] slices_S8x8_o4_0_S1x1,
   pick v ![4, 1] slices_S8x8_o4_1_S1x1,
   pick v ![4, 2] slices_S8x8_o4_2_S1x1,
   pick v ![4, 3] slices_S8x8_o4_3_S1x1,
   pick v ![4, 4] slices_S8x8_o4_4_S1x1⟩

/-- Row 5 of the eight rows loaded. -/
def cand5 (v : FVec F S8x8 .f32) : Cand F :=
  ⟨pick v ![5, 0] slices_S8x8_o5_0_S1x1,
   pick v ![5, 1] slices_S8x8_o5_1_S1x1,
   pick v ![5, 2] slices_S8x8_o5_2_S1x1,
   pick v ![5, 3] slices_S8x8_o5_3_S1x1,
   pick v ![5, 4] slices_S8x8_o5_4_S1x1⟩

/-- Row 6 of the eight rows loaded. -/
def cand6 (v : FVec F S8x8 .f32) : Cand F :=
  ⟨pick v ![6, 0] slices_S8x8_o6_0_S1x1,
   pick v ![6, 1] slices_S8x8_o6_1_S1x1,
   pick v ![6, 2] slices_S8x8_o6_2_S1x1,
   pick v ![6, 3] slices_S8x8_o6_3_S1x1,
   pick v ![6, 4] slices_S8x8_o6_4_S1x1⟩

/-- Row 7 of the eight rows loaded. -/
def cand7 (v : FVec F S8x8 .f32) : Cand F :=
  ⟨pick v ![7, 0] slices_S8x8_o7_0_S1x1,
   pick v ![7, 1] slices_S8x8_o7_1_S1x1,
   pick v ![7, 2] slices_S8x8_o7_2_S1x1,
   pick v ![7, 3] slices_S8x8_o7_3_S1x1,
   pick v ![7, 4] slices_S8x8_o7_4_S1x1⟩

/-- The eight rows, as the kernel reads them from the load. -/
def rows (v : Vec F S8x8 .f32) : FVec F S8x8 .f32 := shapeCast S8x8 v shapeCasts_S8x8_S8x8

variable (arg0 : Memref sig .tc .vmem S20000x8 .f32) (harg0 : arg0.IsWhole)
  (v2 : IVec S8x128 1) (a6 a7 a8 : BitVec 32) (a9 a10 a11 a12 a13 a14 a15 a16 : FVec F S8x128 .f32)

/-- The operations up to the first reduction: the load, then pure values. -/
theorem part1_eq :
    k1_part1 arg0 harg0 v2 a6 a7 a8 a9 a10 a11 a12 a13 a14 a15 a16 = (do
      let hw : k1_chk1 a6 := (← Prog.lift (TpuEff.assume (k1_chk1 a6) (k1_chk1.dec a6))).down
      let w : Vec F S8x8 .f32 ← Prog.lift (.load arg0 (Rect.unit (s := S20000x8) (k1_off1 a6)
        S8x8.size (k1_off1_inb a6 hw)).toLoadRect (View.loadsAt_vmem h_S8x8))
      pure ⟨rows w, (cand0 (rows w)).x1, (cand0 (rows w)).y1, (cand0 (rows w)).x2,
        (cand0 (rows w)).y2, (cand0 (rows w)).sc, inval (cand0 (rows w)), carea (cand0 (rows w)),
        hit (Bs.mk a9 a10 a11 a12 a13 a14 a15 a16 0#32 0#1) (cand0 (rows w))⟩) := rfl

theorem part2_eq (v : FVec F S8x8 .f32) :
    k1_part2 arg0 harg0 v2 a6 a7 a8 a9 a10 a11 a12 a13 a14 a15 a16 (v) ((cand0 v).x1) ((cand0 v).y1) ((cand0 v).x2) ((cand0 v).y2) ((cand0 v).sc) (inval (cand0 v)) (carea (cand0 v)) (hit (Bs.mk a9 a10 a11 a12 a13 a14 a15 a16 0#32 0#1) (cand0 v)) =
      pure ⟨(step v2 (Bs.mk a9 a10 a11 a12 a13 a14 a15 a16 0#32 0#1) (cand0 v)).kx1,
      (step v2 (Bs.mk a9 a10 a11 a12 a13 a14 a15 a16 0#32 0#1) (cand0 v)).ky1,
      (step v2 (Bs.mk a9 a10 a11 a12 a13 a14 a15 a16 0#32 0#1) (cand0 v)).kx2,
      (step v2 (Bs.mk a9 a10 a11 a12 a13 a14 a15 a16 0#32 0#1) (cand0 v)).ky2,
      (step v2 (Bs.mk a9 a10 a11 a12 a13 a14 a15 a16 0#32 0#1) (cand0 v)).ks,
      (step v2 (Bs.mk a9 a10 a11 a12 a13 a14 a15 a16 0#32 0#1) (cand0 v)).ka,
      (step v2 (Bs.mk a9 a10 a11 a12 a13 a14 a15 a16 0#32 0#1) (cand0 v)).lt,
      (step v2 (Bs.mk a9 a10 a11 a12 a13 a14 a15 a16 0#32 0#1) (cand0 v)).pos,
      (step v2 (Bs.mk a9 a10 a11 a12 a13 a14 a15 a16 0#32 0#1) (cand0 v)).nk,
      (step v2 (Bs.mk a9 a10 a11 a12 a13 a14 a15 a16 0#32 0#1) (cand0 v)).bad,
      (cand1 v).x1,
      (cand1 v).y1,
      (cand1 v).x2,
      (cand1 v).y2,
      (cand1 v).sc,
      inval (cand1 v),
      carea (cand1 v),
      ix1 (step v2 (Bs.mk a9 a10 a11 a12 a13 a14 a15 a16 0#32 0#1) (cand0 v)) (cand1 v),
      iy1 (step v2 (Bs.mk a9 a10 a11 a12 a13 a14 a15 a16 0#32 0#1) (cand0 v)) (cand1 v)⟩ := rfl

theorem part3_eq (s : Bs F) (v : FVec F S8x8 .f32) :
    k1_part3 arg0 harg0 v2 a6 a7 a8 a9 a10 a11 a12 a13 a14 a15 a16 (s.kx1) (s.ky1) (s.kx2) (s.ky2) (s.ks) (s.ka) (s.lt) (s.pos) ((cand1 v).x1) ((cand1 v).y1) ((cand1 v).x2) ((cand1 v).y2) ((cand1 v).sc) (inval (cand1 v)) (carea (cand1 v)) (ix1 s (cand1 v)) (iy1 s (cand1 v)) =
      pure ⟨kb s (cand1 v),
      at' s (cand1 v),
      (step v2 s (cand1 v)).kx1,
      (step v2 s (cand1 v)).ky1,
      (step v2 s (cand1 v)).kx2,
      (step v2 s (cand1 v)).ky2,
      (step v2 s (cand1 v)).ks,
      broadcast S8x128 (carea (cand1 v))⟩ := rfl

theorem part4_eq (s : Bs F) (v : FVec F S8x8 .f32) :
    k1_part4 arg0 harg0 v2 a6 a7 a8 a9 a10 a11 a12 a13 a14 a15 a16 (v) (s.ka) (s.lt) (s.pos) (s.nk) (s.bad) (inval (cand1 v)) (kb s (cand1 v)) (at' s (cand1 v)) ((step v2 s (cand1 v)).kx1) ((step v2 s (cand1 v)).ky1) ((step v2 s (cand1 v)).kx2) ((step v2 s (cand1 v)).ky2) (broadcast S8x128 (carea (cand1 v))) =
      pure ⟨(step v2 s (cand1 v)).ka,
      (step v2 s (cand1 v)).lt,
      (step v2 s (cand1 v)).pos,
      (step v2 s (cand1 v)).nk,
      (step v2 s (cand1 v)).bad,
      (cand2 v).x1,
      (cand2 v).y1,
      (cand2 v).x2,
      (cand2 v).y2,
      (cand2 v).sc,
      inval (cand2 v),
      carea (cand2 v),
      over (step v2 s (cand1 v)) (cand2 v),
      live (step v2 s (cand1 v))⟩ := rfl

theorem part5_eq (s : Bs F) (v : FVec F S8x8 .f32) :
    k1_part5 arg0 harg0 v2 a6 a7 a8 a9 a10 a11 a12 a13 a14 a15 a16 (v) (s.kx1) (s.ky1) (s.kx2) (s.ky2) (s.ks) (s.ka) (s.lt) (s.pos) (s.nk) (s.bad) ((cand2 v).x1) ((cand2 v).y1) ((cand2 v).x2) ((cand2 v).y2) ((cand2 v).sc) (inval (cand2 v)) (carea (cand2 v)) (over s (cand2 v)) (live s) =
      pure ⟨(step v2 s (cand2 v)).kx1,
      (step v2 s (cand2 v)).ky1,
      (step v2 s (cand2 v)).kx2,
      (step v2 s (cand2 v)).ky2,
      (step v2 s (cand2 v)).ks,
      (step v2 s (cand2 v)).ka,
      (step v2 s (cand2 v)).lt,
      (step v2 s (cand2 v)).pos,
      (step v2 s (cand2 v)).nk,
      (step v2 s (cand2 v)).bad,
      (cand3 v).x1,
      (cand3 v).y1,
      (cand3 v).x2,
      (cand3 v).y2,
      (cand3 v).sc,
      (Scalar.ofBits .f32 0x00000000#32 : F .f32)⟩ := rfl

theorem part6_eq (s : Bs F) (v : FVec F S8x8 .f32) :
    k1_part6 arg0 harg0 v2 a6 a7 a8 a9 a10 a11 a12 a13 a14 a15 a16 (s.kx1) (s.ky1) (s.kx2) (s.ky2) (s.ka) (s.lt) (s.pos) ((cand3 v).x1) ((cand3 v).y1) ((cand3 v).x2) ((cand3 v).y2) ((cand3 v).sc) ((Scalar.ofBits .f32 0x00000000#32 : F .f32)) =
      pure ⟨inval (cand3 v),
      carea (cand3 v),
      kb s (cand3 v),
      at' s (cand3 v),
      (step v2 s (cand3 v)).kx1,
      broadcast S8x128 (cand3 v).y1⟩ := rfl

theorem part7_eq (s : Bs F) (v : FVec F S8x8 .f32) :
    k1_part7 arg0 harg0 v2 a6 a7 a8 a9 a10 a11 a12 a13 a14 a15 a16 (v) (s.ky1) (s.kx2) (s.ky2) (s.ks) (s.ka) (s.lt) (s.pos) (s.nk) (s.bad) ((cand3 v).x2) ((cand3 v).y2) ((cand3 v).sc) (inval (cand3 v)) (carea (cand3 v)) (kb s (cand3 v)) (at' s (cand3 v)) ((step v2 s (cand3 v)).kx1) (broadcast S8x128 (cand3 v).y1) =
      pure ⟨(step v2 s (cand3 v)).ky1,
      (step v2 s (cand3 v)).kx2,
      (step v2 s (cand3 v)).ky2,
      (step v2 s (cand3 v)).ks,
      (step v2 s (cand3 v)).ka,
      (step v2 s (cand3 v)).lt,
      (step v2 s (cand3 v)).pos,
      (step v2 s (cand3 v)).nk,
      (step v2 s (cand3 v)).bad,
      (cand4 v).x1,
      (cand4 v).y1,
      (cand4 v).x2,
      (cand4 v).y2,
      (cand4 v).sc,
      inval (cand4 v),
      carea (cand4 v),
      inter (step v2 s (cand3 v)) (cand4 v),
      union (step v2 s (cand3 v)) (cand4 v),
      epsV⟩ := rfl

theorem part8_eq (s : Bs F) (v : FVec F S8x8 .f32) :
    k1_part8 arg0 harg0 v2 a6 a7 a8 a9 a10 a11 a12 a13 a14 a15 a16 (v) (s.kx1) (s.ky1) (s.kx2) (s.ky2) (s.ks) (s.ka) (s.lt) (s.pos) (s.nk) (s.bad) ((cand4 v).x1) ((cand4 v).y1) ((cand4 v).x2) ((cand4 v).y2) ((cand4 v).sc) (inval (cand4 v)) (carea (cand4 v)) (inter s (cand4 v)) (union s (cand4 v)) (epsV) =
      pure ⟨(step v2 s (cand4 v)).kx1,
      (step v2 s (cand4 v)).ky1,
      (step v2 s (cand4 v)).kx2,
      (step v2 s (cand4 v)).ky2,
      (step v2 s (cand4 v)).ks,
      (step v2 s (cand4 v)).ka,
      (step v2 s (cand4 v)).lt,
      (step v2 s (cand4 v)).pos,
      (step v2 s (cand4 v)).nk,
      (step v2 s (cand4 v)).bad,
      (cand5 v).x1,
      extractStridedSlice S1x1 ![5, 1] v slices_S8x8_o5_1_S1x1⟩ := rfl

theorem part9_eq (s : Bs F) (v : FVec F S8x8 .f32) :
    k1_part9 arg0 harg0 v2 a6 a7 a8 a9 a10 a11 a12 a13 a14 a15 a16 (v) (s.kx1) (s.ky1) (s.kx2) (s.ky2) (s.ka) (s.lt) ((cand5 v).x1) (extractStridedSlice S1x1 ![5, 1] v slices_S8x8_o5_1_S1x1) =
      pure ⟨(cand5 v).y1,
      (cand5 v).x2,
      (cand5 v).y2,
      (cand5 v).sc,
      inval (cand5 v),
      carea (cand5 v),
      kb s (cand5 v)⟩ := rfl

theorem part10_eq (s : Bs F) (v : FVec F S8x8 .f32) :
    k1_part10 arg0 harg0 v2 a6 a7 a8 a9 a10 a11 a12 a13 a14 a15 a16 (v) (s.kx1) (s.ky1) (s.kx2) (s.ky2) (s.ks) (s.ka) (s.lt) (s.pos) (s.nk) (s.bad) ((cand5 v).x1) ((cand5 v).y1) ((cand5 v).x2) ((cand5 v).y2) ((cand5 v).sc) (inval (cand5 v)) (carea (cand5 v)) (kb s (cand5 v)) =
      pure ⟨(step v2 s (cand5 v)).kx1,
      (step v2 s (cand5 v)).ky1,
      (step v2 s (cand5 v)).kx2,
      (step v2 s (cand5 v)).ky2,
      (step v2 s (cand5 v)).ks,
      (step v2 s (cand5 v)).ka,
      (step v2 s (cand5 v)).lt,
      (step v2 s (cand5 v)).pos,
      (step v2 s (cand5 v)).nk,
      (step v2 s (cand5 v)).bad,
      (cand6 v).x1,
      (cand6 v).y1,
      (cand6 v).x2,
      (cand6 v).y2,
      (cand6 v).sc,
      inval (cand6 v),
      carea (cand6 v),
      iw (step v2 s (cand5 v)) (cand6 v),
      ih0 (step v2 s (cand5 v)) (cand6 v),
      (Scalar.ofBits .f32 0x00000000#32 : F .f32)⟩ := rfl

theorem part11_eq (s : Bs F) (v : FVec F S8x8 .f32) :
    k1_part11 arg0 harg0 v2 a6 a7 a8 a9 a10 a11 a12 a13 a14 a15 a16 (s.kx1) (s.ky1) (s.kx2) (s.ky2) (s.ks) (s.ka) (s.lt) (s.pos) ((cand6 v).x1) ((cand6 v).y1) ((cand6 v).x2) ((cand6 v).y2) ((cand6 v).sc) (inval (cand6 v)) (carea (cand6 v)) (iw s (cand6 v)) (ih0 s (cand6 v)) ((Scalar.ofBits .f32 0x00000000#32 : F .f32)) =
      pure ⟨kb s (cand6 v),
      (step v2 s (cand6 v)).kx1,
      (step v2 s (cand6 v)).ky1,
      (step v2 s (cand6 v)).kx2,
      (step v2 s (cand6 v)).ky2,
      (step v2 s (cand6 v)).ks,
      (step v2 s (cand6 v)).ka,
      (step v2 s (cand6 v)).lt,
      roll1 s.pos,
      roll0 (roll1 s.pos)⟩ := rfl

theorem part12_eq (s : Bs F) (v : FVec F S8x8 .f32) :
    k1_part12 arg0 harg0 v2 a6 a7 a8 a9 a10 a11 a12 a13 a14 a15 a16 (v) (s.pos) (s.nk) (s.bad) (inval (cand6 v)) (kb s (cand6 v)) ((step v2 s (cand6 v)).kx1) ((step v2 s (cand6 v)).ky1) ((step v2 s (cand6 v)).kx2) ((step v2 s (cand6 v)).ky2) ((step v2 s (cand6 v)).ka) ((step v2 s (cand6 v)).lt) (roll1 s.pos) (roll0 (roll1 s.pos)) =
      pure ⟨(step v2 s (cand6 v)).pos,
      (step v2 s (cand6 v)).nk,
      (step v2 s (cand6 v)).bad,
      (cand7 v).x1,
      (cand7 v).y1,
      (cand7 v).x2,
      (cand7 v).y2,
      (cand7 v).sc,
      inval (cand7 v),
      carea (cand7 v),
      hit (step v2 s (cand6 v)) (cand7 v)⟩ := rfl

end Cert.KernelIdeal.Hand
-- ==== Proof.KI.Loop.lean ====
/- The suppression loop's label. One trip is the pure function `trip` of the registers and of the eight
   rows loaded; `runN` runs trips while the loop's test holds. Holding the table, the label returns
   what `runN` computes and leaves the table as it was. -/
module

public import proofs.«01_k».proof.Proof.KI.Blk
public import Idealize.ShloMosaic.Lib.Pipeline.Sound
public import Idealize.ShloMosaic.Lib.Tactic

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

/-! ### One trip as a pure function -/

/-- The registers the loop carries from trip to trip. -/
structure Ls (F : FTy → Type) where
  c : BitVec 32
  kc : BitVec 32
  done : BitVec 32
  pos : FVec F S8x128 .f32
  lt : FVec F S8x128 .f32
  kx1 : FVec F S8x128 .f32
  ky1 : FVec F S8x128 .f32
  kx2 : FVec F S8x128 .f32
  ky2 : FVec F S8x128 .f32
  ks : FVec F S8x128 .f32
  ka : FVec F S8x128 .f32

/-- The registers as the tuple the loop returns. -/
def Ls.out (s : Ls F) : BitVec 32 × BitVec 32 × BitVec 32 × FVec F S8x128 .f32 × FVec F S8x128 .f32
    × FVec F S8x128 .f32 × FVec F S8x128 .f32 × FVec F S8x128 .f32 × FVec F S8x128 .f32
    × FVec F S8x128 .f32 × FVec F S8x128 .f32 :=
  (s.c, s.kc, s.done, s.pos, s.lt, s.kx1, s.ky1, s.kx2, s.ky2, s.ks, s.ka)

/-- The loop's test: rows are left, slots are left and no invalid row has been met. -/
def Ls.test (s : Ls F) : BitVec 1 :=
  Scalar.andi (Scalar.andi (Scalar.cmpi .slt s.c 20000#32) (Scalar.cmpi .slt s.kc 1000#32))
    (Scalar.cmpi .eq s.done 0#32)

/-- The registers at the start of a trip's eight candidates. -/
def Ls.bs (s : Ls F) : Bs F :=
  Bs.mk s.pos s.lt s.kx1 s.ky1 s.kx2 s.ky2 s.ks s.ka 0#32 0#1

/-- The eight candidates of a trip, one after the other. -/
def eight (lane0 : IVec S8x128 1) (v : FVec F S8x8 .f32) (b : Bs F) : Bs F :=
  step lane0 (step lane0 (step lane0 (step lane0 (step lane0 (step lane0 (step lane0 (step lane0 b
    (cand0 v)) (cand1 v)) (cand2 v)) (cand3 v)) (cand4 v)) (cand5 v)) (cand6 v)) (cand7 v)

/-- One trip. -/
def trip (lane0 : IVec S8x128 1) (v : FVec F S8x8 .f32) (s : Ls F) : Ls F where
  c := Scalar.addi s.c 8#32
  kc := Scalar.addi s.kc (eight lane0 v s.bs).nk
  done := Scalar.extui (eight lane0 v s.bs).bad
  pos := (eight lane0 v s.bs).pos
  lt := (eight lane0 v s.bs).lt
  kx1 := (eight lane0 v s.bs).kx1
  ky1 := (eight lane0 v s.bs).ky1
  kx2 := (eight lane0 v s.bs).kx2
  ky2 := (eight lane0 v s.bs).ky2
  ks := (eight lane0 v s.bs).ks
  ka := (eight lane0 v s.bs).ka

/-- The table's contents. -/
abbrev Tbl (F : FTy → Type) : Type := (cc1_stg0_0 : Ref sig .tc).ty.Contents (Elt F)

/-- The eight rows from a row that has seven more after it. -/
def eightRows (X : Tbl F) (c : BitVec 32) (h : k1_chk1 c) : Vec F S8x8 .f32 :=
  (Memref.whole cc1_stg0_0 : Memref sig .tc .vmem S20000x8 .f32).view.readAt (Elt F)
    (Rect.unit (s := S20000x8) (k1_off1 c) S8x8.size (k1_off1_inb c h)).toLoadRect X

/-- The eight rows the trip loads (zero where the table has no eight rows left). -/
def rowsAt (X : Tbl F) (c : BitVec 32) : FVec F S8x8 .f32 :=
  if h : k1_chk1 c then rows (eightRows X c h) else broadcast S8x8 (Scalar.ofBits .f32 0x00000000#32)

/-- The trips, at most `k`, that run while the test holds. -/
def runN (lane0 : IVec S8x128 1) (X : Tbl F) : ℕ → Ls F → Ls F
  | 0, s => s
  | k + 1, s => if s.test = 1#1 then runN lane0 X k (trip lane0 (rowsAt X s.c) s) else s

/-- The record the label is called with. -/
def rec2 (lane0 : IVec S8x128 1) (s : Ls F) : Cc1While1 F :=
  ⟨Memref.whole cc1_stg0_0, Memref.isWhole_whole _, lane0, s.c, s.kc, s.done, s.pos, s.lt, s.kx1,
    s.ky1, s.kx2, s.ky2, s.ks, s.ka⟩

/-- The loop's body at a state whose test holds: load eight rows, call again at the next state. -/
theorem body_pos (lane0 : IVec S8x128 1) (s : Ls F) (h : s.test = 1#1) :
    cc1_while1 (F := F) (Memref.whole cc1_stg0_0) (Memref.isWhole_whole _) lane0 s.c s.kc s.done s.pos
      s.lt s.kx1 s.ky1 s.kx2 s.ky2 s.ks s.ka = (do
      let hw : k1_chk1 s.c := (← Prog.lift (TpuEff.assume (k1_chk1 s.c) (k1_chk1.dec s.c))).down
      let w : Vec F S8x8 .f32 ← Prog.lift (.load (Memref.whole cc1_stg0_0)
        (Rect.unit (s := S20000x8) (k1_off1 s.c) S8x8.size (k1_off1_inb s.c hw)).toLoadRect
        (View.loadsAt_vmem h_S8x8))
      Prog.lift (.call (2 : (Λ₀ F).Label) (rec2 lane0 (trip lane0 (rows w) s)))) := by
  rw [cc1_while1_eq_skeleton]
  unfold cc1_while1_skel
  have h' : Scalar.andi (Scalar.andi (Scalar.cmpi .slt s.c 20000#32) (Scalar.cmpi .slt s.kc 1000#32))
    (Scalar.cmpi .eq s.done 0#32) = 1#1 := h
  simp only [h', ↓reduceIte, part1_eq, bind_assoc, pure_bind]
  simp only [part2_eq, part3_eq, part4_eq, part5_eq, part6_eq, part7_eq, part8_eq, part9_eq,
    part10_eq, part11_eq, part12_eq, pure_bind]
  rfl

theorem body_neg (lane0 : IVec S8x128 1) (s : Ls F) (h : ¬ s.test = 1#1) :
    cc1_while1 (F := F) (Memref.whole cc1_stg0_0) (Memref.isWhole_whole _) lane0 s.c s.kc s.done s.pos
      s.lt s.kx1 s.ky1 s.kx2 s.ky2 s.ks s.ka = pure s.out := by
  rw [cc1_while1_eq_skeleton]
  unfold cc1_while1_skel
  have h' : ¬ Scalar.andi (Scalar.andi (Scalar.cmpi .slt s.c 20000#32) (Scalar.cmpi .slt s.kc 1000#32))
    (Scalar.cmpi .eq s.done 0#32) = 1#1 := h
  simp only [h', ↓reduceIte]
  rfl

/-! ### The label's specification -/

local notation "𝕄U" U => MT nD τ sig Unit (Elt F) ℕ U ℕ

/-- Below the table's end eight rows are inside it. -/
theorem chk_of (c : ℕ) (h : c + 8 ≤ 20000) : k1_chk1 (BitVec.ofNat 32 c) := by
  have hc : (BitVec.ofNat 32 c).toNat = c := by
    rw [BitVec.toNat_ofNat]; exact Nat.mod_eq_of_lt (by omega)
  intro a
  fin_cases a
  · show (BitVec.ofNat 32 c).toNat + 8 ≤ 20000
    omega
  · show 0 + 8 ≤ 8
    omega

/-- The next trip's first row. -/
theorem next_c (j : ℕ) : Scalar.addi (BitVec.ofNat 32 (8 * j)) 8#32 = BitVec.ofNat 32 (8 * (j + 1)) := by
  show BitVec.ofNat 32 (8 * j) + 8#32 = _
  rw [Nat.mul_add, BitVec.ofNat_add]

/-- At the table's end the test fails. -/
theorem test_end (s : Ls F) (h : s.c = BitVec.ofNat 32 20000) : ¬ s.test = 1#1 := by
  unfold Ls.test
  rw [h, show Scalar.cmpi .slt (BitVec.ofNat 32 20000) 20000#32 = 0#1 from by decide]
  intro hh
  have : ∀ a b : BitVec 1, ¬ Scalar.andi (Scalar.andi 0#1 a) b = 1#1 := by decide
  exact this _ _ hh

section Label

variable {U : Type} [URA U]
variable (c : Dev nD) (lane0 : IVec S8x128 1) (X : Tbl F)

/-- The label's specification with `k` trips left at most: the table in and out, the registers after
    those trips returned. -/
def spec (k : ℕ) (s : Ls F) : sWPT (𝕄U U) (BitVec 32 × BitVec 32 × BitVec 32 × FVec F S8x128 .f32
    × FVec F S8x128 .f32 × FVec F S8x128 .f32 × FVec F S8x128 .f32 × FVec F S8x128 .f32
    × FVec F S8x128 .f32 × FVec F S8x128 .f32 × FVec F S8x128 .f32) := do
  sWPT.consume iprop(((c : Thread nD τ).loc cc1_stg0_0) ↦{fullShare} X)
  sWPT.produce iprop(((c : Thread nD τ).loc cc1_stg0_0) ↦{fullShare} X)
  pure (runN lane0 X k s).out

theorem spec_apply (k : ℕ) (s : Ls F) (K : _ → sProp (𝕄U U)) :
    spec c lane0 X k s K
      = iprop((((c : Thread nD τ).loc cc1_stg0_0) ↦{fullShare} X)
        ∗ ((((c : Thread nD τ).loc cc1_stg0_0) ↦{fullShare} X) -∗ K (runN lane0 X k s).out)) := rfl

/-- The label's body, entered with `k` trips left, meets the specification: by induction on `k`. -/
theorem spec_le (E : Set ℕ) :
    ∀ k j (s : Ls F), j + k = 2500 → s.c = BitVec.ofNat 32 (8 * j) → ∀ K, spec (U := U) c lane0 X k s K
      ⊢ wp frame (wpE (defs₀ (F := F)) Variants.nat (c : Thread nD τ) (some k)) E
          (defs₀ (F := F) .tc 2 (rec2 lane0 s)) K := by
  intro k
  induction k with
  | zero =>
    intro j s hj hc K
    rw [spec_apply]
    show _ ⊢ wp frame (wpE (defs₀ (F := F)) Variants.nat (c : Thread nD τ) (some 0)) E
      (cc1_while1 (F := F) (Memref.whole cc1_stg0_0) (Memref.isWhole_whole _) lane0 s.c s.kc s.done s.pos
      s.lt s.kx1 s.ky1 s.kx2 s.ky2 s.ks s.ka) K
    rw [body_neg lane0 s (test_end s (by rw [hc]; congr 1; omega)),
      show runN lane0 X 0 s = s from rfl]
    iintro ⟨H, Hk⟩
    simp only [Prog.pure_eq_ret]
    rw [wp_ret]; imodintro
    iapply Hk
    iexact H
  | succ k ih =>
    intro j s hj hc K
    rw [spec_apply]
    show _ ⊢ wp frame (wpE (defs₀ (F := F)) Variants.nat (c : Thread nD τ) (some (k + 1))) E
      (cc1_while1 (F := F) (Memref.whole cc1_stg0_0) (Memref.isWhole_whole _) lane0 s.c s.kc s.done s.pos
      s.lt s.kx1 s.ky1 s.kx2 s.ky2 s.ks s.ka) K
    by_cases ht : s.test = 1#1
    · rw [body_pos lane0 s ht]
      have hchk : k1_chk1 s.c := by rw [hc]; exact chk_of _ (by omega)
      simp only [Prog.lift, Prog.bind_op, Prog.bind_ret, Prog.pure_eq_ret]
      iintro ⟨H, Hk⟩
      iapply (wp_assume Variants.nat (c : Thread nD τ) (some (k + 1)) E hchk)
      iapply (wp_load Variants.nat (c : Thread nD τ) (some (k + 1)) E (m := Memref.whole cc1_stg0_0)
        (Finset.subset_univ _)) $$ H; iintro H
      have hrun : runN lane0 X (k + 1) s
          = runN lane0 X k (trip lane0 (rows (eightRows X s.c hchk)) s) := by
        rw [runN, if_pos ht]; unfold rowsAt; rw [dif_pos hchk]
      iapply (wp_call_spec Variants.nat (c : Thread nD τ) (some (k + 1)) E
        (spec c lane0 X k (trip lane0 (rows (eightRows X s.c hchk)) s)) k
        (fun u hu => by cases hu; exact Nat.lt_succ_self k)
        (ih (j + 1) _ (by omega) (by
          show Scalar.addi s.c 8#32 = _
          rw [hc]; exact next_c j)))
      rw [spec_apply, ← hrun]
      isplitl [H]; · iexact H
      iintro H
      rw [wp_ret]; imodintro
      iapply Hk
      iexact H
    · rw [body_neg lane0 s ht]
      iintro ⟨H, Hk⟩
      simp only [Prog.pure_eq_ret]
      rw [wp_ret]; imodintro
      rw [runN, if_neg ht]
      iapply Hk
      iexact H

end Label

end Cert.KernelIdeal.Hand
-- ==== Proof.KI.Bodies.lean ====
/- The two kernel bodies. The decode body leaves the four rows of `decOut` in its output, whatever was
   there; the suppression body leaves the planes `runN` ends with, each times the live mask. -/
module

public import proofs.«01_k».proof.Proof.KI.Loop
public import Idealize.ShloMosaic.Lib.ValueIdxCore

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)
open Idealize.ShloMosaic.Pipeline (Dat Cfg Window BodyObligation cellOf kernel pipe)

variable {F : FTy → Type} [FloatOps F]

local notation "𝕄U" U => MT nD τ sig Unit (Elt F) ℕ U ℕ

/-! ### Decode -/

/-- A plane of four rows. -/
abbrev P4 (F : FTy → Type) : Type := S4x20000.Idx → F .f32

/-- Row `k` of a plane of four rows. -/
def row (f : P4 F) (k : Fin 4) : Vec F S1x20000 .f32 := fun x => f (ix2 k (x 1))

/-- The horizontal centre, the vertical centre, the width and the height predicted. -/
def pcx (D A : P4 F) : FVec F S1x20000 .f32 := k0_pay9 (row A 0) (row A 2) (row D 0)
def pcy (D A : P4 F) : FVec F S1x20000 .f32 := k0_pay10 (row A 1) (row A 3) (row D 1)
def pw (D A : P4 F) : FVec F S1x20000 .f32 := k0_pay11 (row A 0) (row A 2) (row D 2)
def ph (D A : P4 F) : FVec F S1x20000 .f32 := k0_pay12 (row A 1) (row A 3) (row D 3)

/-- The decoded, clipped corners, one per row, from the deltas `D` and the anchors `A`. -/
def decOut (D A : P4 F) : P4 F := fun i =>
  (![k0_pay1 (k0_pay13 (row A 0) (row A 2) (row D 0) (row D 2)), k0_pay2 (pcy D A) (ph D A),
    k0_pay3 (pcx D A) (pw D A), k0_pay4 (pcy D A) (ph D A)] : Fin 4 → FVec F S1x20000 .f32) (i 0) (ix2 (n0 := 1) 0 (i 1))

theorem emb_row (k : ℕ) (hk : k < 4) (inb : ∀ a, (![k, 0] : Fin 2 → ℕ) a + S1x20000.size a ≤ S4x20000.size a)
    (x : S1x20000.Idx) :
    (Rect.unit (s := S4x20000) ![k, 0] S1x20000.size inb).emb x = ix2 (⟨k, hk⟩ : Fin 4) (x 1) := by
  funext a
  apply Fin.ext
  match a with
  | ⟨0, _⟩ =>
    show k + 1 * (x 0 : ℕ) = k
    have : (x 0 : ℕ) < 1 := (x 0).2
    omega
  | ⟨1, _⟩ =>
    show 0 + 1 * (x 1 : ℕ) = x 1
    omega

/-- A store over one row of the output buffer. -/
theorem write_row (k : ℕ) (hk : k < 4)
    (inb : ∀ a, (![k, 0] : Fin 2 → ℕ) a + S1x20000.size a ≤ S4x20000.size a)
    (f : P4 F) (w : S1x20000.Idx → F .f32) (i : S4x20000.Idx) :
    ((Memref.whole cc0_stg2_0 : Memref sig .tc .vmem S4x20000 .f32).access
      (Rect.unit (s := S4x20000) ![k, 0] S1x20000.size inb)).write (Elt F) f w Finset.univ i
      = if (i 0).val = k then w (ix2 (n0 := 1) 0 (i 1)) else f i := by
  have hemb : ∀ x : S1x20000.Idx, ((Memref.whole cc0_stg2_0 : Memref sig .tc .vmem S4x20000 .f32).access
      (Rect.unit (s := S4x20000) ![k, 0] S1x20000.size inb)).emb x = ix2 (⟨k, hk⟩ : Fin 4) (x 1) :=
    fun x => emb_row k hk inb x
  split
  · next h =>
    have hi : i = ix2 (⟨k, hk⟩ : Fin 4) ((ix2 (n0 := 1) 0 (i 1) : S1x20000.Idx) 1) := by
      conv_lhs => rw [eq_ix2 i]
      rw [show i 0 = (⟨k, hk⟩ : Fin 4) from Fin.ext h]
      rfl
    have := View.write_emb_of_mem (v := (Memref.whole cc0_stg2_0 : Memref sig .tc .vmem S4x20000 .f32).access
      (Rect.unit (s := S4x20000) ![k, 0] S1x20000.size inb)) (Val := Elt F) f w
      (M := Finset.univ) (x := (ix2 (n0 := 1) 0 (i 1) : S1x20000.Idx)) (Finset.mem_univ _)
    rw [hemb, ← hi] at this
    exact this
  · next h =>
    refine View.write_of_not_mem _ _ _ (fun hm => ?_)
    obtain ⟨x, -, hx⟩ := Finset.mem_map.mp hm
    apply h
    rw [← hx]
    exact congrArg (fun j : S4x20000.Idx => (j 0).val) (hemb x)

/-- The rectangle of one row. -/
abbrev rowR (k : ℕ) (inb : ∀ a, (![k, 0] : Fin 2 → ℕ) a + S1x20000.size a ≤ S4x20000.size a) : Rect S4x20000 :=
  Rect.unit (s := S4x20000) ![k, 0] S1x20000.size inb

/-- The four row stores together leave the four rows, whatever was there. -/
theorem write_rows (f : P4 F) (w0 w1 w2 w3 : S1x20000.Idx → F .f32) :
    View.write (Elt F) ((Memref.whole cc0_stg2_0 : Memref sig .tc .vmem S4x20000 .f32).access (rowR 3 inb_S4x20000_S1x20000_3_0))
      (View.write (Elt F) ((Memref.whole cc0_stg2_0 : Memref sig .tc .vmem S4x20000 .f32).access (rowR 2 inb_S4x20000_S1x20000_2_0))
        (View.write (Elt F) ((Memref.whole cc0_stg2_0 : Memref sig .tc .vmem S4x20000 .f32).access (rowR 1 inb_S4x20000_S1x20000_1_0))
          (View.write (Elt F) ((Memref.whole cc0_stg2_0 : Memref sig .tc .vmem S4x20000 .f32).access (rowR 0 inb_S4x20000_S1x20000_0_0))
            f w0 Finset.univ) w1 Finset.univ) w2 Finset.univ) w3 Finset.univ
      = (fun i => (![w0, w1, w2, w3] : Fin 4 → FVec F S1x20000 .f32) (i 0) (ix2 (n0 := 1) 0 (i 1)) : P4 F) := by
  funext i
  have h3 := write_row 3 (by omega) inb_S4x20000_S1x20000_3_0
    (View.write (Elt F) ((Memref.whole cc0_stg2_0 : Memref sig .tc .vmem S4x20000 .f32).access (rowR 2 inb_S4x20000_S1x20000_2_0))
        (View.write (Elt F) ((Memref.whole cc0_stg2_0 : Memref sig .tc .vmem S4x20000 .f32).access (rowR 1 inb_S4x20000_S1x20000_1_0))
          (View.write (Elt F) ((Memref.whole cc0_stg2_0 : Memref sig .tc .vmem S4x20000 .f32).access (rowR 0 inb_S4x20000_S1x20000_0_0))
            f w0 Finset.univ) w1 Finset.univ) w2 Finset.univ) w3 i
  refine h3.trans ?_
  have h2 := write_row 2 (by omega) inb_S4x20000_S1x20000_2_0
        (View.write (Elt F) ((Memref.whole cc0_stg2_0 : Memref sig .tc .vmem S4x20000 .f32).access (rowR 1 inb_S4x20000_S1x20000_1_0))
          (View.write (Elt F) ((Memref.whole cc0_stg2_0 : Memref sig .tc .vmem S4x20000 .f32).access (rowR 0 inb_S4x20000_S1x20000_0_0))
            f w0 Finset.univ) w1 Finset.univ) w2 i
  have h1 := write_row 1 (by omega) inb_S4x20000_S1x20000_1_0
          (View.write (Elt F) ((Memref.whole cc0_stg2_0 : Memref sig .tc .vmem S4x20000 .f32).access (rowR 0 inb_S4x20000_S1x20000_0_0))
            f w0 Finset.univ) w1 i
  have h0 := write_row 0 (by omega) inb_S4x20000_S1x20000_0_0 f w0 i
  have h4 : (i 0).val < 4 := (i 0).2
  have hi : i 0 = (0 : Fin 4) ∨ i 0 = (1 : Fin 4) ∨ i 0 = (2 : Fin 4) ∨ i 0 = (3 : Fin 4) := by
    have : ∀ x : Fin 4, x = 0 ∨ x = 1 ∨ x = 2 ∨ x = 3 := by decide
    exact this (i 0)
  rcases hi with hi | hi | hi | hi <;> rw [hi]
  · rw [if_neg (by decide)]; refine h2.trans ?_
    rw [hi, if_neg (by decide)]; refine h1.trans ?_
    rw [hi, if_neg (by decide)]; refine h0.trans ?_
    rw [hi, if_pos (by decide)]; rfl
  · rw [if_neg (by decide)]; refine h2.trans ?_
    rw [hi, if_neg (by decide)]; refine h1.trans ?_
    rw [hi, if_pos (by decide)]; rfl
  · rw [if_neg (by decide)]; refine h2.trans ?_
    rw [hi, if_pos (by decide)]; rfl
  · rw [if_pos (by decide)]; rfl

/-- The load of a row of the first buffer, -/
theorem read_row0 (k : ℕ) (hk : k < 4)
    (inb : ∀ a, (![k, 0] : Fin 2 → ℕ) a + S1x20000.size a ≤ S4x20000.size a) (f : P4 F) :
    (Memref.whole cc0_stg0_0 : Memref sig .tc .vmem S4x20000 .f32).view.readAt (Elt F)
      (Rect.unit (s := S4x20000) ![k, 0] S1x20000.size inb).toLoadRect f = row f ⟨k, hk⟩ := by
  funext x
  show f ((Rect.unit (s := S4x20000) ![k, 0] S1x20000.size inb).emb x) = _
  rw [emb_row k hk]; rfl

/-- and of the second. -/
theorem read_row1 (k : ℕ) (hk : k < 4)
    (inb : ∀ a, (![k, 0] : Fin 2 → ℕ) a + S1x20000.size a ≤ S4x20000.size a) (f : P4 F) :
    (Memref.whole cc0_stg1_0 : Memref sig .tc .vmem S4x20000 .f32).view.readAt (Elt F)
      (Rect.unit (s := S4x20000) ![k, 0] S1x20000.size inb).toLoadRect f = row f ⟨k, hk⟩ := by
  funext x
  show f ((Rect.unit (s := S4x20000) ![k, 0] S1x20000.size inb).emb x) = _
  rw [emb_row k hk]; rfl

section Runs

variable {U : Type} [URA U] (c : Dev nD)

/-- The decode body's run. -/
theorem kernelRun0 (D A f : P4 F) (K : PUnit → sProp (𝕄U U)) :
    iprop((((c : Thread nD τ).loc cc0_stg0_0) ↦{fullShare} (D : Buf (Elt F) (((c : Dev nD) : Thread nD τ).loc cc0_stg0_0)))
      ∗ (((c : Thread nD τ).loc cc0_stg1_0) ↦{fullShare} (A : Buf (Elt F) (((c : Dev nD) : Thread nD τ).loc cc0_stg1_0)))
      ∗ (((c : Thread nD τ).loc cc0_stg2_0) ↦{fullShare} (f : Buf (Elt F) (((c : Dev nD) : Thread nD τ).loc cc0_stg2_0)))
      ∗ (((((c : Thread nD τ).loc cc0_stg0_0) ↦{fullShare} (D : Buf (Elt F) (((c : Dev nD) : Thread nD τ).loc cc0_stg0_0)))
        ∗ (((c : Thread nD τ).loc cc0_stg1_0) ↦{fullShare} (A : Buf (Elt F) (((c : Dev nD) : Thread nD τ).loc cc0_stg1_0)))
        ∗ (((c : Thread nD τ).loc cc0_stg2_0) ↦{fullShare} (decOut D A : Buf (Elt F) (((c : Dev nD) : Thread nD τ).loc cc0_stg2_0)))) -∗ K ⟨⟩))
      ⊢ wp frame (wpE (defs₀ (F := F)) Variants.nat (c : Thread nD τ) none) Set.univ
          (cc0__decode_body (F := F) (Memref.whole cc0_stg0_0) (Memref.isWhole_whole _)
            (Memref.whole cc0_stg1_0) (Memref.isWhole_whole _) (Memref.whole cc0_stg2_0) (Memref.isWhole_whole _)) K := by
  simp only [cc0__decode_body_eq_skeleton]; unfold cc0__decode_body_skel
  simp only [k0_part1_eq_skeleton]; unfold k0_part1_skel
  simp only [Prog.lift, Prog.bind_op, Prog.bind_ret, Prog.pure_eq_ret, bind_assoc, pure_bind]
  iintro ⟨HD, HA, Ho, Hk⟩
  iapply (wp_load Variants.nat (c : Thread nD τ) none Set.univ (m := Memref.whole cc0_stg1_0) (Finset.subset_univ _)) $$ HA; iintro HA
  iapply (wp_load Variants.nat (c : Thread nD τ) none Set.univ (m := Memref.whole cc0_stg1_0) (Finset.subset_univ _)) $$ HA; iintro HA
  iapply (wp_load Variants.nat (c : Thread nD τ) none Set.univ (m := Memref.whole cc0_stg1_0) (Finset.subset_univ _)) $$ HA; iintro HA
  iapply (wp_load Variants.nat (c : Thread nD τ) none Set.univ (m := Memref.whole cc0_stg1_0) (Finset.subset_univ _)) $$ HA; iintro HA
  iapply (wp_load Variants.nat (c : Thread nD τ) none Set.univ (m := Memref.whole cc0_stg0_0) (Finset.subset_univ _)) $$ HD; iintro HD
  iapply (wp_load Variants.nat (c : Thread nD τ) none Set.univ (m := Memref.whole cc0_stg0_0) (Finset.subset_univ _)) $$ HD; iintro HD
  iapply (wp_load Variants.nat (c : Thread nD τ) none Set.univ (m := Memref.whole cc0_stg0_0) (Finset.subset_univ _)) $$ HD; iintro HD
  iapply (wp_load Variants.nat (c : Thread nD τ) none Set.univ (m := Memref.whole cc0_stg0_0) (Finset.subset_univ _)) $$ HD; iintro HD
  iapply (wp_load Variants.nat (c : Thread nD τ) none Set.univ (m := Memref.whole cc0_stg2_0) (Finset.subset_univ _)) $$ Ho; iintro Ho
  iapply (wp_store Variants.nat (c : Thread nD τ) none Set.univ (m := Memref.whole cc0_stg2_0) (r := rowR 0 inb_S4x20000_S1x20000_0_0) (Mk := Finset.univ) (Finset.subset_univ _)) $$ Ho; iintro Ho
  iapply (wp_load Variants.nat (c : Thread nD τ) none Set.univ (m := Memref.whole cc0_stg2_0) (Finset.subset_univ _)) $$ Ho; iintro Ho
  iapply (wp_store Variants.nat (c : Thread nD τ) none Set.univ (m := Memref.whole cc0_stg2_0) (r := rowR 1 inb_S4x20000_S1x20000_1_0) (Mk := Finset.univ) (Finset.subset_univ _)) $$ Ho; iintro Ho
  iapply (wp_load Variants.nat (c : Thread nD τ) none Set.univ (m := Memref.whole cc0_stg2_0) (Finset.subset_univ _)) $$ Ho; iintro Ho
  iapply (wp_store Variants.nat (c : Thread nD τ) none Set.univ (m := Memref.whole cc0_stg2_0) (r := rowR 2 inb_S4x20000_S1x20000_2_0) (Mk := Finset.univ) (Finset.subset_univ _)) $$ Ho; iintro Ho
  iapply (wp_load Variants.nat (c : Thread nD τ) none Set.univ (m := Memref.whole cc0_stg2_0) (Finset.subset_univ _)) $$ Ho; iintro Ho
  iapply (wp_store Variants.nat (c : Thread nD τ) none Set.univ (m := Memref.whole cc0_stg2_0) (r := rowR 3 inb_S4x20000_S1x20000_3_0) (Mk := Finset.univ) (Finset.subset_univ _)) $$ Ho; iintro Ho
  rw [wp_ret]; imodintro
  iapply Hk
  isplitl [HD]; · iexact HD
  isplitl [HA]; · iexact HA
  rw [write_rows]
  simp only [read_row0 0 (by omega), read_row0 1 (by omega), read_row0 2 (by omega), read_row0 3 (by omega),
    read_row1 0 (by omega), read_row1 1 (by omega), read_row1 2 (by omega), read_row1 3 (by omega)]
  iexact Ho

/-- The registers the first trip finds: nothing kept, the next slot the first one. -/
def start : Ls F :=
  ⟨0#32, 0#32, 0#32, k1_pay3, k1_pay2, k1_pay2, k1_pay2, k1_pay2, k1_pay2, k1_pay2, k1_pay2⟩

/-- The registers after at most `N` trips over the table `X`. -/
def finalN (N : ℕ) (X : Tbl F) : Ls F := runN k1_pay1 X N start

/-- The five planes handed back: the kept corners and scores, zero beyond the last kept slot. -/
structure Planes (F : FTy → Type) where
  x1 : FVec F S8x128 .f32
  y1 : FVec F S8x128 .f32
  x2 : FVec F S8x128 .f32
  y2 : FVec F S8x128 .f32
  sc : FVec F S8x128 .f32

def Ls.planes (s : Ls F) : Planes F :=
  ⟨k1_pay4 s.lt s.kx1, k1_pay5 s.lt s.ky1, k1_pay6 s.lt s.kx2, k1_pay7 s.lt s.ky2, k1_pay8 s.lt s.ks⟩

theorem zero_off : (![0, 0] : Fin 2 → ℕ) = fun _ => 0 := by
  funext a; fin_cases a <;> rfl

/-! A store over a whole output buffer leaves what was stored. -/

theorem write_w1 (f w : FVec F S8x128 .f32) :
    View.write (Elt F) ((Memref.whole cc1_stg1_0 : Memref sig .tc .vmem S8x128 .f32).access
      (Rect.unit (s := S8x128) ![0, 0] S8x128.size inb_S8x128_S8x128_0_0)) f w Finset.univ = w :=
  Memref.write_access_unit_zero_univ (Elt F) cc1_stg1_0 zero_off _ f w

theorem write_w2 (f w : FVec F S8x128 .f32) :
    View.write (Elt F) ((Memref.whole cc1_stg2_0 : Memref sig .tc .vmem S8x128 .f32).access
      (Rect.unit (s := S8x128) ![0, 0] S8x128.size inb_S8x128_S8x128_0_0)) f w Finset.univ = w :=
  Memref.write_access_unit_zero_univ (Elt F) cc1_stg2_0 zero_off _ f w

theorem write_w3 (f w : FVec F S8x128 .f32) :
    View.write (Elt F) ((Memref.whole cc1_stg3_0 : Memref sig .tc .vmem S8x128 .f32).access
      (Rect.unit (s := S8x128) ![0, 0] S8x128.size inb_S8x128_S8x128_0_0)) f w Finset.univ = w :=
  Memref.write_access_unit_zero_univ (Elt F) cc1_stg3_0 zero_off _ f w

theorem write_w4 (f w : FVec F S8x128 .f32) :
    View.write (Elt F) ((Memref.whole cc1_stg4_0 : Memref sig .tc .vmem S8x128 .f32).access
      (Rect.unit (s := S8x128) ![0, 0] S8x128.size inb_S8x128_S8x128_0_0)) f w Finset.univ = w :=
  Memref.write_access_unit_zero_univ (Elt F) cc1_stg4_0 zero_off _ f w

theorem write_w5 (f w : FVec F S8x128 .f32) :
    View.write (Elt F) ((Memref.whole cc1_stg5_0 : Memref sig .tc .vmem S8x128 .f32).access
      (Rect.unit (s := S8x128) ![0, 0] S8x128.size inb_S8x128_S8x128_0_0)) f w Finset.univ = w :=
  Memref.write_access_unit_zero_univ (Elt F) cc1_stg5_0 zero_off _ f w

/-- The record of the first call, at the starting registers. -/
theorem rec_start : rec2 (F := F) k1_pay1 start = ⟨Memref.whole cc1_stg0_0, Memref.isWhole_whole _, k1_pay1, 0#32, 0#32, 0#32, k1_pay3, k1_pay2, k1_pay2, k1_pay2, k1_pay2, k1_pay2, k1_pay2, k1_pay2⟩ := by
  unfold rec2 start
  rfl

/-- The suppression body's run. -/
theorem kernelRunN (N : ℕ) (hN : 0 + N = 2500) (X : Tbl F) (f1 f2 f3 f4 f5 : FVec F S8x128 .f32) (K : PUnit → sProp (𝕄U U)) :
    iprop((((c : Thread nD τ).loc cc1_stg0_0) ↦{fullShare} X)
      ∗ (((c : Thread nD τ).loc cc1_stg1_0) ↦{fullShare} (f1 : Buf (Elt F) (((c : Dev nD) : Thread nD τ).loc cc1_stg1_0)))
      ∗ (((c : Thread nD τ).loc cc1_stg2_0) ↦{fullShare} (f2 : Buf (Elt F) (((c : Dev nD) : Thread nD τ).loc cc1_stg2_0)))
      ∗ (((c : Thread nD τ).loc cc1_stg3_0) ↦{fullShare} (f3 : Buf (Elt F) (((c : Dev nD) : Thread nD τ).loc cc1_stg3_0)))
      ∗ (((c : Thread nD τ).loc cc1_stg4_0) ↦{fullShare} (f4 : Buf (Elt F) (((c : Dev nD) : Thread nD τ).loc cc1_stg4_0)))
      ∗ (((c : Thread nD τ).loc cc1_stg5_0) ↦{fullShare} (f5 : Buf (Elt F) (((c : Dev nD) : Thread nD τ).loc cc1_stg5_0)))
      ∗ (((((c : Thread nD τ).loc cc1_stg0_0) ↦{fullShare} X)
        ∗ (((c : Thread nD τ).loc cc1_stg1_0) ↦{fullShare} ((finalN N X).planes.x1 : Buf (Elt F) (((c : Dev nD) : Thread nD τ).loc cc1_stg1_0)))
        ∗ (((c : Thread nD τ).loc cc1_stg2_0) ↦{fullShare} ((finalN N X).planes.y1 : Buf (Elt F) (((c : Dev nD) : Thread nD τ).loc cc1_stg2_0)))
        ∗ (((c : Thread nD τ).loc cc1_stg3_0) ↦{fullShare} ((finalN N X).planes.x2 : Buf (Elt F) (((c : Dev nD) : Thread nD τ).loc cc1_stg3_0)))
        ∗ (((c : Thread nD τ).loc cc1_stg4_0) ↦{fullShare} ((finalN N X).planes.y2 : Buf (Elt F) (((c : Dev nD) : Thread nD τ).loc cc1_stg4_0)))
        ∗ (((c : Thread nD τ).loc cc1_stg5_0) ↦{fullShare} ((finalN N X).planes.sc : Buf (Elt F) (((c : Dev nD) : Thread nD τ).loc cc1_stg5_0)))) -∗ K ⟨⟩))
      ⊢ wp frame (wpE (defs₀ (F := F)) Variants.nat (c : Thread nD τ) none) Set.univ
          (cc1__nms_body (F := F) (Memref.whole cc1_stg0_0) (Memref.isWhole_whole _)
            (Memref.whole cc1_stg1_0) (Memref.isWhole_whole _) (Memref.whole cc1_stg2_0) (Memref.isWhole_whole _)
            (Memref.whole cc1_stg3_0) (Memref.isWhole_whole _) (Memref.whole cc1_stg4_0) (Memref.isWhole_whole _)
            (Memref.whole cc1_stg5_0) (Memref.isWhole_whole _)) K := by
  simp only [cc1__nms_body_eq_skeleton]; unfold cc1__nms_body_skel
  simp only [Prog.lift, Prog.bind_op, Prog.bind_ret, Prog.pure_eq_ret, bind_assoc, pure_bind]
  rw [← rec_start]
  iintro ⟨HX, H1, H2, H3, H4, H5, Hk⟩
  iapply (wp_call_spec Variants.nat (c : Thread nD τ) none Set.univ
    (spec (U := U) c k1_pay1 X N start) N (fun u hu => nomatch hu)
    (spec_le (U := U) c k1_pay1 X Set.univ N 0 start hN rfl))
  rw [spec_apply]
  isplitl [HX]; · iexact HX
  iintro HX
  rw [show runN (F := F) k1_pay1 X N start = finalN N X from rfl]
  simp only [Ls.out]
  iapply (wp_load Variants.nat (c : Thread nD τ) none Set.univ (m := Memref.whole cc1_stg1_0) (Finset.subset_univ _)) $$ H1; iintro H1
  iapply (wp_store Variants.nat (c : Thread nD τ) none Set.univ (m := Memref.whole cc1_stg1_0) (r := Rect.unit (s := S8x128) ![0, 0] S8x128.size inb_S8x128_S8x128_0_0) (Mk := Finset.univ) (Finset.subset_univ _)) $$ H1; iintro H1
  iapply (wp_load Variants.nat (c : Thread nD τ) none Set.univ (m := Memref.whole cc1_stg2_0) (Finset.subset_univ _)) $$ H2; iintro H2
  iapply (wp_store Variants.nat (c : Thread nD τ) none Set.univ (m := Memref.whole cc1_stg2_0) (r := Rect.unit (s := S8x128) ![0, 0] S8x128.size inb_S8x128_S8x128_0_0) (Mk := Finset.univ) (Finset.subset_univ _)) $$ H2; iintro H2
  iapply (wp_load Variants.nat (c : Thread nD τ) none Set.univ (m := Memref.whole cc1_stg3_0) (Finset.subset_univ _)) $$ H3; iintro H3
  iapply (wp_store Variants.nat (c : Thread nD τ) none Set.univ (m := Memref.whole cc1_stg3_0) (r := Rect.unit (s := S8x128) ![0, 0] S8x128.size inb_S8x128_S8x128_0_0) (Mk := Finset.univ) (Finset.subset_univ _)) $$ H3; iintro H3
  iapply (wp_load Variants.nat (c : Thread nD τ) none Set.univ (m := Memref.whole cc1_stg4_0) (Finset.subset_univ _)) $$ H4; iintro H4
  iapply (wp_store Variants.nat (c : Thread nD τ) none Set.univ (m := Memref.whole cc1_stg4_0) (r := Rect.unit (s := S8x128) ![0, 0] S8x128.size inb_S8x128_S8x128_0_0) (Mk := Finset.univ) (Finset.subset_univ _)) $$ H4; iintro H4
  iapply (wp_load Variants.nat (c : Thread nD τ) none Set.univ (m := Memref.whole cc1_stg5_0) (Finset.subset_univ _)) $$ H5; iintro H5
  iapply (wp_store Variants.nat (c : Thread nD τ) none Set.univ (m := Memref.whole cc1_stg5_0) (r := Rect.unit (s := S8x128) ![0, 0] S8x128.size inb_S8x128_S8x128_0_0) (Mk := Finset.univ) (Finset.subset_univ _)) $$ H5; iintro H5
  rw [wp_ret]; imodintro
  iapply Hk
  isplitl [HX]; · iexact HX
  isplitl [H1]
  · rw [write_w1]
    iexact H1
  isplitl [H2]
  · rw [write_w2]
    iexact H2
  isplitl [H3]
  · rw [write_w3]
    iexact H3
  isplitl [H4]
  · rw [write_w4]
    iexact H4
  rw [write_w5]
  iexact H5

/-- The registers after the last trip over the table `X`. -/
def final (X : Tbl F) : Ls F := finalN 2500 X

end Runs

end Cert.KernelIdeal.Hand
-- ==== Proof.KI.Run.lean ====
/-
  The run of the whole program: the host operations, the decode call, the host operations between, the
  suppression call, the last host operations.  Every execution ends with the arguments as launched, the
  counters at zero and the result at what the last valuation holds.
-/
module

public import proofs.«01_k».proof.Proof.KI.Bodies
public import proofs.«01_k».proof.Proof.Gen.KernelIdeal.Regions
public import proofs.«01_k».proof.Proof.Gen.KernelIdeal.Points
public import Idealize.ShloMosaic.Lib.Pipeline.RegionArraysS
public import Idealize.ShloMosaic.Lib.Pipeline.ValueKit

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf afterRegion arrRef)

variable {F : FTy → Type} [FloatOps F]

/-- The ghost algebra: the rounds of the staging cells. -/
abbrev UR : Type := URounds (GSem nD τ sig) Unit

local notation "𝕄" => MT nD τ sig Unit (Elt F) ℕ UR ℕ

/-- Its embedding. -/
def EP : Emb UR (MT nD τ sig Unit (Elt F) ℕ UR ℕ) :=
  (Emb.refl _).trans (uEmb (nD := nD) (sig := sig) (Ix := Unit) (Val := Elt F) (Name := ℕ) (U := UR) (Lvl := ℕ)).toEmb

instance EP_landsIn : (EP : Emb UR 𝕄).LandsIn (upEmb : UEmb _ 𝕄) := by unfold EP; infer_instance

/-! ### The two calls' data, over the buffers each is entered with -/

/-- A core's buffers. -/
abbrev Val0 (F : FTy → Type) : Type := Dev nD → Valuation τ sig (Elt F)

variable (V : Val0 F)

/-- The transposed deltas and anchors the decode call reads. -/
def inD (c : Dev nD) : P4 F := V c main_v0
def inA (c : Dev nD) : P4 F := V c main_v1

/-- The table of sorted rows the suppression call reads. -/
def inT (c : Dev nD) : Tbl F := V c main_v31

def dat0 (c : Dev nD) : Dat τ (Elt F) Unit ℕ UR ℕ (cfg0 (F := F)) c where
  A w := V c (arrRef spec0 w)
  after w _ := match w with
    | ⟨0, _⟩ => inD V c
    | ⟨1, _⟩ => inA V c
    | ⟨2, _⟩ => decOut (inD V c) (inA V c)
  Φ _ := Pipeline.scopedRest spec0 c
  q _ := fullShare
  owed _ := 0

def dat1 (c : Dev nD) : Dat τ (Elt F) Unit ℕ UR ℕ (cfg1 (F := F)) c where
  A w := V c (arrRef spec1 w)
  after w _ := match w with
    | ⟨0, _⟩ => inT V c
    | ⟨1, _⟩ => (finalN 2500 (inT V c)).planes.x1
    | ⟨2, _⟩ => (finalN 2500 (inT V c)).planes.y1
    | ⟨3, _⟩ => (finalN 2500 (inT V c)).planes.x2
    | ⟨4, _⟩ => (finalN 2500 (inT V c)).planes.y2
    | ⟨5, _⟩ => (finalN 2500 (inT V c)).planes.sc
  Φ _ := Pipeline.scopedRest spec1 c
  q _ := fullShare
  owed _ := 0

theorem fill0_0 (c : Dev nD) (f : Buf (Elt F) ((c : Thread nD τ).loc main_v0)) (d : (cfg0 (F := F).win 0).block.Idx → Elt F (cfg0 (F := F).win 0).elt) :
    (cfg0 (F := F).win 0).fill (cfg0 (F := F).grid.coords t0_0) d (((cfg0 (F := F).win 0).blk t0_0).view.read (Elt F) f) = f := by
  funext j
  have hm : (cfg0 (F := F).win 0).moved (cfg0 (F := F).grid.coords t0_0) j = true :=
    ((cfg0 (F := F).win 0).moved_iff _ j).mpr fun a => (j a).isLt
  unfold Window.fill
  rw [dif_pos hm]
  refine congrArg f (funext fun a => Fin.ext ?_)
  have hz : ∀ a, (cfg0 (F := F).win 0).index t0_0 a = 0 := (by decide +kernel : ∀ a, win0_0.index t0_0 a = 0)
  exact Window.rect_emb_val_of_index_zero (cfg0 (F := F).win 0) t0_0 _ (hz a) _

theorem before0_0 (c : Dev nD) (d : (cfg0 (F := F).win 0).block.Idx → Elt F (cfg0 (F := F).win 0).elt) :
    (dat0 V c).before 0 t0_0 d = inD V c := by
  unfold Dat.before; rw [if_pos (fetch0_0 t0_0)]
  exact fill0_0 c _ d

theorem fill0_1 (c : Dev nD) (f : Buf (Elt F) ((c : Thread nD τ).loc main_v1)) (d : (cfg0 (F := F).win 1).block.Idx → Elt F (cfg0 (F := F).win 1).elt) :
    (cfg0 (F := F).win 1).fill (cfg0 (F := F).grid.coords t0_0) d (((cfg0 (F := F).win 1).blk t0_0).view.read (Elt F) f) = f := by
  funext j
  have hm : (cfg0 (F := F).win 1).moved (cfg0 (F := F).grid.coords t0_0) j = true :=
    ((cfg0 (F := F).win 1).moved_iff _ j).mpr fun a => (j a).isLt
  unfold Window.fill
  rw [dif_pos hm]
  refine congrArg f (funext fun a => Fin.ext ?_)
  have hz : ∀ a, (cfg0 (F := F).win 1).index t0_0 a = 0 := (by decide +kernel : ∀ a, win0_1.index t0_0 a = 0)
  exact Window.rect_emb_val_of_index_zero (cfg0 (F := F).win 1) t0_0 _ (hz a) _

theorem before0_1 (c : Dev nD) (d : (cfg0 (F := F).win 1).block.Idx → Elt F (cfg0 (F := F).win 1).elt) :
    (dat0 V c).before 1 t0_0 d = inA V c := by
  unfold Dat.before; rw [if_pos (fetch0_1 t0_0)]
  exact fill0_1 c _ d

theorem fill1_0 (c : Dev nD) (f : Buf (Elt F) ((c : Thread nD τ).loc main_v31)) (d : (cfg1 (F := F).win 0).block.Idx → Elt F (cfg1 (F := F).win 0).elt) :
    (cfg1 (F := F).win 0).fill (cfg1 (F := F).grid.coords t1_0) d (((cfg1 (F := F).win 0).blk t1_0).view.read (Elt F) f) = f := by
  funext j
  have hm : (cfg1 (F := F).win 0).moved (cfg1 (F := F).grid.coords t1_0) j = true :=
    ((cfg1 (F := F).win 0).moved_iff _ j).mpr fun a => (j a).isLt
  unfold Window.fill
  rw [dif_pos hm]
  refine congrArg f (funext fun a => Fin.ext ?_)
  have hz : ∀ a, (cfg1 (F := F).win 0).index t1_0 a = 0 := (by decide +kernel : ∀ a, win1_0.index t1_0 a = 0)
  exact Window.rect_emb_val_of_index_zero (cfg1 (F := F).win 0) t1_0 _ (hz a) _

theorem before1_0 (c : Dev nD) (d : (cfg1 (F := F).win 0).block.Idx → Elt F (cfg1 (F := F).win 0).elt) :
    (dat1 V c).before 0 t1_0 d = inT V c := by
  unfold Dat.before; rw [if_pos (fetch1_0 t1_0)]
  exact fill1_0 c _ d

theorem body0 (c : Dev nD) : BodyObligation (dat0 V c) (defs₀ (F := F)) Variants.nat () Set.univ := fun t => by
  obtain rfl := fin_N0 t
  rw [bigSep_W0, bigSep_W0]
  simp only [owns_whole_eq]
  rw [show (dat0 V c).Φ t0_0.castSucc = Pipeline.scopedRest spec0 c from rfl,
    show (dat0 V c).Φ t0_0.succ = Pipeline.scopedRest spec0 c from rfl]
  unfold Dat.owesAt Pipeline.owesWithin
  rw [show (dat0 V c).owed t0_0.castSucc = 0 from rfl, show (dat0 V c).owed t0_0.succ = 0 from rfl]
  iintro ⟨HR, ⟨%W, %hW, HO⟩, ⟨%d0, %f0, %hf0, H0⟩, ⟨%d1, %f1, %hf1, H1⟩, ⟨%d2, %f2, %hf2, H2⟩⟩
  replace hf0 := hf0.trans (before0_0 V c d0)
  replace hf1 := hf1.trans (before0_1 V c d1)
  subst hf0 hf1
  iapply (kernelRun0 (U := UR) c (inD V c) (inA V c) f2)
  isplitl [H0]; · iexact H0
  isplitl [H1]; · iexact H1
  isplitl [H2]; · iexact H2
  iintro ⟨H0, H1, H2⟩
  isplitl [HR]; · iexact HR
  isplitl [HO]
  · iexists W; isplitr; · ipureintro; exact fun _ _ => Or.inl trivial
    iexact HO
  isplitl [H0]
  · iexists _; isplitr; swap; (· iexact H0); ipureintro; dsimp only [dat0]
  isplitl [H1]
  · iexists _; isplitr; swap; (· iexact H1); ipureintro; dsimp only [dat0]
  iexists _; isplitr; swap; (· iexact H2); ipureintro; dsimp only [dat0]

theorem body1 (c : Dev nD) : BodyObligation (dat1 V c) (defs₀ (F := F)) Variants.nat () Set.univ := fun t => by
  obtain rfl := fin_N1 t
  rw [bigSep_W1, bigSep_W1]
  simp only [owns_whole_eq]
  rw [show (dat1 V c).Φ t1_0.castSucc = Pipeline.scopedRest spec1 c from rfl,
    show (dat1 V c).Φ t1_0.succ = Pipeline.scopedRest spec1 c from rfl]
  unfold Dat.owesAt Pipeline.owesWithin
  rw [show (dat1 V c).owed t1_0.castSucc = 0 from rfl, show (dat1 V c).owed t1_0.succ = 0 from rfl]
  iintro ⟨HR, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
  replace hf0 := hf0.trans (before1_0 V c d0)
  subst hf0
  iapply (kernelRunN (U := UR) c 2500 rfl (inT V c) f1 f2 f3 f4 f5)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HR]; · iexact HR
  isplitl [HO]
  · iexists W; isplitr; · ipureintro; exact fun _ _ => Or.inl trivial
    iexact HO
  isplitl [H0]
  · iexists _; isplitr; swap; (· iexact H0); ipureintro; dsimp only [dat1]
  isplitl [H1]
  · iexists _; isplitr; swap; (· iexact H1); ipureintro; dsimp only [dat1]
  isplitl [H2]
  · iexists _; isplitr; swap; (· iexact H2); ipureintro; dsimp only [dat1]
  isplitl [H3]
  · iexists _; isplitr; swap; (· iexact H3); ipureintro; dsimp only [dat1]
  isplitl [H4]
  · iexists _; isplitr; swap; (· iexact H4); ipureintro; dsimp only [dat1]
  iexists _; isplitr; swap; (· iexact H5); ipureintro; dsimp only [dat1]

/-! ### The two calls as steps of the program -/

variable (W : Val0 F)

def dats (p : Fin 2) (c : Dev nD) : Dat τ (Elt F) Unit ℕ UR ℕ (cfgs (F := F) p) c :=
  match p with
  | ⟨0, _⟩ => dat0 V c
  | ⟨1, _⟩ => dat1 W c

theorem arr_sub0 : Pipeline.arrRefs (τ := τ) spec0 ⊆ Pipeline.ucRefs τ sig :=
  Pipeline.arrRefs_sub_ucRefs spec0 (by decide)
theorem arr_sub1 : Pipeline.arrRefs (τ := τ) spec1 ⊆ Pipeline.ucRefs τ sig :=
  Pipeline.arrRefs_sub_ucRefs spec1 (by decide)

/-- Levels: the one index on every TensorCore cell, all at zero; nothing is owed. -/
def L : GSem nD τ sig → Finset Unit := fun g => if g.1.2 = .tc then {()} else ∅
abbrev lv : GSem nD τ sig → Unit → ℕ := fun _ _ => 0

theorem cut (p : Fin 2) : Pipeline.LevelCut (pcfgs (F := F)) adm () (L) lv p (fun _ => 0) (fun _ => 0) where
  hι c w s := by unfold L; rw [if_pos rfl]; exact Finset.mem_singleton_self _
  hιb c w s := le_refl _
  hD c g i h := absurd h (lt_irrefl _)

set_option backward.isDefEq.respectTransparency.types false in
def R0 : Pipeline.RegionSeg (pcfgs (F := F)) adm (dats V W) () defs₀ Variants.nat L lv 0 :=
  Pipeline.RegionSeg.ofHeldIn (pcfgs (F := F)) adm (dats V W) () defs₀ Variants.nat L lv 0 (fun _ => 0) (Pipeline.ucRefs τ sig)
    (fun _ => iprop(emp)) (fun _ => iprop(emp)) launch0.toP rfl (fun c => (body0 V c).loose) (fun _ _ => rfl) (fun _ => rfl)
    (fun c => (dat0 V c).share_full fun _ => rfl)
    (fun c => by
      show iprop(Pipeline.scopedRest spec0 c ∗ emp) ⊢ Pipeline.scopedRest spec0 c
      iintro ⟨H, -⟩; iexact H)
    (fun c => by
      show Pipeline.scopedRest spec0 c ⊢ iprop(Pipeline.scopedRest spec0 c ∗ emp)
      iintro H; isplitl [H]; · iexact H
      iempintro)
    (fun _ => 0) (cut 0) (fun _ => iprop(emp)) V (fun _ _ => rfl)

set_option backward.isDefEq.respectTransparency.types false in
def R1 : Pipeline.RegionSeg (pcfgs (F := F)) adm (dats V W) () defs₀ Variants.nat L lv 1 :=
  Pipeline.RegionSeg.ofHeldIn (pcfgs (F := F)) adm (dats V W) () defs₀ Variants.nat L lv 1 (fun _ => 0) (Pipeline.ucRefs τ sig)
    (fun _ => iprop(emp)) (fun _ => iprop(emp)) launch1.toP rfl (fun c => (body1 W c).loose) (fun _ _ => rfl) (fun _ => rfl)
    (fun c => (dat1 W c).share_full fun _ => rfl)
    (fun c => by
      show iprop(Pipeline.scopedRest spec1 c ∗ emp) ⊢ Pipeline.scopedRest spec1 c
      iintro ⟨H, -⟩; iexact H)
    (fun c => by
      show Pipeline.scopedRest spec1 c ⊢ iprop(Pipeline.scopedRest spec1 c ∗ emp)
      iintro H; isplitl [H]; · iexact H
      iempintro)
    (fun _ => 0) (cut 1) (fun _ => iprop(emp)) W (fun _ _ => rfl)

/-- What rides beside the buffers: the core owes nothing. -/
def E (_ : Fin 3) (c : Dev nD) : sProp 𝕄 :=
  iprop((∃ W, owes (c : Thread nD τ) (0 : CellTallies nD τ sig Unit) W) ∗ emp ∗ emp)

/-- What a call is entered with, and left with: its arrays, the other buffers, nothing owed. -/
def around (S : Finset (DevRef τ sig)) (X : Valuation τ sig (Elt F)) (Y : Valuation τ sig (Elt F)) (c : Dev nD) : sProp 𝕄 :=
  iprop(StableHlo.held (c.tc : Thread nD τ) S X ∗ emp
    ∗ (StableHlo.held (c.tc : Thread nD τ) (Pipeline.ucRefs τ sig \ S) Y ∗ emp)
    ∗ ∃ W, owes (c : Thread nD τ) (0 : CellTallies nD τ sig Unit) W)

theorem around_in {S : Finset (DevRef τ sig)} (hS : S ⊆ Pipeline.ucRefs τ sig) (X : Valuation τ sig (Elt F)) (c : Dev nD) (j : Fin 3) :
    iprop(StableHlo.held (c : Thread nD τ) (Pipeline.ucRefs τ sig) X ∗ E j c) ⊢ around S X X c := by
  unfold around E
  rw [StableHlo.held_sub_split (c.tc : Thread nD τ) hS X]
  iintro ⟨⟨Ha, Hu⟩, HO, -, -⟩
  isplitl [Ha]; · iexact Ha
  isplitr; · iempintro
  isplitl [Hu]
  · isplitl [Hu]; · iexact Hu
    iempintro
  iexact HO

theorem around_out {S : Finset (DevRef τ sig)} (hS : S ⊆ Pipeline.ucRefs τ sig) (X Y : Valuation τ sig (Elt F)) (c : Dev nD) (j : Fin 3)
    (h : ∀ b ∈ Pipeline.ucRefs τ sig \ S, X b = Y b) :
    around S X Y c ⊢ iprop(StableHlo.held (c : Thread nD τ) (Pipeline.ucRefs τ sig) X ∗ E j c) := by
  unfold around E
  rw [StableHlo.held_sub_split (c.tc : Thread nD τ) hS X,
    StableHlo.held_congr (c.tc : Thread nD τ) (S := Pipeline.ucRefs τ sig \ S) (V := X) (V' := Y) h]
  iintro ⟨Ha, -, ⟨Hu, -⟩, HO⟩
  isplitl [Ha Hu]
  · isplitl [Ha]; · iexact Ha
    iexact Hu
  isplitl [HO]; · iexact HO
  isplitr <;> iempintro

theorem R0_pre (c : Dev nD) : (R0 V W).pre c = around (Pipeline.arrRefs spec0) (V c) (V c) c := rfl
theorem R0_post (c : Dev nD) : (R0 V W).post c = around (Pipeline.arrRefs spec0) (afterRegion (dat0 V c) (V c)) (V c) c := rfl
theorem R1_pre (c : Dev nD) : (R1 V W).pre c = around (Pipeline.arrRefs spec1) (W c) (W c) c := rfl
theorem R1_post (c : Dev nD) : (R1 V W).post c = around (Pipeline.arrRefs spec1) (afterRegion (dat1 W c) (W c)) (W c) c := rfl

theorem pre0 (c : Dev nD) : iprop(StableHlo.held (c : Thread nD τ) (Pipeline.ucRefs τ sig) (V c) ∗ E 0 c) ⊢ (R0 V W).pre c := by
  rw [R0_pre]; exact around_in arr_sub0 (V c) c 0

theorem post0 (c : Dev nD) : (R0 V W).post c
    ⊢ iprop(StableHlo.held (c : Thread nD τ) (Pipeline.ucRefs τ sig) (afterRegion (dat0 V c) (V c)) ∗ E 1 c) := by
  rw [R0_post]; exact around_out arr_sub0 _ (V c) c 1 (Pipeline.afterRegion_off (dat0 V c) (V c) _)

theorem pre1 (c : Dev nD) : iprop(StableHlo.held (c : Thread nD τ) (Pipeline.ucRefs τ sig) (W c) ∗ E 1 c) ⊢ (R1 V W).pre c := by
  rw [R1_pre]; exact around_in arr_sub1 (W c) c 1

theorem post1 (c : Dev nD) : (R1 V W).post c
    ⊢ iprop(StableHlo.held (c : Thread nD τ) (Pipeline.ucRefs τ sig) (afterRegion (dat1 W c) (W c)) ∗ E 2 c) := by
  rw [R1_post]; exact around_out arr_sub1 _ (W c) c 2 (Pipeline.afterRegion_off (dat1 W c) (W c) _)

/-! ### The valuations between the calls -/

variable (m : (ℓ : Loc nD τ sig) → Buf (Elt F) ℓ) (ρ : Dev nD → PrngReg)

/-- What the decode call leaves, for the generated valuations. -/
def outs0 : Outs (F := F) := fun _ r c => afterRegion (dat0 (V1 m) c) (V1 m c) r

/-- What the two calls leave. -/
def outs : Outs (F := F) := fun J r c =>
  if J = 2 then afterRegion (dat0 (V1 m) c) (V1 m c) r else afterRegion (dat1 (V8 m (outs0 m)) c) (V8 m (outs0 m) c) r

theorem V8_outs (c : Dev nD) : V8 m (outs m) c = V8 m (outs0 m) c := rfl

/-! ### What a call leaves, buffer by buffer -/

theorem uc_ref (b : DevRef τ sig) (hb : b ∈ Pipeline.ucRefs τ sig) : ∃ r : Ref sig .tc, b = Proc.devRef .tc r := by
  obtain ⟨r, -, rfl⟩ := Finset.mem_map.mp (Finset.mem_filter.mp hb).1
  exact ⟨r, rfl⟩

theorem left0 (c : Dev nD) : ∀ b ∈ Pipeline.ucRefs τ sig, afterRegion (dat0 (V1 m) c) (V1 m c) b = V2 m (outs m) c b := by
  intro b hb
  obtain ⟨r, rfl⟩ := uc_ref b hb
  by_cases h : r ∈ ([main_v2] : List (Ref sig .tc))
  · obtain rfl := List.mem_singleton.mp h
    rw [V2, Function.update_self]; rfl
  · rw [V2_of m (outs m) c r h]
    refine Pipeline.afterRegion_keeps (dat0 (V1 m) c) (V1 m c) winFacts0.arr_inj (fun _ => rfl) r ?_
    intro w hw
    revert hw h
    revert r
    fin_cases w
    · intro r _ _ _; rfl
    · intro r _ _ _; rfl
    · intro r _ h hw; exact absurd (List.mem_singleton.mpr hw.symm) h

theorem left1 (c : Dev nD) : ∀ b ∈ Pipeline.ucRefs τ sig,
    afterRegion (dat1 (V8 m (outs m)) c) (V8 m (outs m) c) b = V9 m (outs m) c b := by
  intro b hb
  obtain ⟨r, rfl⟩ := uc_ref b hb
  by_cases h : r ∈ ([main_v32_0, main_v32_1, main_v32_2, main_v32_3, main_v32_4] : List (Ref sig .tc))
  · have hv : ∀ r : Ref sig .tc, outs m 9 r c = afterRegion (dat1 (V8 m (outs m)) c) (V8 m (outs m) c) r := fun _ => rfl
    simp only [List.mem_cons, List.mem_nil_iff, or_false] at h
    rcases h with rfl | rfl | rfl | rfl | rfl
    · rw [V9, Function.update_of_ne (StableHlo.devRef_ne_of_ne (by decide)), Function.update_of_ne (StableHlo.devRef_ne_of_ne (by decide)),
        Function.update_of_ne (StableHlo.devRef_ne_of_ne (by decide)), Function.update_of_ne (StableHlo.devRef_ne_of_ne (by decide)), Function.update_self, hv]
    · rw [V9, Function.update_of_ne (StableHlo.devRef_ne_of_ne (by decide)), Function.update_of_ne (StableHlo.devRef_ne_of_ne (by decide)),
        Function.update_of_ne (StableHlo.devRef_ne_of_ne (by decide)), Function.update_self, hv]
    · rw [V9, Function.update_of_ne (StableHlo.devRef_ne_of_ne (by decide)), Function.update_of_ne (StableHlo.devRef_ne_of_ne (by decide)),
        Function.update_self, hv]
    · rw [V9, Function.update_of_ne (StableHlo.devRef_ne_of_ne (by decide)), Function.update_self, hv]
    · rw [V9, Function.update_self, hv]
  · rw [V9_of m (outs m) c r h]
    refine Pipeline.afterRegion_keeps (dat1 (V8 m (outs m)) c) (V8 m (outs m) c) winFacts1.arr_inj (fun _ => rfl) r ?_
    intro w hw
    revert hw h
    revert r
    have hm : ∀ w : Fin 6, w ≠ 0 → arrRef spec1 w ∈ ([main_v32_0, main_v32_1, main_v32_2, main_v32_3, main_v32_4] : List (Ref sig .tc)) := by
      decide
    by_cases h0 : w = (0 : Fin 6)
    · subst h0; intro r _ _ _; rfl
    · intro r _ h hw; exact absurd (hw ▸ hm w h0) h

def u₀ : UR := initOf (Pipeline.cells (cfgs (F := F)) cellOf_inj) (Pipeline.launchToks (cfgs (F := F)) cellOf_inj)

theorem ownU_u₀ : (ownU (u₀ (F := F)) : sProp 𝕄)
    ⊢ BI.own (EP (initOf (Pipeline.cells (cfgs (F := F)) cellOf_inj) (Pipeline.launchToks (cfgs (F := F)) cellOf_inj))) := .rfl

/-- The buffers the calls are entered with. -/
def W1 : Val0 F := V1 m
def W8 : Val0 F := V8 m (outs m)

theorem entail0 (c : Dev nD) : (R0 (W1 m) (W8 m)).post c
    ⊢ iprop(StableHlo.held (c : Thread nD τ) (Pipeline.ucRefs τ sig) (V2 m (outs m) c) ∗ E 1 c) := by
  refine (post0 (W1 m) (W8 m) c).trans (sep_mono (Entails.of_eq ?_) .rfl)
  exact StableHlo.held_congr _ (left0 m c)

theorem entail1 (c : Dev nD) : (R1 (W1 m) (W8 m)).post c
    ⊢ iprop(StableHlo.held (c : Thread nD τ) (Pipeline.ucRefs τ sig) (V9 m (outs m) c) ∗ E 2 c) := by
  refine (post1 (W1 m) (W8 m) c).trans (sep_mono (Entails.of_eq ?_) .rfl)
  exact StableHlo.held_congr _ (left1 m c)

/-- The buffers at the end. -/
def W10 : Val0 F := V10 m (outs m)

-- the launch theorem's implicit arguments are found by unifying its conclusion with this one
set_option backward.isDefEq.respectTransparency.types false in
/-- Every execution ends, nothing faulting, with every unscoped buffer at the last valuation and the counters at zero. -/
theorem run_all : θ_run defs (onTc (τ := τ) (main (F := F))) ⟨m, fun _ => 0, ρ⟩ (fun r => (∀ c : Dev nD,
      ∀ b : Ref sig .tc, b.isScoped = false → r.2.mem ((c.tc : Thread nD τ).loc b) = W10 m c b)
      ∧ r.2.sem = fun _ => 0) := by
  refine Pipeline.θ_run_regions_kit_dev_sems (pcfgs (F := F)) adm (dats (W1 m) (W8 m)) () cellOf_inj EP defs₀ Variants.nat L lv m ρ main
    (segs m (outs m) Variants.nat L lv E () (dats (W1 m) (W8 m)) (R0 (W1 m) (W8 m)) (R1 (W1 m) (W8 m)))
    (fun c Q => by
      rewrite [main_chain c, Pipeline.Seg.run_eq_chain,
        show (segs m (outs m) Variants.nat L lv E () (dats (W1 m) (W8 m)) (R0 (W1 m) (W8 m)) (R1 (W1 m) (W8 m)) c).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide)
    (fun _ => 0) (fun g hg => if_neg hg) (fun _ => iprop(emp)) (u₀ (F := F))
    (by
      iintro Hu
      imodintro
      isplitl [Hu]; · iapply ownU_u₀; iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (W10 m c))
    (hch := fun c => ⟨.rfl, pre0 (W1 m) (W8 m) c, entail0 m c, .rfl, .rfl, .rfl, .rfl, .rfl, pre1 (W1 m) (W8 m) c, entail1 m c,
      sep_mono .rfl (by unfold E; iintro ⟨H, -⟩; iexact H)⟩)
    (hinit := ?_)
    (QY := fun c s => ∀ b : Ref sig .tc, b.isScoped = false → s.mem ((c.tc : Thread nD τ).loc b) = W10 m c b)
    (hfin := fun c s' => ?_) (hQ := fun _ h hz => ⟨h, funext fun g => hz g (.inr (regions_no_unscoped g.2))⟩)
  · refine Pipeline.initEach L lv fun c => ?_
    rw [Pipeline.unscopedBufs_held (Ix := Unit) (Name := ℕ) (U := UR) (Lvl := ℕ) c (V0 m c)]
    unfold E
    iintro ⟨⟨Hh, -, HO, -, -, -⟩, -⟩
    imodintro
    isplitl [Hh]; · iexact Hh
    isplitl [HO]; · iexists ∅; iexact HO
    isplitr <;> iempintro
  · unfold StableHlo.held
    iintro ⟨Hh, HSI⟩
    ihave Hr := (pointsTo_read_all (Pipeline.ucRefs τ sig) (fun b => ((c : Thread nD τ).1, b)) (W10 m c) s') $$ [Hh HSI]
    · isplitl [Hh] <;> iassumption
    icases Hr with ⟨%h, HSI⟩
    imodintro
    isplitr
    · ipureintro
      intro b hb
      exact h (Proc.devRef .tc b) (Finset.mem_filter.mpr ⟨StableHlo.devRef_mem_tcRefs b, by rw [Bool.not_eq_true]; exact hb⟩)
    · iexact HSI

/-- The frame: the arguments end as launched. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono
    (fun _ h => ⟨fun c => ⟨(h.1 c main_arg0 rfl).trans (V10_main_arg0 m (outs m) c), (h.1 c main_arg1 rfl).trans (V10_main_arg1 m (outs m) c),
      (h.1 c main_arg2 rfl).trans (V10_main_arg2 m (outs m) c)⟩, h.2⟩) (run_all m ρ)

end Cert.KernelIdeal.Hand
-- ==== Proof.RI.Frame.lean ====
/- The reference runs and leaves its arguments alone: none of its operations writes an argument. -/
module

public import proofs.«01_k».proof.Proof.Gen.ReferenceIdeal.Run
public import Idealize.ShloMosaic.Lib.Quiescent

@[expose] public section

set_option maxRecDepth 16384

noncomputable section

namespace Cert.ReferenceIdeal.Hand

open Idealize.ShloMosaic Idealize.ShloMosaic.StableHlo Idealize.SL.Sem Cert.ReferenceIdeal Cert.ReferenceIdeal.Gen Cert.ReferenceIdeal.Value

variable {F : FTy → Type} [FloatOps F]

/-- A buffer none of the body's operations writes is what it was. -/
theorem body_keep (V : Valuation τ sig (Elt F)) (r : Ref sig .tc)
    (h : r ∉ while0Ops0_W ++ while0Ops0_1_W ++ while0Ops0_2_W ++ while0Ops0_3_W ++ while0Ops0_4_W) :
    afterL bodyI V (Proc.devRef .tc r) = V (Proc.devRef .tc r) := by
  simp only [List.mem_append, not_or] at h
  obtain ⟨⟨⟨⟨h0, h1⟩, h2⟩, h3⟩, h4⟩ := h
  simp only [bodyI, afterL_cons, afterL_nil]
  rw [after_of_writes_sub while0Ops0_4 _ while0Ops0_4_writes h4, after_of_writes_sub while0Ops0_3 _ while0Ops0_3_writes h3,
    after_of_writes_sub while0Ops0_2 _ while0Ops0_2_writes h2, after_of_writes_sub while0Ops0_1 _ while0Ops0_1_writes h1,
    after_of_writes_sub while0Ops0 _ while0Ops0_writes h0]

variable (m : (ℓ : Loc nD τ sig) → Buf (Elt F) ℓ) (ρ : Dev nD → PrngReg)

/-- A buffer no trip writes is, after any number of trips, what it was at the loop's entry. -/
theorem loop_keep (r : Ref sig .tc) (h : r ∉ while0Ops0_W ++ while0Ops0_1_W ++ while0Ops0_2_W ++ while0Ops0_3_W ++ while0Ops0_4_W)
    (hc : r ∉ condOps_W) (c : Dev nD) (k : ℕ) :
    after condOps (atK m k c) (Proc.devRef .tc r) = entryContents preI m c (Proc.devRef .tc r) := by
  rw [after_of_writes_sub condOps _ condOps_writes hc]
  induction k with
  | zero => rfl
  | succ k ih =>
    rw [show atK m (k + 1) c = afterL bodyI (after condOps (atK m k c)) from rfl, body_keep _ r h,
      after_of_writes_sub condOps _ condOps_writes hc, ih]

/-- What the operations before the loop write. -/
abbrev preW : List (Ref sig .tc) :=
  hostOps0_W ++ hostOps0_1_W ++ hostOps0_2_W ++ hostOps0_3_W ++ hostOps0_4_W ++ hostOps0_5_W ++ hostOps0_6_W

/-- A buffer they do not write is as launched. -/
theorem pre_keep (V : Valuation τ sig (Elt F)) (r : Ref sig .tc) (h : r ∉ preW) :
    afterL preI V (Proc.devRef .tc r) = V (Proc.devRef .tc r) := by
  simp only [preW, List.mem_append, not_or] at h
  obtain ⟨⟨⟨⟨⟨⟨h0, h1⟩, h2⟩, h3⟩, h4⟩, h5⟩, h6⟩ := h
  simp only [preI, afterL_cons, afterL_nil]
  rw [after_of_writes_sub hostOps0_6 _ hostOps0_6_writes h6, after_of_writes_sub hostOps0_5 _ hostOps0_5_writes h5,
    after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- What `hostOps0_7` writes. -/
abbrev post7W : List (Ref sig .tc) := [main_v111]
theorem post7_writes : (hostOps0_7 : List (HloOp τ sig (Elt F))).Forall fun op => op.writes ⊆ (post7W.map (Proc.devRef (τ := τ) .tc)).toFinset :=
  forall_writes_sub_of_map rfl

/-- What `hostOps0_8` writes. -/
abbrev post8W : List (Ref sig .tc) := [main_call5_v0, main_call5_call0_c, main_call5_call0_v0, main_v112]
theorem post8_writes : (hostOps0_8 : List (HloOp τ sig (Elt F))).Forall fun op => op.writes ⊆ (post8W.map (Proc.devRef (τ := τ) .tc)).toFinset :=
  forall_writes_sub_of_map rfl

/-- What `hostOps0_9` writes. -/
abbrev post9W : List (Ref sig .tc) := [main_c_20, main_v113, main_c_21, main_v114, main_v115, main_c_22, main_v116, main_v117, main_v118, main_v119, main_c_23, main_v120, main_v121]
theorem post9_writes : (hostOps0_9 : List (HloOp τ sig (Elt F))).Forall fun op => op.writes ⊆ (post9W.map (Proc.devRef (τ := τ) .tc)).toFinset :=
  forall_writes_sub_of_map rfl

/-- What `hostOps0_10` writes. -/
abbrev post10W : List (Ref sig .tc) := [main_call6_call0_c, main_call6_call0_v0, main_v122]
theorem post10_writes : (hostOps0_10 : List (HloOp τ sig (Elt F))).Forall fun op => op.writes ⊆ (post10W.map (Proc.devRef (τ := τ) .tc)).toFinset :=
  forall_writes_sub_of_map rfl

/-- What `hostOps0_11` writes. -/
abbrev post11W : List (Ref sig .tc) := [main_c_24]
theorem post11_writes : (hostOps0_11 : List (HloOp τ sig (Elt F))).Forall fun op => op.writes ⊆ (post11W.map (Proc.devRef (τ := τ) .tc)).toFinset :=
  forall_writes_sub_of_map rfl

/-- What `hostOps0_12` writes. -/
abbrev post12W : List (Ref sig .tc) := [main_call7_v0, main_call7_v1, main_call7_v2, main_call7_v3, main_call7_v4, main_call7_v5, main_call7_v6, main_call7_v7, main_call7_v8, main_call7_c, main_call7_v9, main_call7_v10, main_call7_v11, main_call7_c_0, main_call7_v12, main_call7_v13, main_v123]
theorem post12_writes : (hostOps0_12 : List (HloOp τ sig (Elt F))).Forall fun op => op.writes ⊆ (post12W.map (Proc.devRef (τ := τ) .tc)).toFinset :=
  forall_writes_sub_of_map rfl

/-- What `hostOps0_13` writes. -/
abbrev post13W : List (Ref sig .tc) := [main_c_25]
theorem post13_writes : (hostOps0_13 : List (HloOp τ sig (Elt F))).Forall fun op => op.writes ⊆ (post13W.map (Proc.devRef (τ := τ) .tc)).toFinset :=
  forall_writes_sub_of_map rfl

/-- What `hostOps0_14` writes. -/
abbrev post14W : List (Ref sig .tc) := [main_call8_v0, main_call8_c, main_call8_v1, main_call8_c_0, main_call8_v2, main_call8_v3, main_call8_v4, main_call8_c_1, main_call8_v5, main_call8_v6, main_call8_c_2, main_call8_v7, main_call8_v8, main_call8_c_3, main_call8_v9, main_call8_v10, main_call8_v11, main_call8_v12, main_call8_v13, main_call8_v14, main_v124]
theorem post14_writes : (hostOps0_14 : List (HloOp τ sig (Elt F))).Forall fun op => op.writes ⊆ (post14W.map (Proc.devRef (τ := τ) .tc)).toFinset :=
  forall_writes_sub_of_map rfl

/-- What `hostOps0_15` writes. -/
abbrev post15W : List (Ref sig .tc) := [main_v125, main_c_26, main_v126, main_v127, main_v128, main_v129, main_v130, main_c_27, main_v131]
theorem post15_writes : (hostOps0_15 : List (HloOp τ sig (Elt F))).Forall fun op => op.writes ⊆ (post15W.map (Proc.devRef (τ := τ) .tc)).toFinset :=
  forall_writes_sub_of_map rfl

/-- What `hostOps0_16` writes. -/
abbrev post16W : List (Ref sig .tc) := [main_call9_v0, main_v132]
theorem post16_writes : (hostOps0_16 : List (HloOp τ sig (Elt F))).Forall fun op => op.writes ⊆ (post16W.map (Proc.devRef (τ := τ) .tc)).toFinset :=
  forall_writes_sub_of_map rfl

/-- What `hostOps0_17` writes. -/
abbrev post17W : List (Ref sig .tc) := [main_v133, main_c_28, main_v134, main_c_29, main_v135, main_v136, main_v137, main_v138, main_v139, main_c_30, main_v140, main_v141, main_c_31, main_v142, main_v143, main_v144, main_v145, main_v146, main_v147, main_v148, main_v149, main_c_32, main_v150, main_v151, main_c_33, main_v152, main_v153, main_v154, main_v155, main_v156, main_v157, main_v158, main_v159]
theorem post17_writes : (hostOps0_17 : List (HloOp τ sig (Elt F))).Forall fun op => op.writes ⊆ (post17W.map (Proc.devRef (τ := τ) .tc)).toFinset :=
  forall_writes_sub_of_map rfl

/-- A buffer they do not write is untouched by the operations after the loop. -/
theorem post_keep (V : Valuation τ sig (Elt F)) (r : Ref sig .tc) (h7 : r ∉ post7W) (h8 : r ∉ post8W)
    (h9 : r ∉ post9W) (h10 : r ∉ post10W) (h11 : r ∉ post11W) (h12 : r ∉ post12W)
    (h13 : r ∉ post13W) (h14 : r ∉ post14W) (h15 : r ∉ post15W) (h16 : r ∉ post16W)
    (h17 : r ∉ post17W) :
    afterL postI V (Proc.devRef .tc r) = V (Proc.devRef .tc r) := by
  simp only [postI, afterL_cons, afterL_nil]
  rw [after_of_writes_sub hostOps0_17 _ post17_writes h17, after_of_writes_sub hostOps0_16 _ post16_writes h16,
    after_of_writes_sub hostOps0_15 _ post15_writes h15, after_of_writes_sub hostOps0_14 _ post14_writes h14,
    after_of_writes_sub hostOps0_13 _ post13_writes h13, after_of_writes_sub hostOps0_12 _ post12_writes h12,
    after_of_writes_sub hostOps0_11 _ post11_writes h11, after_of_writes_sub hostOps0_10 _ post10_writes h10,
    after_of_writes_sub hostOps0_9 _ post9_writes h9, after_of_writes_sub hostOps0_8 _ post8_writes h8,
    after_of_writes_sub hostOps0_7 _ post7_writes h7]

/-- What a core's buffers hold when the reference ends. -/
abbrev endC (c : Dev nD) : Valuation τ sig (Elt F) := finalContents condOps preI bodyI postI 20000 m c

theorem end_arg0 (c : Dev nD) : endC m c (Proc.devRef .tc main_arg0) = m ((c.tc : Thread nD τ).loc main_arg0) := by
  refine (post_keep _ main_arg0 ?_ ?_ ?_ ?_ ?_ ?_ ?_ ?_ ?_ ?_ ?_).trans ((loop_keep m main_arg0 ?_ ?_ c 20000).trans (pre_keep _ main_arg0 ?_))
  all_goals decide +kernel

theorem end_arg1 (c : Dev nD) : endC m c (Proc.devRef .tc main_arg1) = m ((c.tc : Thread nD τ).loc main_arg1) := by
  refine (post_keep _ main_arg1 ?_ ?_ ?_ ?_ ?_ ?_ ?_ ?_ ?_ ?_ ?_).trans ((loop_keep m main_arg1 ?_ ?_ c 20000).trans (pre_keep _ main_arg1 ?_))
  all_goals decide +kernel

theorem end_arg2 (c : Dev nD) : endC m c (Proc.devRef .tc main_arg2) = m ((c.tc : Thread nD τ).loc main_arg2) := by
  refine (post_keep _ main_arg2 ?_ ?_ ?_ ?_ ?_ ?_ ?_ ?_ ?_ ?_ ?_).trans ((loop_keep m main_arg2 ?_ ?_ c 20000).trans (pre_keep _ main_arg2 ?_))
  all_goals decide +kernel

/-- The frame: the arguments end as launched, and with no semaphore in the program every counter is zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono
    (fun r h => ⟨fun c => ⟨(h c main_arg0 rfl).trans (end_arg0 m c), (h c main_arg1 rfl).trans (end_arg1 m c),
      (h c main_arg2 rfl).trans (end_arg2 m c)⟩, sem_eq_zero_of_no_sems rfl _⟩) (run_fold m ρ)

end Cert.ReferenceIdeal.Hand
-- ==== Proof.Nms.lean ====
/- Greedy suppression as a function of lists. A row joins the kept rows when it is not bad and no kept row
   overlaps it. Kept rows never leave, so what a prefix of the rows keeps is a prefix of what all of them keep. The
   same rows are the ones a table of marks leaves unmarked, when each unmarked row in turn marks the later rows it
   overlaps. Last, the position of the `s`-th kept row is the number of positions up to which at most `s` are kept. -/
module

public import Mathlib.Data.Nat.Count
public import Mathlib.Order.Interval.Finset.Nat
public import Mathlib.Data.List.Range
public import Mathlib.Tactic.Push

@[expose] public section

namespace Nms

open scoped Classical

noncomputable section

variable {α : Type} (bad : α → Prop) (ov : α → α → Prop)

/-- The row joins the kept rows. -/
def joins (L : List α) (r : α) : Prop := ¬ bad r ∧ ∀ q ∈ L, ¬ ov q r

/-- The kept rows after one more row. -/
def grow (L : List α) (r : α) : List α := if joins bad ov L r then L ++ [r] else L

/-- The rows kept out of the first `n`. -/
def kept (row : ℕ → α) : ℕ → List α
  | 0 => []
  | n + 1 => grow bad ov (kept row n) (row n)

variable {bad ov}

theorem grow_prefix (L : List α) (r : α) : L <+: grow bad ov L r := by
  unfold grow; split
  · exact List.prefix_append _ _
  · exact List.prefix_refl _

theorem grow_bad {L : List α} {r : α} (h : bad r) : grow bad ov L r = L := by
  unfold grow; rw [if_neg]; exact fun hj => hj.1 h

theorem length_grow_le (L : List α) (r : α) : (grow bad ov L r).length ≤ L.length + 1 := by
  unfold grow; split <;> simp

/-- What fewer rows keep is a prefix of what more rows keep. -/
theorem kept_prefix (row : ℕ → α) {a b : ℕ} (h : a ≤ b) : kept bad ov row a <+: kept bad ov row b := by
  induction b, h using Nat.le_induction with
  | base => exact List.prefix_refl _
  | succ b _ ih => exact ih.trans (grow_prefix _ _)

/-- Bad rows keep nothing. -/
theorem kept_of_bad (row : ℕ → α) {a b : ℕ} (h : a ≤ b) (hb : ∀ j, a ≤ j → j < b → bad (row j)) :
    kept bad ov row b = kept bad ov row a := by
  induction b, h using Nat.le_induction with
  | base => rfl
  | succ b hab ih =>
    rw [kept, grow_bad (hb b hab (Nat.lt_succ_self b)), ih fun j h1 h2 => hb j h1 (h2.trans (Nat.lt_succ_self b))]

/-- The marks after `k` rows have had their turn. -/
def marks (bad : α → Prop) (ov : α → α → Prop) (row : ℕ → α) : ℕ → ℕ → Prop
  | 0, j => bad (row j)
  | k + 1, j => marks bad ov row k j ∨ (¬ marks bad ov row k k ∧ ov (row k) (row j) ∧ k < j)

/-- A row is not marked after its own turn. -/
theorem marks_stable (row : ℕ → α) {j n : ℕ} (h : j ≤ n) : marks bad ov row n j ↔ marks bad ov row j j := by
  induction n, h using Nat.le_induction with
  | base => rfl
  | succ n hn ih =>
    rw [marks, ih]
    constructor
    · rintro (h | ⟨_, _, h⟩)
      · exact h
      · omega
    · exact Or.inl

/-- A row's marks come from being bad or from an unmarked row before. -/
theorem marks_iff (row : ℕ → α) (k j : ℕ) (h : k ≤ j) : marks bad ov row k j ↔
    bad (row j) ∨ ∃ i < k, ¬ marks bad ov row i i ∧ ov (row i) (row j) := by
  induction k with
  | zero => simp [marks]
  | succ k ih =>
    rw [marks, ih (by omega)]
    constructor
    · rintro ((h | ⟨i, hi, hm, ho⟩) | ⟨hm, ho, _⟩)
      · exact Or.inl h
      · exact Or.inr ⟨i, by omega, hm, ho⟩
      · exact Or.inr ⟨k, by omega, hm, ho⟩
    · rintro (h | ⟨i, hi, hm, ho⟩)
      · exact Or.inl (Or.inl h)
      · rcases Nat.lt_succ_iff_lt_or_eq.mp hi with hi | rfl
        · exact Or.inl (Or.inr ⟨i, hi, hm, ho⟩)
        · exact Or.inr ⟨hm, ho, by omega⟩

/-- The unmarked rows, in order, are the kept rows. -/
theorem kept_eq_unmarked (row : ℕ → α) (n : ℕ) : kept bad ov row n
    = ((List.range n).filter fun j => decide (¬ marks bad ov row j j)).map row := by
  induction n with
  | zero => rfl
  | succ n ih =>
    rw [List.range_succ, List.filter_append, List.map_append, ← ih, kept, grow]
    have hj : joins bad ov (kept bad ov row n) (row n) ↔ ¬ marks bad ov row n n := by
      rw [marks_iff row n n le_rfl, ih]
      unfold joins
      simp only [List.mem_map, List.mem_filter, List.mem_range, decide_eq_true_eq]
      constructor
      · rintro ⟨h1, h2⟩ (h | ⟨i, hi, hm, ho⟩)
        · exact h1 h
        · exact h2 _ ⟨i, ⟨hi, hm⟩, rfl⟩ ho
      · intro h
        refine ⟨fun hb => h (Or.inl hb), ?_⟩
        rintro _ ⟨i, ⟨hi, hm⟩, rfl⟩ ho
        exact h (Or.inr ⟨i, hi, hm, ho⟩)
    by_cases hm : marks bad ov row n n
    · rw [if_neg (by rw [hj]; exact not_not.mpr hm)]; simp [hm]
    · rw [if_pos (hj.mpr hm)]; simp [hm]

/-! ### Positions of the kept rows -/

/-- The chosen numbers below `N`, in order, number as many as the count says, and each sits at its count. -/
theorem filter_range (p : ℕ → Prop) (N : ℕ) : ((List.range N).filter fun j => decide (p j)).length = Nat.count p N
    ∧ ∀ s (h : s < ((List.range N).filter fun j => decide (p j)).length),
        p (((List.range N).filter fun j => decide (p j))[s])
        ∧ ((List.range N).filter fun j => decide (p j))[s] < N
        ∧ Nat.count p (((List.range N).filter fun j => decide (p j))[s]) = s := by
  induction N with
  | zero => exact ⟨by simp, fun s h => absurd h (by simp)⟩
  | succ N ih =>
    obtain ⟨hl, hs⟩ := ih
    by_cases hp : p N
    · have he : ((List.range (N + 1)).filter fun j => decide (p j)) = ((List.range N).filter fun j => decide (p j)) ++ [N] := by
        rw [List.range_succ, List.filter_append]; simp [hp]
      refine ⟨by rw [he, List.length_append, hl, Nat.count_succ, if_pos hp]; rfl, fun s h => ?_⟩
      simp only [he]
      rcases Nat.lt_or_ge s ((List.range N).filter fun j => decide (p j)).length with h' | h'
      · rw [List.getElem_append_left h']
        obtain ⟨a, b, c⟩ := hs s h'
        exact ⟨a, by omega, c⟩
      · have hsN : s = ((List.range N).filter fun j => decide (p j)).length := by
          rw [he, List.length_append] at h; simp only [List.length_singleton] at h; omega
        rw [List.getElem_append_right h']
        simp only [List.getElem_singleton]
        exact ⟨hp, by omega, by rw [hsN, hl]⟩
    · have he : ((List.range (N + 1)).filter fun j => decide (p j)) = ((List.range N).filter fun j => decide (p j)) := by
        rw [List.range_succ, List.filter_append]; simp [hp]
      refine ⟨by rw [he, hl, Nat.count_succ, if_neg hp]; rfl, fun s h => ?_⟩
      simp only [he]
      rw [he] at h
      obtain ⟨a, b, c⟩ := hs s h
      exact ⟨a, by omega, c⟩

/-- The number of positions up to which at most `s` are chosen is the position of the `s`-th chosen one. -/
theorem card_count_le (p : ℕ → Prop) (N q s : ℕ) (hq : q < N) (hp : p q) (hc : Nat.count p q = s) :
    ((Finset.range N).filter fun j => Nat.count p (j + 1) ≤ s).card = q := by
  have : (Finset.range N).filter (fun j => Nat.count p (j + 1) ≤ s) = Finset.range q := by
    ext j
    simp only [Finset.mem_filter, Finset.mem_range]
    constructor
    · rintro ⟨_, h⟩
      by_contra hj
      have h1 : Nat.count p (q + 1) ≤ Nat.count p (j + 1) := Nat.count_monotone p (by omega)
      rw [Nat.count_succ, if_pos hp] at h1
      omega
    · intro h
      have h1 : Nat.count p (j + 1) ≤ Nat.count p q := Nat.count_monotone p (by omega)
      omega
  rw [this, Finset.card_range]

end

end Nms
-- ==== Proof.KI.Slots.lean ====
/- The registers of the suppression loop over the extended reals, as a function of the rows kept so far. Slot `k` of
   every plane holds the `k`-th kept row, the slots after the last are zero, and the one-hot plane marks the next slot.
   One candidate turns the registers of the kept rows into the registers of the kept rows grown by it. -/
module

public import proofs.«01_k».proof.Proof.KI.Blk
public import proofs.«01_k».proof.Proof.Nms
public import Idealize.ShloMosaic.Lib.ValueIdx
public import Idealize.ShloMosaic.Lib.IdealHost
public import Idealize.ShloMosaic.Lib.Pipeline.Value

@[expose] public section

set_option maxRecDepth 16384

noncomputable section

namespace Cert.KernelIdeal.Hand

open Idealize.ShloMosaic Idealize.SL.Sem
open Cert.KernelIdeal Cert.KernelIdeal.Gen

/-- A row whose score is negative. -/
def badRow (r : Cand Ideal) : Prop := inval r = 1#1

/-- The overlap of two boxes. -/
def interE (q r : Cand Ideal) : EReal :=
  max (min q.x2 r.x2 - max q.x1 r.x1) 0 * max (min q.y2 r.y2 - max q.y1 r.y1) 0

/-- A box's area. -/
def areaE (r : Cand Ideal) : EReal := (r.x2 - r.x1) * (r.y2 - r.y1)

/-- Their overlap's share of their union. -/
def ratioE (q r : Cand Ideal) : EReal :=
  Ideal.div (interE q r) (areaE q + areaE r - interE q r + Ideal.ofBits .f32 0x3089705F#32)

/-- The ratio passes one half. -/
def ovRow (q r : Cand Ideal) : Prop := Ideal.cmp .ogt (ratioE q r) (Ideal.ofBits .f32 0x3F000000#32) = 1#1

/-- A slot's place in the planes, row after row. -/
def lin (i : S8x128.Idx) : ℕ := 128 * (i 0).val + (i 1).val

theorem lin_lt (i : S8x128.Idx) : lin i < 1024 := by
  have h0 := ValueIdx.idx2_lt0 i
  have h1 := ValueIdx.idx2_lt1 i
  unfold lin; omega

theorem lin_inj {i j : S8x128.Idx} (h : lin i = lin j) : i = j := by
  have h0 := ValueIdx.idx2_lt0 i
  have h1 := ValueIdx.idx2_lt1 i
  have h0' := ValueIdx.idx2_lt0 j
  have h1' := ValueIdx.idx2_lt1 j
  unfold lin at h
  funext a
  match a with
  | ⟨0, _⟩ => exact Fin.ext (show (i 0).val = (j 0).val by omega)
  | ⟨1, _⟩ => exact Fin.ext (show (i 1).val = (j 1).val by omega)

/-- The place `k` as an index. -/
def atLin (k : ℕ) (h : k < 1024) : S8x128.Idx :=
  ValueIdx.ix2 (⟨k / 128, by omega⟩ : Fin 8) (⟨k % 128, Nat.mod_lt _ (by omega)⟩ : Fin 128)

theorem lin_atLin (k : ℕ) (h : k < 1024) : lin (atLin k h) = k := by
  show 128 * (k / 128) + k % 128 = k
  exact Nat.div_add_mod k 128

/-- A plane of one field of the kept rows. -/
def slot (L : List (Cand Ideal)) (f : Cand Ideal → EReal) : FVec Ideal S8x128 .f32 :=
  fun i => if h : lin i < L.length then f L[lin i] else 0

/-- The plane marking place `k`. -/
def onehot (k : ℕ) : FVec Ideal S8x128 .f32 := fun i => if lin i = k then (1 : EReal) else 0

/-- The registers of the kept rows. -/
def regs (L : List (Cand Ideal)) (nk : BitVec 32) (bad : BitVec 1) : Bs Ideal where
  pos := onehot L.length
  lt := slot L fun _ => 1
  kx1 := slot L (·.x1)
  ky1 := slot L (·.y1)
  kx2 := slot L (·.x2)
  ky2 := slot L (·.y2)
  ks := slot L (·.sc)
  ka := slot L areaE
  nk := nk
  bad := bad

theorem bit_cases (b : BitVec 1) : b = 0#1 ∨ b = 1#1 := by revert b; decide

theorem cmp_ogt_iff (x y : EReal) : Ideal.cmp .ogt x y = 1#1 ↔ y < x := by
  unfold Ideal.cmp
  by_cases h : y < x <;> simp [h]

theorem cmp_olt_iff (x y : EReal) : Ideal.cmp .olt x y = 1#1 ↔ x < y := by
  unfold Ideal.cmp
  by_cases h : x < y <;> simp [h]

/-! ### Which slots overlap -/

theorem over_at (L : List (Cand Ideal)) (nk : BitVec 32) (bad : BitVec 1) (r : Cand Ideal) (i : S8x128.Idx)
    (h : lin i < L.length) : over (regs L nk bad) r i = 1#1 ↔ ovRow L[lin i] r := by
  have e : over (regs L nk bad) r i
      = Ideal.cmp .ogt (Ideal.div
          (max (min (slot L (·.x2) i) r.x2 - max (slot L (·.x1) i) r.x1) (Ideal.ofBits .f32 0x00000000#32)
            * max (min (slot L (·.y2) i) r.y2 - max (slot L (·.y1) i) r.y1) (Ideal.ofBits .f32 0x00000000#32))
          (slot L areaE i + areaE r
            - max (min (slot L (·.x2) i) r.x2 - max (slot L (·.x1) i) r.x1) (Ideal.ofBits .f32 0x00000000#32)
            * max (min (slot L (·.y2) i) r.y2 - max (slot L (·.y1) i) r.y1) (Ideal.ofBits .f32 0x00000000#32)
            + Ideal.ofBits .f32 0x3089705F#32)) (Ideal.ofBits .f32 0x3F000000#32) := rfl
  rw [e, Ideal.ofBits_zero_f32]
  simp only [slot, h, dif_pos]
  rfl

theorem live_at (L : List (Cand Ideal)) (nk : BitVec 32) (bad : BitVec 1) (i : S8x128.Idx) :
    live (regs L nk bad) i = 1#1 ↔ lin i < L.length := by
  have e : live (regs L nk bad) i = Ideal.cmp .ogt (slot L (fun _ => 1) i) (Ideal.ofBits .f32 0x00000000#32) := rfl
  rw [e, cmp_ogt_iff, Ideal.ofBits_zero_f32]
  unfold slot
  split <;> simp_all

theorem size_S1 (b : Fin S1.rank) : S1.size b = 1 := by revert b; decide

/-- A reduction of a plane to its largest element passes zero when some element does. -/
theorem max_pos_iff (v : FVec Ideal S8x128 .f32) :
    (0 : EReal) < extractAt ![0, 0, 0] (shapeCast S1x1x1 (multiReduction .maximumf [1, 2] S1
      (shapeCast S1x8x128 v shapeCasts_S8x128_S1x8x128) 0xFF800000#32 reduces_S1x8x128_S1 (.inl rfl) rfl)
      shapeCasts_S1_S1x1x1) inpos_S1x1x1_p0_0_0 ↔ ∃ i, 0 < v i := by
  have hb : ¬ (0 : EReal) < FloatOps.ofBits (F := Ideal) .f32 0xFF800000#32 := by
    rw [Ideal.ofBits_def]; simp [Ideal.ofBits, Ideal.ieee]
  generalize hj : Shape.reshapeEquiv shapeCasts_S1_S1x1x1
    (fun a => ⟨(![0, 0, 0] : Fin 3 → ℕ) a, inpos_S1x1x1_p0_0_0 a⟩) = j
  have e : extractAt ![0, 0, 0] (shapeCast S1x1x1 (multiReduction .maximumf [1, 2] S1
      (shapeCast S1x8x128 v shapeCasts_S8x128_S1x8x128) 0xFF800000#32 reduces_S1x8x128_S1 (.inl rfl) rfl)
      shapeCasts_S1_S1x1x1) inpos_S1x1x1_p0_0_0
      = (Finset.univ.filter fun i => reduces_S1x8x128_S1.drop i = j).fold FloatOps.maximumf
          (FloatOps.ofBits (F := Ideal) .f32 0xFF800000#32) (shapeCast S1x8x128 v shapeCasts_S8x128_S1x8x128) := by
    rw [← hj]
    exact multiReduction_maximumf_eq_fold (F := Ideal) (shapeCast S1x8x128 v shapeCasts_S8x128_S1x8x128) 0xFF800000#32
      reduces_S1x8x128_S1 (.inl rfl) rfl _
  rw [e]
  rw [Finset.filter_true_of_mem fun i _ => funext fun b => Fin.ext (by
    have := (reduces_S1x8x128_S1.drop i b).isLt
    have := (j b).isLt
    have hs : S1.size b = 1 := size_S1 b
    omega)]
  have hf := Finset.lt_fold_max (β := EReal) (s := (Finset.univ : Finset S1x8x128.Idx))
    (f := shapeCast S1x8x128 v shapeCasts_S8x128_S1x8x128) (b := FloatOps.ofBits (F := Ideal) .f32 0xFF800000#32) (c := 0)
  refine Iff.trans hf ?_
  constructor
  · rintro (h | ⟨i, _, h⟩)
    · exact absurd h hb
    · exact ⟨_, h⟩
  · rintro ⟨i, h⟩
    refine Or.inr ⟨(Shape.reshapeEquiv shapeCasts_S8x128_S1x8x128).symm i, Finset.mem_univ _, ?_⟩
    show 0 < v (Shape.reshapeEquiv shapeCasts_S8x128_S1x8x128 ((Shape.reshapeEquiv shapeCasts_S8x128_S1x8x128).symm i))
    rw [Equiv.apply_symm_apply]
    exact h

/-- The candidate is suppressed exactly when a kept row overlaps it. -/
theorem sup_iff (L : List (Cand Ideal)) (hL : L.length ≤ 1024) (nk : BitVec 32) (bad : BitVec 1) (r : Cand Ideal) :
    sup (regs L nk bad) r = 1#1 ↔ ∃ q ∈ L, ovRow q r := by
  unfold sup hit
  rw [Ideal.scalar_cmpf_def, cmp_ogt_iff]
  rw [show (Scalar.ofBits .f32 0x00000000#32 : Ideal .f32) = (0 : EReal) from Ideal.ofBits_zero_f32]
  rw [max_pos_iff]
  have hsel : ∀ i, (0 : EReal) < select (andi (over (regs L nk bad) r) (live (regs L nk bad)))
      (broadcast S8x128 (Scalar.ofBits (F := Ideal) .f32 0x3F800000#32)) zeroV i
      ↔ over (regs L nk bad) r i = 1#1 ∧ live (regs L nk bad) i = 1#1 := by
    intro i
    show (0 : EReal) < Scalar.select (over (regs L nk bad) r i &&& live (regs L nk bad) i)
      (Ideal.ofBits .f32 0x3F800000#32) (Ideal.ofBits .f32 0x00000000#32) ↔ _
    rw [Ideal.ofBits_one_f32, Ideal.ofBits_zero_f32]
    rcases bit_cases (over (regs L nk bad) r i) with h1 | h1 <;>
      rcases bit_cases (live (regs L nk bad) i) with h2 | h2 <;> rw [h1, h2] <;> simp [Scalar.select]
  simp only [hsel]
  constructor
  · rintro ⟨i, h1, h2⟩
    have hl := (live_at L nk bad i).mp h2
    exact ⟨_, List.getElem_mem hl, (over_at L nk bad r i hl).mp h1⟩
  · rintro ⟨q, hq, ho⟩
    obtain ⟨k, hk, rfl⟩ := List.mem_iff_getElem.mp hq
    have hl : lin (atLin k (by omega)) < L.length := by rw [lin_atLin]; exact hk
    refine ⟨atLin k (by omega), (over_at L nk bad r _ hl).mpr ?_, (live_at L nk bad _).mpr hl⟩
    simp only [lin_atLin]
    exact ho

/-- The candidate is kept exactly when it joins the kept rows. -/
theorem kb_iff (L : List (Cand Ideal)) (hL : L.length ≤ 1024) (nk : BitVec 32) (bad : BitVec 1) (r : Cand Ideal) :
    kb (regs L nk bad) r = 1#1 ↔ Nms.joins badRow ovRow L r := by
  have h : ∀ a b : BitVec 1, Scalar.andi (Scalar.xori a 1#1) (Scalar.xori b 1#1) = 1#1 ↔ ¬ a = 1#1 ∧ ¬ b = 1#1 := by decide
  unfold kb
  rw [h, sup_iff L hL]
  unfold Nms.joins badRow
  simp only [not_exists, not_and]

/-! ### The one-hot plane -/

theorem roll1_zero (p : FVec Ideal S8x128 .f32) (i : S8x128.Idx) (h : (i 1).val = 0) :
    roll1 p i = p (ValueIdx.ix2 (i 0) (127 : Fin 128)) := by
  unfold roll1
  rw [concatenate_pair_apply_left (t := S8x128) (s₁ := S8x1) (s₂ := S8x127) (1 : Fin 2) _ _ _ i rfl (ValueIdx.ix2 (i 0) (0 : Fin 1)) (fun b => by
    match b with
    | ⟨0, _⟩ => rfl
    | ⟨1, _⟩ => exact h.symm)]
  unfold extractStridedSlice
  congr 1
  funext a
  match a with
  | ⟨0, _⟩ => exact Fin.ext (Nat.zero_add _)
  | ⟨1, _⟩ => rfl

theorem roll1_succ (p : FVec Ideal S8x128 .f32) (i : S8x128.Idx) (h : (i 1).val ≠ 0) :
    roll1 p i = p (ValueIdx.ix2 (i 0) (⟨(i 1).val - 1, by have := ValueIdx.idx2_lt1 i; omega⟩ : Fin 128)) := by
  have h1 := ValueIdx.idx2_lt1 i
  unfold roll1
  rw [concatenate_pair_apply_right (t := S8x128) (s₁ := S8x1) (s₂ := S8x127) (1 : Fin 2) _ _ _ i rfl rfl
    (ValueIdx.ix2 (i 0) (⟨(i 1).val - 1, by omega⟩ : Fin 127)) (fun b hb => by
      match b with
      | ⟨0, _⟩ => rfl
      | ⟨1, _⟩ => exact absurd rfl hb) (show (i 1).val - 1 + 1 = (i 1).val by omega)]
  unfold extractStridedSlice
  congr 1
  funext a
  match a with
  | ⟨0, _⟩ => exact Fin.ext (Nat.zero_add _)
  | ⟨1, _⟩ => exact Fin.ext (Nat.zero_add _)

theorem roll0_zero (p : FVec Ideal S8x128 .f32) (i : S8x128.Idx) (h : (i 0).val = 0) :
    roll0 p i = p (ValueIdx.ix2 (7 : Fin 8) (i 1)) := by
  unfold roll0
  rw [concatenate_pair_apply_left (t := S8x128) (s₁ := S1x128) (s₂ := S7x128) (0 : Fin 2) _ _ _ i rfl (ValueIdx.ix2 (0 : Fin 1) (i 1)) (fun b => by
    match b with
    | ⟨0, _⟩ => exact h.symm
    | ⟨1, _⟩ => rfl)]
  unfold extractStridedSlice
  congr 1
  funext a
  match a with
  | ⟨0, _⟩ => rfl
  | ⟨1, _⟩ => exact Fin.ext (Nat.zero_add _)

theorem roll0_succ (p : FVec Ideal S8x128 .f32) (i : S8x128.Idx) (h : (i 0).val ≠ 0) :
    roll0 p i = p (ValueIdx.ix2 (⟨(i 0).val - 1, by have := ValueIdx.idx2_lt0 i; omega⟩ : Fin 8) (i 1)) := by
  have h1 := ValueIdx.idx2_lt0 i
  unfold roll0
  rw [concatenate_pair_apply_right (t := S8x128) (s₁ := S1x128) (s₂ := S7x128) (0 : Fin 2) _ _ _ i rfl rfl
    (ValueIdx.ix2 (⟨(i 0).val - 1, by omega⟩ : Fin 7) (i 1)) (fun b hb => by
      match b with
      | ⟨0, _⟩ => exact absurd rfl hb
      | ⟨1, _⟩ => rfl) (show (i 0).val - 1 + 1 = (i 0).val by omega)]
  unfold extractStridedSlice
  congr 1
  funext a
  match a with
  | ⟨0, _⟩ => exact Fin.ext (Nat.zero_add _)
  | ⟨1, _⟩ => exact Fin.ext (Nat.zero_add _)

theorem lane0_iff (i : S8x128.Idx) : k1_pay1 i = 1#1 ↔ (i 1).val = 0 := by
  have h1 := ValueIdx.idx2_lt1 i
  have e : k1_pay1 i = IntOp.cmpi .eq (BitVec.ofNat 32 (0 * 128 + (i 1).val)) 0#32 := rfl
  rw [e]
  have : ∀ n : Fin 128, IntOp.cmpi .eq (BitVec.ofNat 32 (0 * 128 + n.val)) 0#32 = 1#1 ↔ n.val = 0 := by decide
  exact this ⟨_, h1⟩

/-- The mark moves on by one place. -/
theorem nextPos_onehot (k : ℕ) (h : k < 1023) : nextPos k1_pay1 (onehot k) = onehot (k + 1) := by
  funext i
  have h0 := ValueIdx.idx2_lt0 i
  have h1 := ValueIdx.idx2_lt1 i
  show Scalar.select (k1_pay1 i) (roll0 (roll1 (onehot k)) i) (roll1 (onehot k) i) = _
  by_cases hl : (i 1).val = 0
  · rw [(lane0_iff i).mpr hl, ValueIdx.select_one]
    by_cases hr : (i 0).val = 0
    · refine (roll0_zero _ _ hr).trans ((roll1_zero _ (ValueIdx.ix2 (7 : Fin 8) (i 1)) hl).trans ?_)
      unfold onehot
      have e1 : lin (ValueIdx.ix2 (7 : Fin 8) (127 : Fin 128)) = 1023 := rfl
      have e2 : lin i = 0 := by unfold lin; omega
      rw [if_neg, if_neg (by omega)]
      show ¬ (1023 = k)
      omega
    · refine (roll0_succ _ _ hr).trans ((roll1_zero _ (ValueIdx.ix2 (⟨(i 0).val - 1, by omega⟩ : Fin 8) (i 1)) hl).trans ?_)
      unfold onehot
      refine if_congr ?_ rfl rfl
      show 128 * ((i 0).val - 1) + 127 = k ↔ 128 * (i 0).val + (i 1).val = k + 1
      omega
  · rw [ValueIdx.eq_zero_of_ne_one (mt (lane0_iff i).mp hl), ValueIdx.select_zero, roll1_succ _ _ hl]
    unfold onehot
    refine if_congr ?_ rfl rfl
    show 128 * (i 0).val + ((i 1).val - 1) = k ↔ 128 * (i 0).val + (i 1).val = k + 1
    omega

/-! ### One candidate -/

theorem put_keep (L : List (Cand Ideal)) (nk : BitVec 32) (bad : BitVec 1) (r : Cand Ideal) (x : Ideal .f32)
    (p : FVec Ideal S8x128 .f32) (h : kb (regs L nk bad) r = 0#1) : put (regs L nk bad) r x p = p := by
  funext i
  show Scalar.select (FloatOps.cmpf .ogt (onehot L.length i) (zeroV i) &&& kb (regs L nk bad) r) x (p i) = p i
  rw [h]
  have : ∀ a : BitVec 1, a &&& 0#1 = 0#1 := by decide
  rw [this, ValueIdx.select_zero]

theorem put_slot (L : List (Cand Ideal)) (nk : BitVec 32) (bad : BitVec 1) (r : Cand Ideal) (f : Cand Ideal → EReal)
    (h : kb (regs L nk bad) r = 1#1) : put (regs L nk bad) r (f r) (slot L f) = slot (L ++ [r]) f := by
  funext i
  show Scalar.select (Ideal.cmp .ogt (onehot L.length i) (Ideal.ofBits .f32 0x00000000#32) &&& kb (regs L nk bad) r) (f r) (slot L f i) = _
  rw [h, Ideal.ofBits_zero_f32]
  unfold onehot slot
  rcases Nat.lt_trichotomy (lin i) L.length with hl | hl | hl
  · rw [if_neg (by omega), dif_pos hl, dif_pos (by rw [List.length_append]; omega), List.getElem_append_left hl]
    rw [ValueIdx.eq_zero_of_ne_one (b := Ideal.cmp .ogt 0 0) (by rw [cmp_ogt_iff]; exact lt_irrefl _)]
    rfl
  · rw [if_pos hl, dif_neg (by omega), dif_pos (by rw [List.length_append]; simp; omega)]
    rw [(cmp_ogt_iff 1 0).mpr zero_lt_one]
    simp [hl, Scalar.select]
  · rw [if_neg (by omega), dif_neg (by omega), dif_neg (by rw [List.length_append]; simp; omega)]
    rw [ValueIdx.eq_zero_of_ne_one (b := Ideal.cmp .ogt 0 0) (by rw [cmp_ogt_iff]; exact lt_irrefl _)]
    rfl

/-- One candidate grows the kept rows. -/
theorem step_regs (L : List (Cand Ideal)) (hL : L.length < 1023) (nk : BitVec 32) (bad : BitVec 1) (r : Cand Ideal) :
    step k1_pay1 (regs L nk bad) r
      = regs (Nms.grow badRow ovRow L r)
          (nk + BitVec.ofNat 32 ((Nms.grow badRow ovRow L r).length - L.length)) (bad ||| inval r) := by
  rcases bit_cases (kb (regs L nk bad) r) with h | h
  · have hg : Nms.grow badRow ovRow L r = L := by
      unfold Nms.grow
      rw [if_neg]
      intro hj
      rw [(kb_iff L (by omega) nk bad r).mpr hj] at h
      exact absurd h (by decide)
    rw [hg]
    unfold step
    simp only [put_keep L nk bad r _ _ h]
    rw [h]
    simp only [ValueIdx.select_zero, Nat.sub_self]
    rfl
  · have hg : Nms.grow badRow ovRow L r = L ++ [r] := by
      unfold Nms.grow
      rw [if_pos ((kb_iff L (by omega) nk bad r).mp h)]
    rw [hg]
    have e1 : put (regs L nk bad) r (Scalar.ofBits .f32 0x3F800000#32) (regs L nk bad).lt = slot (L ++ [r]) fun _ => 1 := by
      have := put_slot L nk bad r (fun _ => 1) h
      rw [show (Scalar.ofBits .f32 0x3F800000#32 : Ideal .f32) = (1 : EReal) from Ideal.ofBits_one_f32]
      exact this
    unfold step regs
    congr 1
    · show Scalar.select (kb (regs L nk bad) r) (nextPos k1_pay1 (onehot L.length)) (onehot L.length) = _
      rw [h, ValueIdx.select_one, nextPos_onehot _ hL, List.length_append]
      rfl
    · exact put_slot L nk bad r (·.x1) h
    · exact put_slot L nk bad r (·.y1) h
    · exact put_slot L nk bad r (·.x2) h
    · exact put_slot L nk bad r (·.y2) h
    · exact put_slot L nk bad r (·.sc) h
    · exact put_slot L nk bad r areaE h
    · show Scalar.addi nk (Scalar.extui (kb (regs L nk bad) r)) = _
      rw [h, List.length_append, List.length_singleton, Nat.add_sub_cancel_left]
      rfl

end Cert.KernelIdeal.Hand
-- ==== Proof.KI.Trips.lean ====
/- The suppression loop over the extended reals. A trip turns the registers of the rows kept out of the first `8 j` into
   those of the rows kept out of the first `8 j + 8`; the loop ends when no row is left, when at least 1000 rows are kept
   or when an invalid row has been met. Where all rows after an invalid row are invalid, the first 1000 slots then hold
   the first 1000 rows kept out of the whole table. -/
module

public import proofs.«01_k».proof.Proof.KI.Bodies
public import proofs.«01_k».proof.Proof.KI.Slots

@[expose] public section

set_option maxRecDepth 16384

noncomputable section

namespace Cert.KernelIdeal.Hand

open Idealize.ShloMosaic Idealize.SL.Sem
open Cert.KernelIdeal Cert.KernelIdeal.Gen

/-! ### The table's rows -/

/-- Row `j` of the table, for every natural number. -/
def place (j : ℕ) : Fin 20000 := ⟨j % 20000, Nat.mod_lt _ (by decide)⟩

theorem place_val {j : ℕ} (h : j < 20000) : (place j).val = j := Nat.mod_eq_of_lt h

/-- The element of the table at row `j`, column `f`. -/
def cell (X : Tbl Ideal) (j : ℕ) (f : Fin 8) : EReal := (X : FVec Ideal S20000x8 .f32) (ValueIdx.ix2 (place j) f)

/-- Row `j` of the table as a box with its score. -/
def rowOf (X : Tbl Ideal) (j : ℕ) : Cand Ideal := ⟨cell X j 0, cell X j 1, cell X j 2, cell X j 3, cell X j 4⟩

theorem pick_apply (v : FVec Ideal S8x8 .f32) (a b : Fin 8) (h : S8x8.Slices ![a.val, b.val] S1x1) :
    pick v ![a.val, b.val] h = v (ValueIdx.ix2 a b) := by
  refine congrArg v (funext fun x => ?_)
  match x with
  | ⟨0, _⟩ => exact Fin.ext (show a.val + 0 = a.val from rfl)
  | ⟨1, _⟩ => exact Fin.ext (show b.val + 0 = b.val from rfl)

theorem rowsAt_apply (X : Tbl Ideal) (c : ℕ) (h : c + 8 ≤ 20000) (a b : Fin 8) :
    rowsAt X (BitVec.ofNat 32 c) (ValueIdx.ix2 a b) = cell X (c + a.val) b := by
  have hc : (BitVec.ofNat 32 c).toNat = c := by
    rw [BitVec.toNat_ofNat]; exact Nat.mod_eq_of_lt (by omega)
  unfold rowsAt
  rw [dif_pos (chk_of c h)]
  refine (shapeCast_apply (s := S8x8) (t := S8x8) _ _ (ValueIdx.ix2 a b) (ValueIdx.ix2 a b) rfl).trans ?_
  unfold eightRows cell
  refine congrArg (X : FVec Ideal S20000x8 .f32) (funext fun x => ?_)
  match x with
  | ⟨0, _⟩ =>
    refine Fin.ext ?_
    show (BitVec.ofNat 32 c).toNat + 1 * a.val = (c + a.val) % 20000
    rw [hc, Nat.mod_eq_of_lt (by omega)]; omega
  | ⟨1, _⟩ => exact Fin.ext (show 0 + 1 * b.val = b.val by omega)

theorem pick_row (X : Tbl Ideal) (c : ℕ) (h : c + 8 ≤ 20000) (a b : Fin 8) (hs : S8x8.Slices ![a.val, b.val] S1x1) :
    pick (rowsAt X (BitVec.ofNat 32 c)) ![a.val, b.val] hs = cell X (c + a.val) b :=
  (pick_apply _ a b hs).trans (rowsAt_apply X c h a b)

theorem mk_congr {a b c d e a' b' c' d' e' : Ideal .f32} (h1 : a = a') (h2 : b = b') (h3 : c = c') (h4 : d = d')
    (h5 : e = e') : (⟨a, b, c, d, e⟩ : Cand Ideal) = ⟨a', b', c', d', e'⟩ := by
  subst h1 h2 h3 h4 h5; rfl

theorem cand0_row (X : Tbl Ideal) (c : ℕ) (h : c + 8 ≤ 20000) :
    cand0 (rowsAt X (BitVec.ofNat 32 c)) = rowOf X (c + 0) :=
  mk_congr (pick_row X c h 0 0 _) (pick_row X c h 0 1 _) (pick_row X c h 0 2 _) (pick_row X c h 0 3 _)
    (pick_row X c h 0 4 _)

theorem cand1_row (X : Tbl Ideal) (c : ℕ) (h : c + 8 ≤ 20000) :
    cand1 (rowsAt X (BitVec.ofNat 32 c)) = rowOf X (c + 1) :=
  mk_congr (pick_row X c h 1 0 _) (pick_row X c h 1 1 _) (pick_row X c h 1 2 _) (pick_row X c h 1 3 _)
    (pick_row X c h 1 4 _)

theorem cand2_row (X : Tbl Ideal) (c : ℕ) (h : c + 8 ≤ 20000) :
    cand2 (rowsAt X (BitVec.ofNat 32 c)) = rowOf X (c + 2) :=
  mk_congr (pick_row X c h 2 0 _) (pick_row X c h 2 1 _) (pick_row X c h 2 2 _) (pick_row X c h 2 3 _)
    (pick_row X c h 2 4 _)

theorem cand3_row (X : Tbl Ideal) (c : ℕ) (h : c + 8 ≤ 20000) :
    cand3 (rowsAt X (BitVec.ofNat 32 c)) = rowOf X (c + 3) :=
  mk_congr (pick_row X c h 3 0 _) (pick_row X c h 3 1 _) (pick_row X c h 3 2 _) (pick_row X c h 3 3 _)
    (pick_row X c h 3 4 _)

theorem cand4_row (X : Tbl Ideal) (c : ℕ) (h : c + 8 ≤ 20000) :
    cand4 (rowsAt X (BitVec.ofNat 32 c)) = rowOf X (c + 4) :=
  mk_congr (pick_row X c h 4 0 _) (pick_row X c h 4 1 _) (pick_row X c h 4 2 _) (pick_row X c h 4 3 _)
    (pick_row X c h 4 4 _)

theorem cand5_row (X : Tbl Ideal) (c : ℕ) (h : c + 8 ≤ 20000) :
    cand5 (rowsAt X (BitVec.ofNat 32 c)) = rowOf X (c + 5) :=
  mk_congr (pick_row X c h 5 0 _) (pick_row X c h 5 1 _) (pick_row X c h 5 2 _) (pick_row X c h 5 3 _)
    (pick_row X c h 5 4 _)

theorem cand6_row (X : Tbl Ideal) (c : ℕ) (h : c + 8 ≤ 20000) :
    cand6 (rowsAt X (BitVec.ofNat 32 c)) = rowOf X (c + 6) :=
  mk_congr (pick_row X c h 6 0 _) (pick_row X c h 6 1 _) (pick_row X c h 6 2 _) (pick_row X c h 6 3 _)
    (pick_row X c h 6 4 _)

theorem cand7_row (X : Tbl Ideal) (c : ℕ) (h : c + 8 ≤ 20000) :
    cand7 (rowsAt X (BitVec.ofNat 32 c)) = rowOf X (c + 7) :=
  mk_congr (pick_row X c h 7 0 _) (pick_row X c h 7 1 _) (pick_row X c h 7 2 _) (pick_row X c h 7 3 _)
    (pick_row X c h 7 4 _)

/-! ### One trip -/

/-- The rows kept out of the first `n`. -/
abbrev keptN (X : Tbl Ideal) (n : ℕ) : List (Cand Ideal) := Nms.kept badRow ovRow (rowOf X) n

theorem len_le (X : Tbl Ideal) (n k : ℕ) : (keptN X (n + k)).length ≤ (keptN X n).length + k := by
  induction k with
  | zero => exact le_rfl
  | succ k ih =>
    have h : (keptN X (n + k + 1)).length ≤ (keptN X (n + k)).length + 1 :=
      Nms.length_grow_le (bad := badRow) (ov := ovRow) (keptN X (n + k)) (rowOf X (n + k))
    have h2 : (keptN X (n + (k + 1))).length = (keptN X (n + k + 1)).length := rfl
    omega

theorem len_mono (X : Tbl Ideal) {a b : ℕ} (h : a ≤ b) : (keptN X a).length ≤ (keptN X b).length :=
  (Nms.kept_prefix (bad := badRow) (ov := ovRow) (rowOf X) h).length_le

/-- The registers within a trip that began with `a` rows, after `n` rows. -/
def mid (X : Tbl Ideal) (a n : ℕ) (d : BitVec 1) : Bs Ideal :=
  regs (keptN X n) (BitVec.ofNat 32 ((keptN X n).length - (keptN X a).length)) d

/-- One candidate within a trip. -/
theorem step_mid (X : Tbl Ideal) (a n : ℕ) (h : a ≤ n) (hL : (keptN X n).length < 1023) (d : BitVec 1) :
    step k1_pay1 (mid X a n d) (rowOf X n) = mid X a (n + 1) (d ||| inval (rowOf X n)) := by
  unfold mid
  rw [step_regs _ hL]
  have h1 := len_mono X h
  have h2 := len_mono X (Nat.le_succ n)
  have e : Nms.grow badRow ovRow (keptN X n) (rowOf X n) = keptN X (n + 1) := rfl
  rw [e, ← BitVec.ofNat_add]
  congr 2
  have h2' : (keptN X n).length ≤ (keptN X (n + 1)).length := h2
  omega

/-- Whether one of the eight rows from `a` on is invalid. -/
def badEight (X : Tbl Ideal) (a : ℕ) : BitVec 1 :=
  0#1 ||| inval (rowOf X a) ||| inval (rowOf X (a + 1)) ||| inval (rowOf X (a + 2)) ||| inval (rowOf X (a + 3))
    ||| inval (rowOf X (a + 4)) ||| inval (rowOf X (a + 5)) ||| inval (rowOf X (a + 6)) ||| inval (rowOf X (a + 7))

theorem or_one (x y : BitVec 1) : x ||| y = 1#1 → x = 1#1 ∨ y = 1#1 := by revert x y; decide

theorem badEight_one (X : Tbl Ideal) (a : ℕ) (h : badEight X a = 1#1) : ∃ k < 8, badRow (rowOf X (a + k)) := by
  unfold badEight at h
  rcases or_one _ _ h with h | h
  · rcases or_one _ _ h with h | h
    · rcases or_one _ _ h with h | h
      · rcases or_one _ _ h with h | h
        · rcases or_one _ _ h with h | h
          · rcases or_one _ _ h with h | h
            · rcases or_one _ _ h with h | h
              · rcases or_one _ _ h with h | h
                · exact absurd h (by decide)
                · exact ⟨0, by decide, h⟩
              · exact ⟨1, by decide, h⟩
            · exact ⟨2, by decide, h⟩
          · exact ⟨3, by decide, h⟩
        · exact ⟨4, by decide, h⟩
      · exact ⟨5, by decide, h⟩
    · exact ⟨6, by decide, h⟩
  · exact ⟨7, by decide, h⟩

/-- The eight candidates of a trip. -/
theorem eight_mid (X : Tbl Ideal) (a : ℕ) (h : a + 8 ≤ 20000) (hL : (keptN X a).length < 1000) :
    eight k1_pay1 (rowsAt X (BitVec.ofNat 32 a)) (mid X a a 0#1) = mid X a (a + 8) (badEight X a) := by
  have hl : ∀ k < 8, (keptN X (a + k)).length < 1023 := fun k hk => by have := len_le X a k; omega
  unfold eight
  rw [cand0_row X a h, cand1_row X a h, cand2_row X a h, cand3_row X a h, cand4_row X a h, cand5_row X a h,
    cand6_row X a h, cand7_row X a h]
  rw [show a + 0 = a from rfl, step_mid X a a le_rfl (hl 0 (by decide)),
    step_mid X a (a + 1) (by omega) (hl 1 (by decide)), step_mid X a (a + 1 + 1) (by omega) (hl 2 (by decide)),
    step_mid X a (a + 1 + 1 + 1) (by omega) (hl 3 (by decide)),
    step_mid X a (a + 1 + 1 + 1 + 1) (by omega) (hl 4 (by decide)),
    step_mid X a (a + 1 + 1 + 1 + 1 + 1) (by omega) (hl 5 (by decide)),
    step_mid X a (a + 1 + 1 + 1 + 1 + 1 + 1) (by omega) (hl 6 (by decide)),
    step_mid X a (a + 1 + 1 + 1 + 1 + 1 + 1 + 1) (by omega) (hl 7 (by decide))]
  rfl

/-- The registers between trips, after `n` rows. -/
def between (X : Tbl Ideal) (n : ℕ) (d : BitVec 32) : Ls Ideal where
  c := BitVec.ofNat 32 n
  kc := BitVec.ofNat 32 (keptN X n).length
  done := d
  pos := onehot (keptN X n).length
  lt := slot (keptN X n) fun _ => 1
  kx1 := slot (keptN X n) (·.x1)
  ky1 := slot (keptN X n) (·.y1)
  kx2 := slot (keptN X n) (·.x2)
  ky2 := slot (keptN X n) (·.y2)
  ks := slot (keptN X n) (·.sc)
  ka := slot (keptN X n) areaE

theorem trip_between (X : Tbl Ideal) (n : ℕ) (d : BitVec 32) (h : n + 8 ≤ 20000) (hL : (keptN X n).length < 1000) :
    trip k1_pay1 (rowsAt X (BitVec.ofNat 32 n)) (between X n d)
      = between X (n + 8) (Scalar.extui (badEight X n)) := by
  have hb : (between X n d).bs = mid X n n 0#1 := by
    unfold mid; rw [Nat.sub_self]; rfl
  unfold trip
  rw [hb, eight_mid X n h hL]
  have h1 := len_mono X (show n ≤ n + 8 by omega)
  unfold between mid regs
  congr 1
  · show BitVec.ofNat 32 n + 8#32 = _
    rw [BitVec.ofNat_add]
  · show BitVec.ofNat 32 _ + BitVec.ofNat 32 _ = _
    rw [← BitVec.ofNat_add]
    congr 1; omega

theorem slt_small (a b : ℕ) (ha : a < 2 ^ 31) (hb : b < 2 ^ 31) :
    Scalar.cmpi .slt (BitVec.ofNat 32 a) (BitVec.ofNat 32 b) = 1#1 ↔ a < b := by
  have e : ∀ n : ℕ, n < 2 ^ 31 → (BitVec.ofNat 32 n).toInt = (n : ℤ) := fun n hn => by
    have h := BitVec.toNat_ofNat n 32
    rw [Nat.mod_eq_of_lt (by omega)] at h
    rw [BitVec.toInt_eq_toNat_of_lt (by omega), h]
  have e2 : Scalar.cmpi .slt (BitVec.ofNat 32 a) (BitVec.ofNat 32 b)
      = BitVec.ofBool ((BitVec.ofNat 32 a).slt (BitVec.ofNat 32 b)) := rfl
  rw [e2, BitVec.slt, e a ha, e b hb]
  by_cases h : a < b
  · simp [h]
  · simp [h]

theorem and_one (x y : BitVec 1) : Scalar.andi x y = 1#1 ↔ x = 1#1 ∧ y = 1#1 := by revert x y; decide

theorem test_between (X : Tbl Ideal) (n : ℕ) (d : BitVec 32) (h : n ≤ 20000) (hL : (keptN X n).length < 1023) :
    (between X n d).test = 1#1 ↔ (n < 20000 ∧ (keptN X n).length < 1000) ∧ d = 0#32 := by
  unfold Ls.test
  rw [and_one, and_one]
  have e1 := slt_small n 20000 (by omega) (by omega)
  have e2 := slt_small (keptN X n).length 1000 (by omega) (by omega)
  refine and_congr (and_congr e1 e2) ?_
  show BitVec.ofBool (d == 0#32) = 1#1 ↔ _
  by_cases hd : d = 0#32
  · simp [hd]
  · rw [beq_false_of_ne hd]; simp [hd]

/-- Where the loop ends. -/
theorem runN_between (X : Tbl Ideal) : ∀ k j (d : BitVec 32), j + k = 2500 → (keptN X (8 * j)).length ≤ 1007 →
    (d ≠ 0#32 → ∃ q < 8 * j, badRow (rowOf X q)) →
    ∃ n d', n ≤ 20000 ∧ (n = 20000 ∨ 1000 ≤ (keptN X n).length ∨ ∃ q < n, badRow (rowOf X q))
      ∧ runN k1_pay1 X k (between X (8 * j) d) = between X n d' := by
  intro k
  induction k with
  | zero =>
    intro j d hj hL hd
    exact ⟨8 * j, d, by omega, Or.inl (by omega), rfl⟩
  | succ k ih =>
    intro j d hj hL hd
    by_cases ht : (between X (8 * j) d).test = 1#1
    · obtain ⟨⟨h1, h2⟩, h3⟩ := (test_between X (8 * j) d (by omega) (by omega)).mp ht
      have e : runN k1_pay1 X (k + 1) (between X (8 * j) d)
          = runN k1_pay1 X k (between X (8 * (j + 1)) (Scalar.extui (badEight X (8 * j)))) := by
        rw [runN, if_pos ht]
        exact congrArg (runN k1_pay1 X k) (trip_between X (8 * j) d (by omega) h2)
      rw [e]
      refine ih (j + 1) _ (by omega) ?_ ?_
      · have := len_le X (8 * j) 8
        have e8 : 8 * (j + 1) = 8 * j + 8 := by omega
        rw [e8]; omega
      · intro hne
        rcases bit_cases (badEight X (8 * j)) with hb | hb
        · rw [hb] at hne; exact absurd rfl hne
        · obtain ⟨q, hq, hbad⟩ := badEight_one X (8 * j) hb
          exact ⟨8 * j + q, by omega, hbad⟩
    · refine ⟨8 * j, d, by omega, ?_, by rw [runN, if_neg ht]⟩
      by_contra hcon
      push Not at hcon
      obtain ⟨c1, c2, c3⟩ := hcon
      refine ht ((test_between X (8 * j) d (by omega) (by omega)).mpr ⟨⟨by omega, c2⟩, ?_⟩)
      by_contra hd0
      obtain ⟨q, hq, hbad⟩ := hd hd0
      exact c3 q hq hbad

/-! ### The first registers -/

theorem slot_nil (f : Cand Ideal → EReal) : (k1_pay2 : FVec Ideal S8x128 .f32) = slot [] f := by
  funext i
  show Ideal.ofBits .f32 0x00000000#32 = _
  rw [Ideal.ofBits_zero_f32]
  rfl

theorem first_slot : (k1_pay3 : FVec Ideal S8x128 .f32) = onehot 0 := by
  funext i
  have h0 := ValueIdx.idx2_lt0 i
  have h1 := ValueIdx.idx2_lt1 i
  have e : (k1_pay3 : FVec Ideal S8x128 .f32) i
      = ((((IntOp.cmpi .eq (BitVec.ofNat 32 (0 * 8 + (i 0).val) * 128#32 + BitVec.ofNat 32 (0 * 128 + (i 1).val)) 0#32).setWidth 32).toInt : ℝ) : EReal) := rfl
  rw [e]
  simp only [Nat.zero_mul, Nat.zero_add]
  unfold onehot
  have e2 : BitVec.ofNat 32 (i 0).val * 128#32 + BitVec.ofNat 32 (i 1).val = BitVec.ofNat 32 (lin i) := by
    unfold lin
    rw [Nat.mul_comm, BitVec.ofNat_add, BitVec.ofNat_mul]
  rw [e2]
  by_cases h : lin i = 0
  · rw [if_pos h, h, show (IntOp.cmpi .eq (BitVec.ofNat 32 0) 0#32).setWidth 32 = 1#32 from by decide]
    norm_num
  · rw [if_neg h]
    have hl := lin_lt i
    have hne : BitVec.ofNat 32 (lin i) ≠ 0#32 := by
      intro hh
      have := congrArg BitVec.toNat hh
      rw [BitVec.toNat_ofNat, Nat.mod_eq_of_lt (by omega)] at this
      exact h this
    have e3 : IntOp.cmpi .eq (BitVec.ofNat 32 (lin i)) 0#32 = 0#1 := by
      show BitVec.ofBool (BitVec.ofNat 32 (lin i) == 0#32) = 0#1
      rw [beq_false_of_ne hne]; rfl
    rw [e3]
    norm_num

theorem start_between (X : Tbl Ideal) : (start : Ls Ideal) = between X 0 0#32 := by
  unfold start between
  rw [first_slot]
  congr 1 <;> exact slot_nil _

/-! ### What the first thousand slots hold -/

theorem getElem_prefix {α : Type} {L K : List α} (h : L <+: K) (s : ℕ) (hs : s < L.length) (hs' : s < K.length) :
    L[s] = K[s] := by
  obtain ⟨M, rfl⟩ := h
  exact (List.getElem_append_left hs).symm

/-- The slots of the kept rows, whether taken out of the first `n` rows or out of all. -/
theorem slot_all (X : Tbl Ideal) (hs : ∀ a b, a ≤ b → b < 20000 → badRow (rowOf X a) → badRow (rowOf X b)) (n : ℕ)
    (hn : n ≤ 20000) (he : n = 20000 ∨ 1000 ≤ (keptN X n).length ∨ ∃ q < n, badRow (rowOf X q))
    (f : Cand Ideal → EReal) (i : S8x128.Idx) (hi : lin i < 1000) :
    slot (keptN X n) f i = slot (keptN X 20000) f i := by
  rcases he with rfl | hl | ⟨q, hq, hb⟩
  · rfl
  · have hp := Nms.kept_prefix (bad := badRow) (ov := ovRow) (rowOf X) hn
    have h1 : lin i < (keptN X n).length := by omega
    have h2 : lin i < (keptN X 20000).length := lt_of_lt_of_le h1 hp.length_le
    unfold slot
    rw [dif_pos h1, dif_pos h2, getElem_prefix hp _ h1 h2]
  · have e : keptN X 20000 = keptN X n :=
      Nms.kept_of_bad (bad := badRow) (ov := ovRow) (rowOf X) hn fun j h1 h2 => hs q j (by omega) h2 hb
    rw [e]

theorem slot_mul (L : List (Cand Ideal)) (f : Cand Ideal → EReal) (i : S8x128.Idx) :
    slot L f i * slot L (fun _ => 1) i = slot L f i := by
  unfold slot
  split <;> simp

/-- The planes handed back, at the first thousand places. -/
theorem planes_all (X : Tbl Ideal) (hs : ∀ a b, a ≤ b → b < 20000 → badRow (rowOf X a) → badRow (rowOf X b))
    (i : S8x128.Idx) (hi : lin i < 1000) :
    (finalN 2500 X).planes.x1 i = slot (keptN X 20000) (·.x1) i
    ∧ (finalN 2500 X).planes.y1 i = slot (keptN X 20000) (·.y1) i
    ∧ (finalN 2500 X).planes.x2 i = slot (keptN X 20000) (·.x2) i
    ∧ (finalN 2500 X).planes.y2 i = slot (keptN X 20000) (·.y2) i
    ∧ (finalN 2500 X).planes.sc i = slot (keptN X 20000) (·.sc) i := by
  obtain ⟨n, d, hn, he, hr⟩ := runN_between X 2500 0 0#32 (by omega) (Nat.zero_le _) (fun h => absurd rfl h)
  have e : finalN 2500 X = between X n d := by
    unfold finalN; rw [start_between X]; exact hr
  rw [e]
  exact ⟨(slot_mul _ _ i).trans (slot_all X hs n hn he _ i hi), (slot_mul _ _ i).trans (slot_all X hs n hn he _ i hi),
    (slot_mul _ _ i).trans (slot_all X hs n hn he _ i hi), (slot_mul _ _ i).trans (slot_all X hs n hn he _ i hi),
    (slot_mul _ _ i).trans (slot_all X hs n hn he _ i hi)⟩

end Cert.KernelIdeal.Hand
-- ==== Proof.Spec.lean ====
/- The values both programs compute, over the extended reals: the decoded boxes and their scores row by row, the order of
   the rows by falling score, the rows in that order, and the result, whose row `s` is the `s`-th row kept and zero where
   fewer are kept. -/
module

public import proofs.«01_k».proof.Proof.KI.Trips
public import Idealize.ShloMosaic.Lib.SortFacts
public import Idealize.ShloMosaic.Lib.Routing.Ops
public import Idealize.ShloMosaic.Lib.Routing.OpsSet
public import Idealize.ShloMosaic.Lib.Routing.OpsPair

@[expose] public section

set_option maxRecDepth 16384

noncomputable section

namespace Spec

open Idealize.ShloMosaic Idealize.ShloMosaic.ValueIdx
open Cert.KernelIdeal.Hand (Cand badRow ovRow place place_val inval)

/-- An array of four numbers for each row. -/
abbrev Four : Type := FVec Ideal (⟨2, ![20000, 4]⟩ : Shape) .f32

/-- A number for each row. -/
abbrev One : Type := FVec Ideal (⟨1, ![20000]⟩ : Shape) .f32

/-- One half. -/
abbrev half : EReal := Ideal.ofBits .f32 0x3F000000#32
/-- The bound on the logarithm of a side's growth. -/
abbrev four : EReal := Ideal.ofBits .f32 0x40800000#32
/-- The image's side. -/
abbrev side : EReal := Ideal.ofBits .f32 0x44800000#32
/-- Zero. -/
abbrev nil : EReal := Ideal.ofBits .f32 0x00000000#32
/-- One. -/
abbrev unit : EReal := Ideal.ofBits .f32 0x3F800000#32
/-- Minus one. -/
abbrev under : EReal := Ideal.ofBits .f32 0xBF800000#32

variable (D : Four) (O : One) (A : Four)

/-- An anchor's side along axis `a` (0 across, 1 down). -/
def len (i : Fin 20000) (a b : Fin 4) : EReal := A (ix2 i b) - A (ix2 i a)

/-- The decoded centre. -/
def mid (i : Fin 20000) (a b : Fin 4) : EReal := D (ix2 i a) * len A i a b + (A (ix2 i a) + half * len A i a b)

/-- The decoded side. -/
def ext (i : Fin 20000) (a b : Fin 4) : EReal := FloatOps.exp (F := Ideal) (φ := .f32) (min (D (ix2 i b)) four) * len A i a b

/-- A coordinate moved into the image. -/
def clip (x : EReal) : EReal := min side (max nil x)

/-- The decoded box, inside the image. -/
def box (i : Fin 20000) : Fin 4 → EReal :=
  ![clip (mid D A i 0 2 - half * ext D A i 0 2), clip (mid D A i 1 3 - half * ext D A i 1 3),
    clip (mid D A i 0 2 + half * ext D A i 0 2), clip (mid D A i 1 3 + half * ext D A i 1 3)]

/-- Whether the box is large enough. -/
def large (i : Fin 20000) : BitVec 1 :=
  IntOp.andi (FloatOps.cmpf (F := Ideal) (φ := .f32) .oge (box D A i 2 - box D A i 0) unit)
    (FloatOps.cmpf (F := Ideal) (φ := .f32) .oge (box D A i 3 - box D A i 1) unit)

/-- The score: the sigmoid of the objectness, or minus one for a box too small. -/
def score (i : Fin 20000) : EReal :=
  Scalar.select (large D A i)
    (Ideal.div unit (unit + FloatOps.exp (F := Ideal) (φ := .f32) (-O (ix1 i)))) under

/-- The key the rows are sorted by. -/
def key (i : Fin 20000) : EReal := -score D O A i

/-- The row at place `k` of the order. -/
def ord (k : Fin 20000) : Fin 20000 := sortedFrom (fun a b => decide (key D O A a < key D O A b)) k

/-- The box and score at place `j` of the order. -/
def sortedRow (j : ℕ) : Cand Ideal :=
  ⟨box D A (ord D O A (place j)) 0, box D A (ord D O A (place j)) 1, box D A (ord D O A (place j)) 2,
    box D A (ord D O A (place j)) 3, score D O A (ord D O A (place j))⟩

/-- The rows kept. -/
def keptRows : List (Cand Ideal) := Nms.kept badRow ovRow (sortedRow D O A) 20000

/-- A row's five numbers. -/
def field (r : Cand Ideal) : Fin 5 → EReal := ![r.x1, r.y1, r.x2, r.y2, r.sc]

/-- The result. -/
def out (s : ℕ) (f : Fin 5) : EReal :=
  if h : s < (keptRows D O A).length then field (keptRows D O A)[s] f else 0

theorem badRow_iff (r : Cand Ideal) : badRow r ↔ r.sc < 0 := by
  have e : inval r = Ideal.cmp .olt r.sc (Ideal.ofBits .f32 0x00000000#32) := rfl
  unfold badRow
  rw [e, Cert.KernelIdeal.Hand.cmp_olt_iff, Ideal.ofBits_zero_f32]

/-- Scores fall along the order. -/
theorem score_falls (a b : Fin 20000) (h : a < b) : score D O A (ord D O A b) ≤ score D O A (ord D O A a) := by
  have h' := sortedFrom_noInversion (fun a b => decide (key D O A a < key D O A b))
    (fun a b => decide (key D O A a < key D O A b))
    (fun a b h => by
      have h := of_decide_eq_true h
      exact decide_eq_false (not_lt.2 h.le))
    (fun a b h => h)
    (fun a b c h1 h2 => by
      have h1 := not_lt.1 (of_decide_eq_false h1)
      have h2 := not_lt.1 (of_decide_eq_false h2)
      exact decide_eq_false (not_lt.2 (h2.trans h1))) a b h
  have h'' : key D O A (ord D O A a) ≤ key D O A (ord D O A b) := not_lt.1 (of_decide_eq_false h')
  exact EReal.neg_le_neg_iff.1 h''

/-- The rows after an invalid row are invalid. -/
theorem bad_after (a b : ℕ) (hab : a ≤ b) (hb : b < 20000) (h : badRow (sortedRow D O A a)) :
    badRow (sortedRow D O A b) := by
  rcases Nat.eq_or_lt_of_le hab with e | hlt
  · rwa [← e]
  · rw [badRow_iff] at h ⊢
    refine lt_of_le_of_lt (score_falls D O A (place a) (place b) ?_) h
    show (place a).val < (place b).val
    rw [place_val (by omega), place_val hb]; exact hlt

/-- The comparison a printed sort makes of two keys, as it is written, is that of the keys. -/
theorem sort_lt (x y : EReal) :
    FloatOps.cmpfTotal (F := Ideal) (φ := .f32) .lt
      (Scalar.select (FloatOps.cmpf (F := Ideal) (φ := .f32) .une x x) (FloatOps.ofBits (F := Ideal) .f32 0x7FC00000#32)
        (Scalar.select (FloatOps.cmpf (F := Ideal) (φ := .f32) .oeq x (FloatOps.ofBits .f32 0x00000000#32))
          (FloatOps.ofBits (F := Ideal) .f32 0x00000000#32) x))
      (Scalar.select (FloatOps.cmpf (F := Ideal) (φ := .f32) .une y y) (FloatOps.ofBits (F := Ideal) .f32 0x7FC00000#32)
        (Scalar.select (FloatOps.cmpf (F := Ideal) (φ := .f32) .oeq y (FloatOps.ofBits .f32 0x00000000#32))
          (FloatOps.ofBits (F := Ideal) .f32 0x00000000#32) y)) = 1#1 ↔ x < y := by
  have hn : ∀ z : EReal,
      Scalar.select (FloatOps.cmpf (F := Ideal) (φ := .f32) .une z z) (FloatOps.ofBits (F := Ideal) .f32 0x7FC00000#32)
        (Scalar.select (FloatOps.cmpf (F := Ideal) (φ := .f32) .oeq z (FloatOps.ofBits .f32 0x00000000#32))
          (FloatOps.ofBits (F := Ideal) .f32 0x00000000#32) z) = z := by
    intro z
    have h1 : FloatOps.cmpf (F := Ideal) (φ := .f32) .une z z = 0#1 := by
      show Ideal.cmp .une z z = 0#1
      unfold Ideal.cmp; simp
    rw [h1, select_zero]
    by_cases hz : z = Ideal.ofBits .f32 0x00000000#32
    · have h2 : FloatOps.cmpf (F := Ideal) (φ := .f32) .oeq z (FloatOps.ofBits .f32 0x00000000#32) = 1#1 := by
        show Ideal.cmp .oeq z (Ideal.ofBits .f32 0x00000000#32) = 1#1
        rw [hz]; unfold Ideal.cmp; simp
      rw [h2, select_one, hz]; rfl
    · have h2 : FloatOps.cmpf (F := Ideal) (φ := .f32) .oeq z (FloatOps.ofBits .f32 0x00000000#32) = 0#1 := by
        show Ideal.cmp .oeq z (Ideal.ofBits .f32 0x00000000#32) = 0#1
        have hz' : ¬ z = 0 := by rwa [Ideal.ofBits_zero_f32] at hz
        unfold Ideal.cmp; simp [hz']
      rw [h2, select_zero]
  rw [hn, hn]
  show Ideal.cmp .olt x y = 1#1 ↔ x < y
  exact Cert.KernelIdeal.Hand.cmp_olt_iff x y

/-- The second result of a sort of two vectors reads its operand at the sorted places. -/
theorem sort2_rank1 {n : ℕ} {α β : Type} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).2 j = y (Shape.Idx.ofFin (sortedFrom (fun k k' =>
      cmp (x (Shape.Idx.ofFin k), y (Shape.Idx.ofFin k)) (x (Shape.Idx.ofFin k'), y (Shape.Idx.ofFin k')) == 1#1) (j 0))) := by
  unfold Host.sort2
  simp

/-- What a printed argsort of the keys holds at a place. -/
theorem argsort_apply (cmp : EReal × BitVec 32 → EReal × BitVec 32 → BitVec 1)
    (hc : ∀ l r, cmp l r = 1#1 ↔ l.1 < r.1) (x : One) (hx : ∀ i, x (ix1 i) = key D O A i) (y : IVec (⟨1, ![20000]⟩ : Shape) 32)
    (hy : ∀ i : Fin 20000, y (ix1 i) = BitVec.ofNat 32 i.val) (k : Fin 20000) :
    (Host.sort2 (⟨1, ![20000]⟩ : Shape) 0 cmp x y).2 (ix1 k) = BitVec.ofNat 32 (ord D O A k).val := by
  have e : (Host.sort2 (⟨1, ![20000]⟩ : Shape) 0 cmp x y).2 (ix1 k)
      = y (ix1 (sortedFrom (fun a b => cmp (x (ix1 a), y (ix1 a)) (x (ix1 b), y (ix1 b)) == 1#1) k)) := by
    rw [sort2_rank1]
    simp only [Routing.ofFin_eq_ix1]
  rw [e, hy]
  unfold ord
  have hb : (fun a b : Fin 20000 => cmp (x (ix1 a), y (ix1 a)) (x (ix1 b), y (ix1 b)) == 1#1)
      = fun a b => decide (key D O A a < key D O A b) := by
    funext a b
    rw [Bool.eq_iff_iff, beq_iff_eq, decide_eq_true_iff, hc, hx, hx]
  rw [hb]

end Spec
-- ==== Proof.KI.Host.lean ====
/- The kernel's lines around its two calls, over the extended reals: the first call leaves the decoded boxes, the lines
   after it the scores, the order and the table of the rows in that order. -/
module

public import proofs.«01_k».proof.Proof.KI.Run
public import proofs.«01_k».proof.Proof.Spec
public import Idealize.ShloMosaic.Lib.Claim
public import Idealize.ShloMosaic.Lib.ReduceAll

@[expose] public section

set_option maxRecDepth 16384

noncomputable section

namespace Cert.KernelIdeal.Hand

open Idealize.ShloMosaic Idealize.ShloMosaic.StableHlo Idealize.SL.Sem
open Cert.KernelIdeal Cert.KernelIdeal.Gen

/-! ### The first call -/

/-- The decoded boxes, box by box. -/
theorem decOut_apply (D A : Spec.Four) (D' A' : P4 Ideal) (hD : ∀ k i, D' (ValueIdx.ix2 k i) = D (ValueIdx.ix2 i k))
    (hA : ∀ k i, A' (ValueIdx.ix2 k i) = A (ValueIdx.ix2 i k)) (k : Fin 4) (i : Fin 20000) :
    decOut D' A' (ValueIdx.ix2 k i) = Spec.box D A i k := by
  have c : ∀ v : Vec Ideal S1x20000 .f32, shapeCast S1x20000 v shapeCasts_S1x20000_S1x20000 = v := fun v =>
    funext fun x => shapeCast_apply v _ x x rfl
  have rD : ∀ k, row D' k (ValueIdx.ix2 (0 : Fin 1) i) = D (ValueIdx.ix2 i k) := fun k => hD k i
  have rA : ∀ k, row A' k (ValueIdx.ix2 (0 : Fin 1) i) = A (ValueIdx.ix2 i k) := fun k => hA k i
  have h7 : k0_pay7 (row A' 0) (row A' 2) (ValueIdx.ix2 (0 : Fin 1) i) = Spec.len A i 0 2 := by
    unfold k0_pay7 k0_pay5 Spec.len; rw [c, c, ← rA 0, ← rA 2]; rfl
  have h8 : k0_pay8 (row A' 1) (row A' 3) (ValueIdx.ix2 (0 : Fin 1) i) = Spec.len A i 1 3 := by
    unfold k0_pay8 k0_pay6 Spec.len; rw [c, c, ← rA 1, ← rA 3]; rfl
  have h9 : k0_pay9 (row A' 0) (row A' 2) (row D' 0) (ValueIdx.ix2 (0 : Fin 1) i) = Spec.mid D A i 0 2 := by
    unfold k0_pay9 k0_pay5 Spec.mid; rw [c, c, ← h7, ← rA 0, ← rD 0]; rfl
  have h10 : k0_pay10 (row A' 1) (row A' 3) (row D' 1) (ValueIdx.ix2 (0 : Fin 1) i) = Spec.mid D A i 1 3 := by
    unfold k0_pay10 k0_pay6 Spec.mid; rw [c, c, ← h8, ← rA 1, ← rD 1]; rfl
  have h11 : k0_pay11 (row A' 0) (row A' 2) (row D' 2) (ValueIdx.ix2 (0 : Fin 1) i) = Spec.ext D A i 0 2 := by
    unfold k0_pay11 Spec.ext; rw [c, ← h7, ← rD 2]; rfl
  have h12 : k0_pay12 (row A' 1) (row A' 3) (row D' 3) (ValueIdx.ix2 (0 : Fin 1) i) = Spec.ext D A i 1 3 := by
    unfold k0_pay12 Spec.ext; rw [c, ← h8, ← rD 3]; rfl
  match k with
  | ⟨0, _⟩ =>
    show k0_pay1 (k0_pay13 (row A' 0) (row A' 2) (row D' 0) (row D' 2)) (ValueIdx.ix2 (0 : Fin 1) i)
      = Spec.clip (Spec.mid D A i 0 2 - Spec.half * Spec.ext D A i 0 2)
    rw [← h9, ← h11]; rfl
  | ⟨1, _⟩ =>
    show k0_pay2 (pcy D' A') (ph D' A') (ValueIdx.ix2 (0 : Fin 1) i) = Spec.clip (Spec.mid D A i 1 3 - Spec.half * Spec.ext D A i 1 3)
    rw [← h10, ← h12]; rfl
  | ⟨2, _⟩ =>
    show k0_pay3 (pcx D' A') (pw D' A') (ValueIdx.ix2 (0 : Fin 1) i) = Spec.clip (Spec.mid D A i 0 2 + Spec.half * Spec.ext D A i 0 2)
    rw [← h9, ← h11]; rfl
  | ⟨3, _⟩ =>
    show k0_pay4 (pcy D' A') (ph D' A') (ValueIdx.ix2 (0 : Fin 1) i) = Spec.clip (Spec.mid D A i 1 3 + Spec.half * Spec.ext D A i 1 3)
    rw [← h10, ← h12]; rfl

/-! ### The lines between the calls, from any contents -/

/-- Row `k` of a four-row array, as a vector. -/
theorem row_at (B : FVec Ideal S4x20000 .f32) (k : Fin 4) (hs : S4x20000.Slices ![k.val, 0] S1x20000) (i : Fin 20000) :
    shapeCast S20000 (extractStridedSlice S1x20000 ![k.val, 0] B hs) shapeCasts_S1x20000_S20000 (ValueIdx.ix1 i) = B (ValueIdx.ix2 k i) := by
  refine (Routing.cast21 (a := 1) (b := 20000) (n := 20000) (extractStridedSlice S1x20000 ![k.val, 0] B hs)
    shapeCasts_S1x20000_S20000 0 i i (by simp)).trans ?_
  refine congrArg B (funext fun x => ?_)
  match x with
  | ⟨0, _⟩ => exact Fin.ext (show k.val + 0 = k.val from rfl)
  | ⟨1, _⟩ => exact Fin.ext (show 0 + i.val = i.val by omega)

variable (V : Valuation τ sig (Elt Ideal))

theorem line1_v17 (D A : Spec.Four) (hB : ∀ k i, (V (Proc.devRef .tc main_v2) : FVec Ideal S4x20000 .f32) (ValueIdx.ix2 k i) = Spec.box D A i k) (i : Fin 20000) :
    (after hostOps1 V (Proc.devRef .tc main_v17) : IVec S20000 1) (ValueIdx.ix1 i) = Spec.large D A i := by
  simp only [after_cons, after_nil]
  after_results_simp
  unfold Spec.large
  rw [← hB 0, ← hB 1, ← hB 2, ← hB 3, ← row_at (V (Proc.devRef .tc main_v2)) 0 slices_S4x20000_S1x20000_0_0,
    ← row_at (V (Proc.devRef .tc main_v2)) 1 slices_S4x20000_S1x20000_1_0,
    ← row_at (V (Proc.devRef .tc main_v2)) 2 slices_S4x20000_S1x20000_2_0,
    ← row_at (V (Proc.devRef .tc main_v2)) 3 slices_S4x20000_S1x20000_3_0]
  rfl

theorem line1_v23 (O : Spec.One) (hO : (V (Proc.devRef .tc main_arg1) : FVec Ideal S20000 .f32) = O) (i : Fin 20000) :
    (after hostOps1 V (Proc.devRef .tc main_v23) : FVec Ideal S20000 .f32) (ValueIdx.ix1 i)
      = Ideal.div Spec.unit (Spec.unit + FloatOps.exp (F := Ideal) (φ := .f32) (-O (ValueIdx.ix1 i))) := by
  simp only [after_cons, after_nil]
  after_results_simp
  rw [← hO]
  rfl

theorem line1_cst (j : S_.Idx) : (after hostOps1 V (Proc.devRef .tc main_cst_3) : FVec Ideal S_ .f32) j = Spec.under := by
  simp only [after_cons, after_nil]
  after_results_simp
  rfl

theorem line2_v24 (i : Fin 20000) (c17 : BitVec 1) (c23 : EReal)
    (h17 : (V (Proc.devRef .tc main_v17) : IVec S20000 1) (ValueIdx.ix1 i) = c17) (h23 : (V (Proc.devRef .tc main_v23) : FVec Ideal S20000 .f32) (ValueIdx.ix1 i) = c23)
    (h3 : ∀ j, (V (Proc.devRef .tc main_cst_3) : FVec Ideal S_ .f32) j = Spec.under) :
    (after hostOps1_1 V (Proc.devRef .tc main_v24) : FVec Ideal S20000 .f32) (ValueIdx.ix1 i) = Scalar.select c17 c23 Spec.under := by
  simp only [after_cons, after_nil]
  after_results_simp
  rw [← h17, ← h23]
  show Scalar.select _ _ ((V (Proc.devRef .tc main_cst_3) : FVec Ideal S_ .f32) _) = _
  rw [h3]
  rfl

theorem line3_v25 (i : Fin 20000) (x : EReal) (hx : (V (Proc.devRef .tc main_v24) : FVec Ideal S20000 .f32) (ValueIdx.ix1 i) = x) :
    (after hostOps1_2 V (Proc.devRef .tc main_v25) : FVec Ideal S20000 .f32) (ValueIdx.ix1 i) = -x := by
  simp only [after_cons, after_nil]
  after_results_simp
  rw [← hx]
  rfl

theorem comparator_iff (l r : EReal × BitVec 32) :
    comparator_f32_i32_d0 (F := Ideal) l r = 1#1 ↔ l.1 < r.1 := Spec.sort_lt l.1 r.1

theorem line4_v26 (D A : Spec.Four) (O : Spec.One) (hk : ∀ i, (V (Proc.devRef .tc main_v25) : FVec Ideal S20000 .f32) (ValueIdx.ix1 i) = Spec.key D O A i)
    (k : Fin 20000) : (after hostOps1_3 V (Proc.devRef .tc main_v26) : IVec S20000 32) (ValueIdx.ix1 k) = BitVec.ofNat 32 (Spec.ord D O A k).val := by
  simp only [after_cons, after_nil]
  after_results_simp
  have hy : ∀ i : Fin 20000, (iotaInDim S20000 32 0 : IVec S20000 32) (ValueIdx.ix1 i) = BitVec.ofNat 32 i.val := fun i => rfl
  have e := Spec.argsort_apply D O A (comparator_f32_i32_d0 (F := Ideal)) comparator_iff (V (Proc.devRef .tc main_v25)) hk
    (iotaInDim S20000 32 0) hy k
  exact e

end Cert.KernelIdeal.Hand
-- ==== Proof.KI.Table.lean ====
/- The table the second call reads, over the extended reals: row `j` is the box and the score at place `j` of the order. -/
module

public import proofs.«01_k».proof.Proof.KI.Host

@[expose] public section

set_option maxRecDepth 16384

noncomputable section

namespace Cert.KernelIdeal.Hand

open Idealize.ShloMosaic Idealize.ShloMosaic.StableHlo Idealize.SL.Sem
open Cert.KernelIdeal Cert.KernelIdeal.Gen

variable (V : Valuation τ sig (Elt Ideal))

/-- The table's column `k` of the first four is row `k` of the boxes. -/
theorem line5_box (i : Fin 20000) (k : Fin 4) :
    (after hostOps1_4 V (Proc.devRef .tc main_v30) : FVec Ideal S20000x8 .f32) (ValueIdx.ix2 i (⟨k.val, by omega⟩ : Fin 8))
      = (V (Proc.devRef .tc main_v2) : FVec Ideal S4x20000 .f32) (ValueIdx.ix2 k i) := by
  simp only [after_cons, after_nil]
  after_results_simp
  refine (concatenate_apply_piece (t := S20000x8) (1 : Fin 2) _ _ (ValueIdx.ix2 i (⟨k.val, by omega⟩ : Fin 8)) 0 (by simp)
    S20000x4 _ rfl rfl 0 rfl (ValueIdx.ix2 i k) (fun b hb => ?_) ?_).trans ?_
  · match b with
    | ⟨0, _⟩ => rfl
    | ⟨1, _⟩ => exact absurd rfl hb
  · show 0 + k.val = k.val
    omega
  · refine transpose_apply _ _ _ _ (ValueIdx.ix2 k i) fun b => ?_
    match b with
    | ⟨0, _⟩ => rfl
    | ⟨1, _⟩ => rfl

/-- The column after them is the scores. -/
theorem line5_score (i : Fin 20000) :
    (after hostOps1_4 V (Proc.devRef .tc main_v30) : FVec Ideal S20000x8 .f32) (ValueIdx.ix2 i (4 : Fin 8))
      = (V (Proc.devRef .tc main_v24) : FVec Ideal S20000 .f32) (ValueIdx.ix1 i) := by
  simp only [after_cons, after_nil]
  after_results_simp
  refine (concatenate_apply_piece (t := S20000x8) (1 : Fin 2) _ _ (ValueIdx.ix2 i (4 : Fin 8)) 1 (by simp)
    S20000x1 _ rfl rfl 4 rfl (ValueIdx.ix2 i (0 : Fin 1)) (fun b hb => ?_) rfl).trans ?_
  · match b with
    | ⟨0, _⟩ => rfl
    | ⟨1, _⟩ => exact absurd rfl hb
  · exact Routing.bcCol (n := 20000) bcast_S20000_S20000x1_0 (V (Proc.devRef .tc main_v24)) i

/-- The order's words, those below zero (there are none) counted from the end. -/
def wrapped (X : IVec S20000 32) : IVec S20000 32 :=
  select (cmpi .slt X (broadcastInDim S20000 ![] bcast_S_S20000 (constantI S_ 32 0#32)))
    (addi X (broadcastInDim S20000 ![] bcast_S_S20000 (constantI S_ 32 20000#32))) X

/-- They as a column. -/
def column (X : IVec S20000 32) : IVec S20000x1 32 := broadcastInDim S20000x1 ![0] bcast_S20000_S20000x1_0 (wrapped X)

/-- Whether each is a row's number. -/
def inside (X : IVec S20000 32) : IVec S20000x1 1 :=
  andi (cmpi .sge (column X) (broadcastInDim S20000x1 ![] bcast_S_S20000x1 (constantI S_ 32 0#32)))
    (cmpi .sle (column X) (broadcastInDim S20000x1 ![0, 1] bcast_S1x1_S20000x1_0_1
      (broadcastInDim S1x1 ![1] bcast_S1_S1x1_1 (constantI S1 32 19999#32))))

theorem column_at (X : IVec S20000 32) (σ : Fin 20000 → Fin 20000) (hσ : ∀ k, X (ValueIdx.ix1 k) = BitVec.ofNat 32 (σ k).val)
    (k : Fin 20000) : column X (ValueIdx.ix2 k (0 : Fin 1)) = BitVec.ofNat 32 (σ k).val := by
  unfold column
  refine (Routing.bcCol (n := 20000) _ _ k).trans ?_
  show Scalar.select (IntOp.cmpi .slt (X (ValueIdx.ix1 k)) 0#32) _ (X (ValueIdx.ix1 k)) = _
  rw [hσ k]
  refine Routing.wrap_of_lt _ _ ?_
  have := (σ k).isLt
  rw [BitVec.toNat_ofNat, Nat.mod_eq_of_lt (by omega)]
  omega

theorem inside_at (X : IVec S20000 32) (σ : Fin 20000 → Fin 20000) (hσ : ∀ k, X (ValueIdx.ix1 k) = BitVec.ofNat 32 (σ k).val)
    (i : S20000x1.Idx) : inside X i = 1#1 := by
  obtain ⟨k, rfl⟩ : ∃ k : Fin 20000, i = ValueIdx.ix2 k (0 : Fin 1) :=
    ⟨i 0, (ValueIdx.eq_ix2 i).trans (congrArg (ValueIdx.ix2 (i 0)) (Subsingleton.elim (α := Fin 1) _ _))⟩
  have hlt := (σ k).isLt
  have e : inside X (ValueIdx.ix2 k (0 : Fin 1)) = IntOp.andi (IntOp.cmpi .sge (column X (ValueIdx.ix2 k (0 : Fin 1))) 0#32)
    (IntOp.cmpi .sle (column X (ValueIdx.ix2 k (0 : Fin 1))) 19999#32) := rfl
  rw [e, column_at X σ hσ k]
  generalize (σ k).val = n at hlt
  have hn : (BitVec.ofNat 32 n).toInt = (n : Int) := StableHlo.Predicate.toInt_ofNat_small n (by omega)
  have h1 : IntOp.cmpi .sge (BitVec.ofNat 32 n) 0#32 = 1#1 := by
    show BitVec.ofBool (BitVec.sle 0#32 (BitVec.ofNat 32 n)) = 1#1
    have : BitVec.sle 0#32 (BitVec.ofNat 32 n) = true := by
      rw [BitVec.sle_eq_decide, hn]; simp
    rw [this]; rfl
  have h2 : IntOp.cmpi .sle (BitVec.ofNat 32 n) 19999#32 = 1#1 := by
    show BitVec.ofBool (BitVec.sle (BitVec.ofNat 32 n) 19999#32) = 1#1
    have : BitVec.sle (BitVec.ofNat 32 n) 19999#32 = true := by
      rw [BitVec.sle_eq_decide, hn]
      have : (19999#32 : BitVec 32).toInt = 19999 := by decide
      rw [this]; exact decide_eq_true (by omega)
    rw [this]; rfl
  rw [h1, h2]; rfl

/-- Row `k` of the taken rows is the row the order names. -/
theorem line6_v31 (σ : Fin 20000 → Fin 20000)
    (hσ : ∀ k, (V (Proc.devRef .tc main_v26) : IVec S20000 32) (ValueIdx.ix1 k) = BitVec.ofNat 32 (σ k).val) (k : Fin 20000) (f : Fin 8) :
    (after hostOps1_5 V (Proc.devRef .tc main_v31) : FVec Ideal S20000x8 .f32) (ValueIdx.ix2 k f)
      = (V (Proc.devRef .tc main_v30) : FVec Ideal S20000x8 .f32) (ValueIdx.ix2 (σ k) f) := by
  have hg := Routing.gather_row (nb := 20000) (B := 8) (n := 20000) gather_S20000x8_S20000x1_S20000x8_1_0_n_n_0_1_18 rfl rfl rfl rfl rfl
    (V (Proc.devRef .tc main_v30) : FVec Ideal S20000x8 .f32) (column (V (Proc.devRef .tc main_v26))) k f (σ k)
    (column_at _ σ hσ k) (by decide)
  refine Eq.trans ?_ hg
  have hm : (broadcastInDim S20000x8 ![0] bcast_S20000_S20000x8_0 (Host.reduce IntOp.andi (inside (V (Proc.devRef .tc main_v26)))
      (constantI S_ 1 1#1) reducesTo_S20000x1_S20000_d1 h_S_)) (ValueIdx.ix2 k f) = 1#1 := by
    unfold broadcastInDim
    exact Host.reduce_andi_one _ _ _ _ _ rfl (inside_at _ σ hσ)
  have hs := ValueIdx.select_one (a := Host.gather gather_S20000x8_S20000x1_S20000x8_1_0_n_n_0_1_18
    (V (Proc.devRef .tc main_v30) : FVec Ideal S20000x8 .f32) (column (V (Proc.devRef .tc main_v26))) (ValueIdx.ix2 k f))
    (b := (FloatOps.ofBits (F := Ideal) .f32 0x7FC00000#32))
  refine Eq.trans ?_ hs
  rw [← hm]
  simp only [after_cons, after_nil]
  after_results_simp
  simp only [TRef.toBuf, TRef.ofBuf, cast_eq]
  rfl

end Cert.KernelIdeal.Hand
-- ==== Proof.KI.Tail.lean ====
/- The lines after the second call: column `f` of the result holds plane `f`, slot by slot. -/
module

public import proofs.«01_k».proof.Proof.KI.Table

@[expose] public section

set_option maxRecDepth 16384

noncomputable section

namespace Cert.KernelIdeal.Hand

open Idealize.ShloMosaic Idealize.ShloMosaic.StableHlo Idealize.ShloMosaic.Pipeline Idealize.SL.Sem
open Cert.KernelIdeal Cert.KernelIdeal.Gen

/-! ### The lines after the second call -/

/-- The first thousand slots of a plane, as a column. -/
def slots (P : FVec Ideal S8x128 .f32) : FVec Ideal S1000x1 .f32 :=
  broadcastInDim S1000x1 ![0] bcast_S1000_S1000x1_0
    (extractStridedSlice S1000 ![0] (shapeCast S1024 P shapeCasts_S8x128_S1024) slices_S1024_S1000_0)

theorem slots_at (P : FVec Ideal S8x128 .f32) (s : Fin 1000) :
    slots P (ValueIdx.ix2 s (0 : Fin 1)) = P (atLin s.val (by omega)) := by
  unfold slots
  refine (Routing.bcCol (n := 1000) bcast_S1000_S1000x1_0 _ s).trans ?_
  refine (Routing.slice1 (m := 1024) (n := 1000) 0 _ slices_S1024_S1000_0 s (by omega)).trans ?_
  unfold atLin
  refine Routing.cast21 (a := 8) (b := 128) (n := 1024) P shapeCasts_S8x128_S1024 _ _ _ ?_
  show 0 + s.val = s.val / 128 * 128 + s.val % 128
  omega

variable (V : Valuation τ sig (Elt Ideal))

/-- Column `f` of the result holds plane `f`'s slots. -/
theorem line7_v48 (P : Fin 5 → FVec Ideal S8x128 .f32)
    (h0 : (V (Proc.devRef .tc main_v32_0) : FVec Ideal S8x128 .f32) = P 0) (h1 : (V (Proc.devRef .tc main_v32_1) : FVec Ideal S8x128 .f32) = P 1)
    (h2 : (V (Proc.devRef .tc main_v32_2) : FVec Ideal S8x128 .f32) = P 2) (h3 : (V (Proc.devRef .tc main_v32_3) : FVec Ideal S8x128 .f32) = P 3)
    (h4 : (V (Proc.devRef .tc main_v32_4) : FVec Ideal S8x128 .f32) = P 4) (s : Fin 1000) (f : Fin 5) :
    (after hostOps2 V (Proc.devRef .tc main_v48) : FVec Ideal S1000x5 .f32) (ValueIdx.ix2 s f) = P f (atLin s.val (by omega)) := by
  rw [← slots_at (P f) s]
  simp only [after_cons, after_nil]
  after_results_simp
  match f with
  | ⟨0, _⟩ =>
    refine (concatenate_apply_piece (t := S1000x5) (1 : Fin 2) _ _ (ValueIdx.ix2 s (0 : Fin 5)) 0 (by simp)
      S1000x1 _ rfl rfl 0 rfl (ValueIdx.ix2 s (0 : Fin 1)) (fun b hb => ?_) rfl).trans ?_
    · match b with
      | ⟨0, _⟩ => rfl
      | ⟨1, _⟩ => exact absurd rfl hb
    · exact congrArg (fun P => slots P (ValueIdx.ix2 s (0 : Fin 1))) h0
  | ⟨1, _⟩ =>
    refine (concatenate_apply_piece (t := S1000x5) (1 : Fin 2) _ _ (ValueIdx.ix2 s (1 : Fin 5)) 1 (by simp)
      S1000x1 _ rfl rfl 1 rfl (ValueIdx.ix2 s (0 : Fin 1)) (fun b hb => ?_) rfl).trans ?_
    · match b with
      | ⟨0, _⟩ => rfl
      | ⟨1, _⟩ => exact absurd rfl hb
    · exact congrArg (fun P => slots P (ValueIdx.ix2 s (0 : Fin 1))) h1
  | ⟨2, _⟩ =>
    refine (concatenate_apply_piece (t := S1000x5) (1 : Fin 2) _ _ (ValueIdx.ix2 s (2 : Fin 5)) 2 (by simp)
      S1000x1 _ rfl rfl 2 rfl (ValueIdx.ix2 s (0 : Fin 1)) (fun b hb => ?_) rfl).trans ?_
    · match b with
      | ⟨0, _⟩ => rfl
      | ⟨1, _⟩ => exact absurd rfl hb
    · exact congrArg (fun P => slots P (ValueIdx.ix2 s (0 : Fin 1))) h2
  | ⟨3, _⟩ =>
    refine (concatenate_apply_piece (t := S1000x5) (1 : Fin 2) _ _ (ValueIdx.ix2 s (3 : Fin 5)) 3 (by simp)
      S1000x1 _ rfl rfl 3 rfl (ValueIdx.ix2 s (0 : Fin 1)) (fun b hb => ?_) rfl).trans ?_
    · match b with
      | ⟨0, _⟩ => rfl
      | ⟨1, _⟩ => exact absurd rfl hb
    · exact congrArg (fun P => slots P (ValueIdx.ix2 s (0 : Fin 1))) h3
  | ⟨4, _⟩ =>
    refine (concatenate_apply_piece (t := S1000x5) (1 : Fin 2) _ _ (ValueIdx.ix2 s (4 : Fin 5)) 4 (by simp)
      S1000x1 _ rfl rfl 4 rfl (ValueIdx.ix2 s (0 : Fin 1)) (fun b hb => ?_) rfl).trans ?_
    · match b with
      | ⟨0, _⟩ => rfl
      | ⟨1, _⟩ => exact absurd rfl hb
    · exact congrArg (fun P => slots P (ValueIdx.ix2 s (0 : Fin 1))) h4

end Cert.KernelIdeal.Hand
-- ==== Proof.KI.Left.lean ====
/- What the first call leaves, over the extended reals: the boxes. -/
module

public import proofs.«01_k».proof.Proof.KI.Table

@[expose] public section

set_option maxRecDepth 16384

noncomputable section

namespace Cert.KernelIdeal.Hand

open Idealize.ShloMosaic Idealize.ShloMosaic.StableHlo Idealize.ShloMosaic.Pipeline Idealize.SL.Sem
open Cert.KernelIdeal Cert.KernelIdeal.Gen

/-! ### What the calls leave -/

variable (m : (ℓ : Loc nD τ sig) → Buf (Elt Ideal) ℓ)

/-- The deltas. -/
abbrev argD (c : Dev nD) : Spec.Four := m ((c.tc : Thread nD τ).loc main_arg0)
/-- The objectness. -/
abbrev argO (c : Dev nD) : Spec.One := m ((c.tc : Thread nD τ).loc main_arg1)
/-- The anchors. -/
abbrev argA (c : Dev nD) : Spec.Four := m ((c.tc : Thread nD τ).loc main_arg2)

theorem inD_at (c : Dev nD) (k : Fin 4) (i : Fin 20000) : inD (V1 m) c (ValueIdx.ix2 k i) = argD m c (ValueIdx.ix2 i k) := by
  unfold inD V1
  simp only [after_cons, after_nil]
  after_results_simp
  refine transpose_apply _ _ _ _ (ValueIdx.ix2 i k) fun b => ?_
  match b with
  | ⟨0, _⟩ => rfl
  | ⟨1, _⟩ => rfl

theorem inA_at (c : Dev nD) (k : Fin 4) (i : Fin 20000) : inA (V1 m) c (ValueIdx.ix2 k i) = argA m c (ValueIdx.ix2 i k) := by
  unfold inA V1
  simp only [after_cons, after_nil]
  after_results_simp
  refine transpose_apply _ _ _ _ (ValueIdx.ix2 i k) fun b => ?_
  match b with
  | ⟨0, _⟩ => rfl
  | ⟨1, _⟩ => rfl

theorem left_boxes (c : Dev nD) : V2 m (outs m) c (Proc.devRef .tc main_v2) = decOut (inD (V1 m) c) (inA (V1 m) c) := by
  have e : V2 m (outs m) c (Proc.devRef .tc main_v2) = afterRegion (dat0 (V1 m) c) (V1 m c) (Proc.devRef .tc main_v2) := by
    rw [V2, Function.update_self]; rfl
  rw [e]
  refine (afterRegion_arr (dat0 (V1 m) c) (V1 m c) winFacts0.arr_inj 2).trans ?_
  exact Dat.arrAt_eq_of_after_last (dat0 (V1 m) c) 2 t0_0 (by decide +kernel) _ (fun j => by rfl)

/-- The boxes. -/
theorem boxes_at (c : Dev nD) (k : Fin 4) (i : Fin 20000) :
    (V2 m (outs m) c (Proc.devRef .tc main_v2) : FVec Ideal S4x20000 .f32) (ValueIdx.ix2 k i) = Spec.box (argD m c) (argA m c) i k := by
  rw [left_boxes]
  exact decOut_apply _ _ _ _ (inD_at m c) (inA_at m c) k i

end Cert.KernelIdeal.Hand
-- ==== Proof.KI.Rows.lean ====
/- The table the second call takes: the rows in order of falling score. -/
module

public import proofs.«01_k».proof.Proof.KI.Left

@[expose] public section

set_option maxRecDepth 16384

noncomputable section

namespace Cert.KernelIdeal.Hand

open Idealize.ShloMosaic Idealize.ShloMosaic.StableHlo Idealize.ShloMosaic.Pipeline Idealize.SL.Sem
open Cert.KernelIdeal Cert.KernelIdeal.Gen

variable (m : (ℓ : Loc nD τ sig) → Buf (Elt Ideal) ℓ)

/-- The scores. -/
theorem scores_at (c : Dev nD) (i : Fin 20000) :
    (V4 m (outs m) c (Proc.devRef .tc main_v24) : FVec Ideal S20000 .f32) (ValueIdx.ix1 i) = Spec.score (argD m c) (argO m c) (argA m c) i := by
  refine line2_v24 (V3 m (outs m) c) i _ _ (line1_v17 (V2 m (outs m) c) _ _ (boxes_at m c) i)
    (line1_v23 (V2 m (outs m) c) (argO m c) ?_ i) (line1_cst (V2 m (outs m) c))
  exact (V2_of m (outs m) c main_arg1 (by decide)).trans (V1_of m c main_arg1 (by decide))

/-- The order. -/
theorem order_at (c : Dev nD) (k : Fin 20000) :
    (V6 m (outs m) c (Proc.devRef .tc main_v26) : IVec S20000 32) (ValueIdx.ix1 k)
      = BitVec.ofNat 32 (Spec.ord (argD m c) (argO m c) (argA m c) k).val :=
  line4_v26 (V5 m (outs m) c) _ _ _ (fun i => line3_v25 (V4 m (outs m) c) i _ (scores_at m c i)) k

/-- The table in that order. -/
theorem table_at (c : Dev nD) (k : Fin 20000) (f : Fin 8) :
    inT (V8 m (outs m)) c (ValueIdx.ix2 k f)
      = (V7 m (outs m) c (Proc.devRef .tc main_v30) : FVec Ideal S20000x8 .f32)
          (ValueIdx.ix2 (Spec.ord (argD m c) (argO m c) (argA m c) k) f) := by
  refine line6_v31 (V7 m (outs m) c) _ (fun k => ?_) k f
  rw [V7_of m (outs m) c main_v26 (by decide)]
  exact order_at m c k

theorem table_box (c : Dev nD) (k : Fin 20000) (f : Fin 4) :
    inT (V8 m (outs m)) c (ValueIdx.ix2 k (⟨f.val, by omega⟩ : Fin 8))
      = Spec.box (argD m c) (argA m c) (Spec.ord (argD m c) (argO m c) (argA m c) k) f := by
  rw [table_at, ← boxes_at m c]
  refine (line5_box (V6 m (outs m) c) _ f).trans ?_
  rw [V6_of m (outs m) c main_v2 (by decide), V5_of m (outs m) c main_v2 (by decide), V4_of m (outs m) c main_v2 (by decide),
    V3_of m (outs m) c main_v2 (by decide)]

theorem table_score (c : Dev nD) (k : Fin 20000) :
    inT (V8 m (outs m)) c (ValueIdx.ix2 k (4 : Fin 8))
      = Spec.score (argD m c) (argO m c) (argA m c) (Spec.ord (argD m c) (argO m c) (argA m c) k) := by
  rw [table_at, ← scores_at m c]
  refine (line5_score (V6 m (outs m) c) _).trans ?_
  rw [V6_of m (outs m) c main_v24 (by decide), V5_of m (outs m) c main_v24 (by decide)]

/-- The table's rows are the rows in order. -/
theorem table_rows (c : Dev nD) : rowOf (inT (V8 m (outs m)) c) = Spec.sortedRow (argD m c) (argO m c) (argA m c) := by
  funext j
  exact mk_congr (table_box m c (place j) 0) (table_box m c (place j) 1) (table_box m c (place j) 2) (table_box m c (place j) 3)
    (table_score m c (place j))

end Cert.KernelIdeal.Hand
-- ==== Proof.KI.Planes.lean ====
/- What the second call leaves: the planes of the rows kept. -/
module

public import proofs.«01_k».proof.Proof.KI.Table

@[expose] public section

set_option maxRecDepth 16384

noncomputable section

namespace Cert.KernelIdeal.Hand

open Idealize.ShloMosaic Idealize.ShloMosaic.StableHlo Idealize.ShloMosaic.Pipeline Idealize.SL.Sem
open Cert.KernelIdeal Cert.KernelIdeal.Gen

/-- The planes a table leaves. -/
def planesOf (X : Tbl Ideal) : Fin 5 → FVec Ideal S8x128 .f32 :=
  ![(finalN 2500 X).planes.x1, (finalN 2500 X).planes.y1, (finalN 2500 X).planes.x2, (finalN 2500 X).planes.y2,
    (finalN 2500 X).planes.sc]

variable (V : (c : Dev nD) → Valuation τ sig (Elt Ideal))

theorem after_plane0 (c : Dev nD) :
    afterRegion (dat1 V c) (V c) (Proc.devRef .tc main_v32_0) = planesOf (inT V c) 0 := by
  refine (afterRegion_arr (dat1 V c) (V c) winFacts1.arr_inj 1).trans ?_
  exact Dat.arrAt_eq_of_after_last (dat1 V c) 1 t1_0 (by decide +kernel) _ (fun j => by rfl)

theorem after_plane1 (c : Dev nD) :
    afterRegion (dat1 V c) (V c) (Proc.devRef .tc main_v32_1) = planesOf (inT V c) 1 := by
  refine (afterRegion_arr (dat1 V c) (V c) winFacts1.arr_inj 2).trans ?_
  exact Dat.arrAt_eq_of_after_last (dat1 V c) 2 t1_0 (by decide +kernel) _ (fun j => by rfl)

theorem after_plane2 (c : Dev nD) :
    afterRegion (dat1 V c) (V c) (Proc.devRef .tc main_v32_2) = planesOf (inT V c) 2 := by
  refine (afterRegion_arr (dat1 V c) (V c) winFacts1.arr_inj 3).trans ?_
  exact Dat.arrAt_eq_of_after_last (dat1 V c) 3 t1_0 (by decide +kernel) _ (fun j => by rfl)

theorem after_plane3 (c : Dev nD) :
    afterRegion (dat1 V c) (V c) (Proc.devRef .tc main_v32_3) = planesOf (inT V c) 3 := by
  refine (afterRegion_arr (dat1 V c) (V c) winFacts1.arr_inj 4).trans ?_
  exact Dat.arrAt_eq_of_after_last (dat1 V c) 4 t1_0 (by decide +kernel) _ (fun j => by rfl)

theorem after_plane4 (c : Dev nD) :
    afterRegion (dat1 V c) (V c) (Proc.devRef .tc main_v32_4) = planesOf (inT V c) 4 := by
  refine (afterRegion_arr (dat1 V c) (V c) winFacts1.arr_inj 5).trans ?_
  exact Dat.arrAt_eq_of_after_last (dat1 V c) 5 t1_0 (by decide +kernel) _ (fun j => by rfl)

variable (m : (ℓ : Loc nD τ sig) → Buf (Elt Ideal) ℓ)

theorem uc_mem (r : Ref sig .tc) (h : r.isScoped = false) : Proc.devRef .tc r ∈ Pipeline.ucRefs τ sig :=
  Finset.mem_filter.mpr ⟨StableHlo.devRef_mem_tcRefs _, by simpa using h⟩

theorem left_plane0 (c : Dev nD) :
    V9 m (outs m) c (Proc.devRef .tc main_v32_0) = planesOf (inT (V8 m (outs m)) c) 0 :=
  (left1 m c (Proc.devRef .tc main_v32_0) (uc_mem main_v32_0 (by decide))).symm.trans (after_plane0 (V8 m (outs m)) c)

theorem left_plane1 (c : Dev nD) :
    V9 m (outs m) c (Proc.devRef .tc main_v32_1) = planesOf (inT (V8 m (outs m)) c) 1 :=
  (left1 m c (Proc.devRef .tc main_v32_1) (uc_mem main_v32_1 (by decide))).symm.trans (after_plane1 (V8 m (outs m)) c)

theorem left_plane2 (c : Dev nD) :
    V9 m (outs m) c (Proc.devRef .tc main_v32_2) = planesOf (inT (V8 m (outs m)) c) 2 :=
  (left1 m c (Proc.devRef .tc main_v32_2) (uc_mem main_v32_2 (by decide))).symm.trans (after_plane2 (V8 m (outs m)) c)

theorem left_plane3 (c : Dev nD) :
    V9 m (outs m) c (Proc.devRef .tc main_v32_3) = planesOf (inT (V8 m (outs m)) c) 3 :=
  (left1 m c (Proc.devRef .tc main_v32_3) (uc_mem main_v32_3 (by decide))).symm.trans (after_plane3 (V8 m (outs m)) c)

theorem left_plane4 (c : Dev nD) :
    V9 m (outs m) c (Proc.devRef .tc main_v32_4) = planesOf (inT (V8 m (outs m)) c) 4 :=
  (left1 m c (Proc.devRef .tc main_v32_4) (uc_mem main_v32_4 (by decide))).symm.trans (after_plane4 (V8 m (outs m)) c)

end Cert.KernelIdeal.Hand
-- ==== Proof.KI.Result.lean ====
/- What the kernel ends with, over the extended reals: row `s` of its result is the `s`-th row kept, zero from the number
   of rows kept on. -/
module

public import proofs.«01_k».proof.Proof.KI.Tail
public import proofs.«01_k».proof.Proof.KI.Rows
public import proofs.«01_k».proof.Proof.KI.Planes

@[expose] public section

set_option maxRecDepth 16384

noncomputable section

namespace Cert.KernelIdeal.Hand

open Idealize.ShloMosaic Idealize.ShloMosaic.StableHlo Idealize.ShloMosaic.Pipeline Idealize.SL.Sem
open Cert.KernelIdeal Cert.KernelIdeal.Gen

variable (m : (ℓ : Loc nD τ sig) → Buf (Elt Ideal) ℓ)

/-- A slot of a field of the rows kept is the result's number. -/
theorem slot_out (c : Dev nD) (s : Fin 1000) (f : Fin 5) (g : Cand Ideal → EReal) (hg : ∀ r, g r = Spec.field r f) (h : s.val < 1024) :
    slot (keptN (inT (V8 m (outs m)) c) 20000) g (atLin s.val h) = Spec.out (argD m c) (argO m c) (argA m c) s.val f := by
  have hk : keptN (inT (V8 m (outs m)) c) 20000 = Spec.keptRows (argD m c) (argO m c) (argA m c) := by
    unfold keptN Spec.keptRows
    rw [table_rows]
  rw [hk]
  unfold slot Spec.out
  simp only [lin_atLin, hg]

/-- Five planes at a slot, the `f`-th of them. -/
theorem pick_plane (A0 A1 A2 A3 A4 : FVec Ideal S8x128 .f32) (g : Fin 5 → EReal) (i : S8x128.Idx) (h0 : A0 i = g 0) (h1 : A1 i = g 1)
    (h2 : A2 i = g 2) (h3 : A3 i = g 3) (h4 : A4 i = g 4) (f : Fin 5) :
    (![A0, A1, A2, A3, A4] : Fin 5 → FVec Ideal S8x128 .f32) f i = g f := by
  match f with
  | ⟨0, _⟩ => exact h0
  | ⟨1, _⟩ => exact h1
  | ⟨2, _⟩ => exact h2
  | ⟨3, _⟩ => exact h3
  | ⟨4, _⟩ => exact h4

/-- What the kernel ends with. -/
theorem result_at (c : Dev nD) (s : Fin 1000) (f : Fin 5) :
    (W10 m c (Proc.devRef .tc main_v48) : FVec Ideal S1000x5 .f32) (ValueIdx.ix2 s f) = Spec.out (argD m c) (argO m c) (argA m c) s.val f := by
  have e : W10 m c = after hostOps2 (V9 m (outs m) c) := by unfold W10 V10; rfl
  rw [e]
  refine (line7_v48 (V9 m (outs m) c) (planesOf (inT (V8 m (outs m)) c)) (left_plane0 m c) (left_plane1 m c) (left_plane2 m c) (left_plane3 m c)
    (left_plane4 m c) s f).trans ?_
  have hp := planes_all (inT (V8 m (outs m)) c) (fun a b hab hb h => by
    rw [table_rows] at h ⊢
    exact Spec.bad_after _ _ _ a b hab hb h) (atLin s.val (by omega)) (by rw [lin_atLin]; exact s.isLt)
  unfold planesOf
  generalize finalN 2500 (inT (V8 m (outs m)) c) = N at hp ⊢
  obtain ⟨p0, p1, p2, p3, p4⟩ := hp
  rw [slot_out m c s 0 (fun r => r.x1) (fun _ => rfl) (by omega)] at p0
  rw [slot_out m c s 1 (fun r => r.y1) (fun _ => rfl) (by omega)] at p1
  rw [slot_out m c s 2 (fun r => r.x2) (fun _ => rfl) (by omega)] at p2
  rw [slot_out m c s 3 (fun r => r.y2) (fun _ => rfl) (by omega)] at p3
  rw [slot_out m c s 4 (fun r => r.sc) (fun _ => rfl) (by omega)] at p4
  exact pick_plane _ _ _ _ _ (Spec.out (argD m c) (argO m c) (argA m c) s.val) _ p0 p1 p2 p3 p4 f

end Cert.KernelIdeal.Hand
-- ==== Proof.RI.Boxes.lean ====
/- The reference's lines up to the scores, over the extended reals: the clipped boxes, and which of them are large enough. -/
module

public import proofs.«01_k».proof.Proof.RI.Frame
public import proofs.«01_k».proof.Proof.Spec
public import Idealize.ShloMosaic.Lib.Claim

@[expose] public section

set_option maxRecDepth 16384

noncomputable section

namespace Cert.ReferenceIdeal.Hand

open Idealize.ShloMosaic Idealize.ShloMosaic.StableHlo Idealize.SL.Sem Cert.ReferenceIdeal Cert.ReferenceIdeal.Gen Cert.ReferenceIdeal.Value

/-- Column `k` of a four-column array, as a vector. -/
theorem col_at (B : FVec Ideal S20000x4 .f32) (k : Fin 4) (hs : S20000x4.Slices ![0, k.val] S20000x1) (i : Fin 20000) :
    shapeCast S20000 (extractStridedSlice S20000x1 ![0, k.val] B hs) shapeCasts_S20000x1_S20000 (ValueIdx.ix1 i) = B (ValueIdx.ix2 i k) := by
  refine (Routing.cast21 (a := 20000) (b := 1) (n := 20000) (extractStridedSlice S20000x1 ![0, k.val] B hs)
    shapeCasts_S20000x1_S20000 i 0 i (by simp)).trans ?_
  refine congrArg B (funext fun x => ?_)
  match x with
  | ⟨0, _⟩ => exact Fin.ext (show 0 + i.val = i.val by omega)
  | ⟨1, _⟩ => exact Fin.ext (show k.val + 0 = k.val from rfl)

variable (V : Valuation τ sig (Elt Ideal))

/-- The last lines of the first stretch: the four columns laid side by side. -/
abbrev joinOps {F : FTy → Type} [FloatOps F] : List (HloOp τ sig (Elt F)) :=
  [ StableHlo.unary main_v42 main_v52 (broadcastInDim S20000x1 ![0] bcast_S20000_S20000x1_0 : (⟨S20000, .f32⟩ : BufTy).Contents (Elt F) → (⟨S20000x1, .f32⟩ : BufTy).Contents (Elt F)),
    StableHlo.unary main_v45 main_v53 (broadcastInDim S20000x1 ![0] bcast_S20000_S20000x1_0 : (⟨S20000, .f32⟩ : BufTy).Contents (Elt F) → (⟨S20000x1, .f32⟩ : BufTy).Contents (Elt F)),
    StableHlo.unary main_v48 main_v54 (broadcastInDim S20000x1 ![0] bcast_S20000_S20000x1_0 : (⟨S20000, .f32⟩ : BufTy).Contents (Elt F) → (⟨S20000x1, .f32⟩ : BufTy).Contents (Elt F)),
    StableHlo.unary main_v51 main_v55 (broadcastInDim S20000x1 ![0] bcast_S20000_S20000x1_0 : (⟨S20000, .f32⟩ : BufTy).Contents (Elt F) → (⟨S20000x1, .f32⟩ : BufTy).Contents (Elt F)),
    StableHlo.nary ![main_v52, main_v53, main_v54, main_v55] main_v56 (fun u => (concatenate S20000x4 1 [⟨S20000x1, (u 0 : (⟨S20000x1, .f32⟩ : BufTy).Contents (Elt F))⟩, ⟨S20000x1, (u 1 : (⟨S20000x1, .f32⟩ : BufTy).Contents (Elt F))⟩, ⟨S20000x1, (u 2 : (⟨S20000x1, .f32⟩ : BufTy).Contents (Elt F))⟩, ⟨S20000x1, (u 3 : (⟨S20000x1, .f32⟩ : BufTy).Contents (Elt F))⟩] concatenates_S20000x1_S20000x1_S20000x1_S20000x1_S20000x4_d1 : (⟨S20000x4, .f32⟩ : BufTy).Contents (Elt F))),
    StableHlo.nullary main_cst_7 (constant S_ .f32 0x00000000#32),
    StableHlo.nullary main_cst_8 (constant S_ .f32 0x44800000#32) ]

theorem pre0_cut {F : FTy → Type} [FloatOps F] : (hostOps0 : List (HloOp τ sig (Elt F))) = hostOps0.take 60 ++ joinOps := rfl

/-- The four columns. -/
theorem join_v56 (c : Fin 4 → EReal) (i : Fin 20000)
    (h0 : (V (Proc.devRef .tc main_v42) : FVec Ideal S20000 .f32) (ValueIdx.ix1 i) = c 0)
    (h1 : (V (Proc.devRef .tc main_v45) : FVec Ideal S20000 .f32) (ValueIdx.ix1 i) = c 1)
    (h2 : (V (Proc.devRef .tc main_v48) : FVec Ideal S20000 .f32) (ValueIdx.ix1 i) = c 2)
    (h3 : (V (Proc.devRef .tc main_v51) : FVec Ideal S20000 .f32) (ValueIdx.ix1 i) = c 3) (k : Fin 4) :
    (after joinOps V (Proc.devRef .tc main_v56) : FVec Ideal S20000x4 .f32) (ValueIdx.ix2 i k) = c k := by
  simp only [after_cons, after_nil]
  after_results_simp
  match k with
  | ⟨0, _⟩ =>
    refine (concatenate_apply_piece (t := S20000x4) (1 : Fin 2) _ _ (ValueIdx.ix2 i (0 : Fin 4)) 0 (by simp)
      S20000x1 _ rfl rfl 0 rfl (ValueIdx.ix2 i (0 : Fin 1)) (fun b hb => ?_) rfl).trans ?_
    · match b with
      | ⟨0, _⟩ => rfl
      | ⟨1, _⟩ => exact absurd rfl hb
    · refine Eq.trans ?_ h0
      refine Eq.trans ?_ (Routing.bcCol (n := 20000) bcast_S20000_S20000x1_0 (V (Proc.devRef .tc main_v42)) i)
      rfl
  | ⟨1, _⟩ =>
    refine (concatenate_apply_piece (t := S20000x4) (1 : Fin 2) _ _ (ValueIdx.ix2 i (1 : Fin 4)) 1 (by simp)
      S20000x1 _ rfl rfl 1 rfl (ValueIdx.ix2 i (0 : Fin 1)) (fun b hb => ?_) rfl).trans ?_
    · match b with
      | ⟨0, _⟩ => rfl
      | ⟨1, _⟩ => exact absurd rfl hb
    · refine Eq.trans ?_ h1
      refine Eq.trans ?_ (Routing.bcCol (n := 20000) bcast_S20000_S20000x1_0 (V (Proc.devRef .tc main_v45)) i)
      rfl
  | ⟨2, _⟩ =>
    refine (concatenate_apply_piece (t := S20000x4) (1 : Fin 2) _ _ (ValueIdx.ix2 i (2 : Fin 4)) 2 (by simp)
      S20000x1 _ rfl rfl 2 rfl (ValueIdx.ix2 i (0 : Fin 1)) (fun b hb => ?_) rfl).trans ?_
    · match b with
      | ⟨0, _⟩ => rfl
      | ⟨1, _⟩ => exact absurd rfl hb
    · refine Eq.trans ?_ h2
      refine Eq.trans ?_ (Routing.bcCol (n := 20000) bcast_S20000_S20000x1_0 (V (Proc.devRef .tc main_v48)) i)
      rfl
  | ⟨3, _⟩ =>
    refine (concatenate_apply_piece (t := S20000x4) (1 : Fin 2) _ _ (ValueIdx.ix2 i (3 : Fin 4)) 3 (by simp)
      S20000x1 _ rfl rfl 3 rfl (ValueIdx.ix2 i (0 : Fin 1)) (fun b hb => ?_) rfl).trans ?_
    · match b with
      | ⟨0, _⟩ => rfl
      | ⟨1, _⟩ => exact absurd rfl hb
    · refine Eq.trans ?_ h3
      refine Eq.trans ?_ (Routing.bcCol (n := 20000) bcast_S20000_S20000x1_0 (V (Proc.devRef .tc main_v51)) i)
      rfl

/-- Reading a buffer the joining lines do not write. -/
theorem before_join (r : Ref sig .tc) (h : r ∉ [main_v52, main_v53, main_v54, main_v55, main_v56, main_cst_7, main_cst_8]) :
    after (hostOps0.take 60) V (Proc.devRef .tc r) = after hostOps0 V (Proc.devRef .tc r) := by
  conv_rhs => rw [pre0_cut, after_append]
  exact (after_of_writes_sub joinOps _ (W := [main_v52, main_v53, main_v54, main_v55, main_v56, main_cst_7, main_cst_8])
    (forall_writes_sub_of_map rfl) h).symm

/-- The four boundaries before clipping. -/
def corner (D A : Spec.Four) (i : Fin 20000) : Fin 4 → EReal :=
  ![Spec.mid D A i 0 2 - Spec.half * Spec.ext D A i 0 2, Spec.mid D A i 1 3 - Spec.half * Spec.ext D A i 1 3,
    Spec.mid D A i 0 2 + Spec.half * Spec.ext D A i 0 2, Spec.mid D A i 1 3 + Spec.half * Spec.ext D A i 1 3]

theorem corner_clip (D A : Spec.Four) (i : Fin 20000) (k : Fin 4) : Spec.clip (corner D A i k) = Spec.box D A i k := by
  match k with
  | ⟨0, _⟩ => rfl
  | ⟨1, _⟩ => rfl
  | ⟨2, _⟩ => rfl
  | ⟨3, _⟩ => rfl

theorem pre0_v42 (D A : Spec.Four) (hD : (V (Proc.devRef .tc main_arg0) : FVec Ideal S20000x4 .f32) = D)
    (hA : (V (Proc.devRef .tc main_arg2) : FVec Ideal S20000x4 .f32) = A) (i : Fin 20000) :
    (after hostOps0 V (Proc.devRef .tc main_v42) : FVec Ideal S20000 .f32) (ValueIdx.ix1 i) = corner D A i 0 := by
  simp only [after_cons, after_nil]
  after_results_simp
  show _ = Spec.mid D A i 0 2 - Spec.half * Spec.ext D A i 0 2
  unfold Spec.mid Spec.ext Spec.len
  rw [← col_at D 0 slices_S20000x4_S20000x1_0_0 i, ← col_at D 2 slices_S20000x4_S20000x1_0_2 i,
    ← col_at A 0 slices_S20000x4_S20000x1_0_0 i, ← col_at A 2 slices_S20000x4_S20000x1_0_2 i, ← hD, ← hA]
  rfl

theorem pre0_v45 (D A : Spec.Four) (hD : (V (Proc.devRef .tc main_arg0) : FVec Ideal S20000x4 .f32) = D)
    (hA : (V (Proc.devRef .tc main_arg2) : FVec Ideal S20000x4 .f32) = A) (i : Fin 20000) :
    (after hostOps0 V (Proc.devRef .tc main_v45) : FVec Ideal S20000 .f32) (ValueIdx.ix1 i) = corner D A i 1 := by
  simp only [after_cons, after_nil]
  after_results_simp
  show _ = Spec.mid D A i 1 3 - Spec.half * Spec.ext D A i 1 3
  unfold Spec.mid Spec.ext Spec.len
  rw [← col_at D 1 slices_S20000x4_S20000x1_0_1 i, ← col_at D 3 slices_S20000x4_S20000x1_0_3 i,
    ← col_at A 1 slices_S20000x4_S20000x1_0_1 i, ← col_at A 3 slices_S20000x4_S20000x1_0_3 i, ← hD, ← hA]
  rfl

theorem pre0_v48 (D A : Spec.Four) (hD : (V (Proc.devRef .tc main_arg0) : FVec Ideal S20000x4 .f32) = D)
    (hA : (V (Proc.devRef .tc main_arg2) : FVec Ideal S20000x4 .f32) = A) (i : Fin 20000) :
    (after hostOps0 V (Proc.devRef .tc main_v48) : FVec Ideal S20000 .f32) (ValueIdx.ix1 i) = corner D A i 2 := by
  simp only [after_cons, after_nil]
  after_results_simp
  show _ = Spec.mid D A i 0 2 + Spec.half * Spec.ext D A i 0 2
  unfold Spec.mid Spec.ext Spec.len
  rw [← col_at D 0 slices_S20000x4_S20000x1_0_0 i, ← col_at D 2 slices_S20000x4_S20000x1_0_2 i,
    ← col_at A 0 slices_S20000x4_S20000x1_0_0 i, ← col_at A 2 slices_S20000x4_S20000x1_0_2 i, ← hD, ← hA]
  rfl

theorem pre0_v51 (D A : Spec.Four) (hD : (V (Proc.devRef .tc main_arg0) : FVec Ideal S20000x4 .f32) = D)
    (hA : (V (Proc.devRef .tc main_arg2) : FVec Ideal S20000x4 .f32) = A) (i : Fin 20000) :
    (after hostOps0 V (Proc.devRef .tc main_v51) : FVec Ideal S20000 .f32) (ValueIdx.ix1 i) = corner D A i 3 := by
  simp only [after_cons, after_nil]
  after_results_simp
  show _ = Spec.mid D A i 1 3 + Spec.half * Spec.ext D A i 1 3
  unfold Spec.mid Spec.ext Spec.len
  rw [← col_at D 1 slices_S20000x4_S20000x1_0_1 i, ← col_at D 3 slices_S20000x4_S20000x1_0_3 i,
    ← col_at A 1 slices_S20000x4_S20000x1_0_1 i, ← col_at A 3 slices_S20000x4_S20000x1_0_3 i, ← hD, ← hA]
  rfl

theorem pre0_v56 (D A : Spec.Four) (hD : (V (Proc.devRef .tc main_arg0) : FVec Ideal S20000x4 .f32) = D)
    (hA : (V (Proc.devRef .tc main_arg2) : FVec Ideal S20000x4 .f32) = A) (i : Fin 20000) (k : Fin 4) :
    (after hostOps0 V (Proc.devRef .tc main_v56) : FVec Ideal S20000x4 .f32) (ValueIdx.ix2 i k) = corner D A i k := by
  rw [pre0_cut, after_append]
  refine join_v56 _ (corner D A i) i ?_ ?_ ?_ ?_ k
  · rw [before_join V main_v42 (by decide)]; exact pre0_v42 V D A hD hA i
  · rw [before_join V main_v45 (by decide)]; exact pre0_v45 V D A hD hA i
  · rw [before_join V main_v48 (by decide)]; exact pre0_v48 V D A hD hA i
  · rw [before_join V main_v51 (by decide)]; exact pre0_v51 V D A hD hA i

theorem pre0_lo (j : S_.Idx) : (after hostOps0 V (Proc.devRef .tc main_cst_7) : FVec Ideal S_ .f32) j = Spec.nil := by
  simp only [after_cons, after_nil]
  after_results_simp
  rfl

theorem pre0_hi (j : S_.Idx) : (after hostOps0 V (Proc.devRef .tc main_cst_8) : FVec Ideal S_ .f32) j = Spec.side := by
  simp only [after_cons, after_nil]
  after_results_simp
  rfl

/-- The boxes clipped. -/
theorem pre1_v57 (i : Fin 20000) (k : Fin 4) (x : EReal)
    (hx : (V (Proc.devRef .tc main_v56) : FVec Ideal S20000x4 .f32) (ValueIdx.ix2 i k) = x)
    (hlo : ∀ j, (V (Proc.devRef .tc main_cst_7) : FVec Ideal S_ .f32) j = Spec.nil)
    (hhi : ∀ j, (V (Proc.devRef .tc main_cst_8) : FVec Ideal S_ .f32) j = Spec.side) :
    (after hostOps0_1 V (Proc.devRef .tc main_v57) : FVec Ideal S20000x4 .f32) (ValueIdx.ix2 i k) = Spec.clip x := by
  simp only [after_cons, after_nil]
  after_results_simp
  simp only [TRef.toBuf, TRef.ofBuf, cast_eq]
  unfold Spec.clip
  exact congr (congr (congrArg (fun a b c : EReal => min a (max b c)) (hhi _)) (hlo _)) hx

theorem pre2_v72 (D A : Spec.Four)
    (hB : ∀ i k, (V (Proc.devRef .tc main_v57) : FVec Ideal S20000x4 .f32) (ValueIdx.ix2 i k) = Spec.box D A i k) (i : Fin 20000) :
    (after hostOps0_2 V (Proc.devRef .tc main_v72) : IVec S20000 1) (ValueIdx.ix1 i) = Spec.large D A i := by
  simp only [after_cons, after_nil]
  after_results_simp
  unfold Spec.large
  rw [← hB i 0, ← hB i 1, ← hB i 2, ← hB i 3, ← col_at (V (Proc.devRef .tc main_v57)) 0 slices_S20000x4_S20000x1_0_0,
    ← col_at (V (Proc.devRef .tc main_v57)) 1 slices_S20000x4_S20000x1_0_1,
    ← col_at (V (Proc.devRef .tc main_v57)) 2 slices_S20000x4_S20000x1_0_2,
    ← col_at (V (Proc.devRef .tc main_v57)) 3 slices_S20000x4_S20000x1_0_3]
  rfl

theorem pre2_v78 (O : Spec.One) (hO : (V (Proc.devRef .tc main_arg1) : FVec Ideal S20000 .f32) = O) (i : Fin 20000) :
    (after hostOps0_2 V (Proc.devRef .tc main_v78) : FVec Ideal S20000 .f32) (ValueIdx.ix1 i)
      = Ideal.div Spec.unit (Spec.unit + FloatOps.exp (F := Ideal) (φ := .f32) (-O (ValueIdx.ix1 i))) := by
  simp only [after_cons, after_nil]
  after_results_simp
  rw [← hO]
  rfl

theorem pre2_cst (j : S_.Idx) : (after hostOps0_2 V (Proc.devRef .tc main_cst_13) : FVec Ideal S_ .f32) j = Spec.under := by
  simp only [after_cons, after_nil]
  after_results_simp
  rfl

theorem pre3_v79 (i : Fin 20000) (c72 : BitVec 1) (c78 : EReal)
    (h72 : (V (Proc.devRef .tc main_v72) : IVec S20000 1) (ValueIdx.ix1 i) = c72) (h78 : (V (Proc.devRef .tc main_v78) : FVec Ideal S20000 .f32) (ValueIdx.ix1 i) = c78)
    (h3 : ∀ j, (V (Proc.devRef .tc main_cst_13) : FVec Ideal S_ .f32) j = Spec.under) :
    (after hostOps0_3 V (Proc.devRef .tc main_v79) : FVec Ideal S20000 .f32) (ValueIdx.ix1 i) = Scalar.select c72 c78 Spec.under := by
  simp only [after_cons, after_nil]
  after_results_simp
  rw [← h72, ← h78]
  show Scalar.select _ _ ((V (Proc.devRef .tc main_cst_13) : FVec Ideal S_ .f32) _) = _
  rw [h3]
  rfl

theorem pre4_v80 (i : Fin 20000) (x : EReal) (hx : (V (Proc.devRef .tc main_v79) : FVec Ideal S20000 .f32) (ValueIdx.ix1 i) = x) :
    (after hostOps0_4 V (Proc.devRef .tc main_v80) : FVec Ideal S20000 .f32) (ValueIdx.ix1 i) = -x := by
  simp only [after_cons, after_nil]
  after_results_simp
  rw [← hx]
  rfl

theorem comparator_iff (l r : EReal × BitVec 32) :
    comparator_f32_i32_d0 (F := Ideal) l r = 1#1 ↔ l.1 < r.1 := Spec.sort_lt l.1 r.1

theorem pre5_v81 (D A : Spec.Four) (O : Spec.One) (hk : ∀ i, (V (Proc.devRef .tc main_v80) : FVec Ideal S20000 .f32) (ValueIdx.ix1 i) = Spec.key D O A i)
    (k : Fin 20000) : (after hostOps0_5 V (Proc.devRef .tc main_v81) : IVec S20000 32) (ValueIdx.ix1 k) = BitVec.ofNat 32 (Spec.ord D O A k).val := by
  simp only [after_cons, after_nil]
  after_results_simp
  have hy : ∀ i : Fin 20000, (iotaInDim S20000 32 0 : IVec S20000 32) (ValueIdx.ix1 i) = BitVec.ofNat 32 i.val := fun i => rfl
  have e := Spec.argsort_apply D O A (comparator_f32_i32_d0 (F := Ideal)) comparator_iff (V (Proc.devRef .tc main_v80)) hk
    (iotaInDim S20000 32 0) hy k
  exact e

end Cert.ReferenceIdeal.Hand
-- ==== Proof.RI.Sorted.lean ====
/- The reference's lines between its sort and its loop, from any contents: the boxes and the scores taken in the order the sort
   gives, the areas, the first marks, and the loop's counters. -/
module

public import proofs.«01_k».proof.Proof.RI.Boxes

@[expose] public section

set_option maxRecDepth 16384

noncomputable section

namespace Cert.ReferenceIdeal.Hand

open Idealize.ShloMosaic Idealize.ShloMosaic.StableHlo Idealize.SL.Sem Cert.ReferenceIdeal Cert.ReferenceIdeal.Gen Cert.ReferenceIdeal.Value

/-- The order's words as a column, those below zero (there are none) counted from the end. -/
def column (X : IVec S20000 32) : IVec S20000x1 32 :=
  broadcastInDim S20000x1 ![0] bcast_S20000_S20000x1_0
    (select (cmpi .slt X (broadcastInDim S20000 ![] bcast_S_S20000 (constantI S_ 32 0#32)))
      (addi X (broadcastInDim S20000 ![] bcast_S_S20000 (constantI S_ 32 20000#32))) X)

theorem column_at (X : IVec S20000 32) (σ : Fin 20000 → Fin 20000) (hσ : ∀ k, X (ValueIdx.ix1 k) = BitVec.ofNat 32 (σ k).val)
    (k : Fin 20000) : column X (ValueIdx.ix2 k (0 : Fin 1)) = BitVec.ofNat 32 (σ k).val := by
  unfold column
  refine (Routing.bcCol (n := 20000) _ _ k).trans ?_
  show Scalar.select (IntOp.cmpi .slt (X (ValueIdx.ix1 k)) 0#32) _ (X (ValueIdx.ix1 k)) = _
  rw [hσ k]
  refine Routing.wrap_of_lt _ _ ?_
  have := (σ k).isLt
  rw [BitVec.toNat_ofNat, Nat.mod_eq_of_lt (by omega)]
  omega

/-- The boxes in order. -/
def taken (B : FVec Ideal S20000x4 .f32) (X : IVec S20000 32) : FVec Ideal S20000x4 .f32 :=
  Host.gather gather_S20000x4_S20000x1_S20000x4_1_0_n_n_0_1_14 B (column X)

/-- The scores in order. -/
def takenS (B : FVec Ideal S20000 .f32) (X : IVec S20000 32) : FVec Ideal S20000 .f32 :=
  Host.gather gather_S20000_S20000x1_S20000_n_0_n_n_0_1_1 B (column X)

theorem taken_at (B : FVec Ideal S20000x4 .f32) (X : IVec S20000 32) (σ : Fin 20000 → Fin 20000)
    (hσ : ∀ k, X (ValueIdx.ix1 k) = BitVec.ofNat 32 (σ k).val) (k : Fin 20000) (f : Fin 4) :
    taken B X (ValueIdx.ix2 k f) = B (ValueIdx.ix2 (σ k) f) :=
  Routing.gather_row (nb := 20000) (B := 4) (n := 20000) gather_S20000x4_S20000x1_S20000x4_1_0_n_n_0_1_14 rfl rfl rfl rfl rfl
    B (column X) k f (σ k) (column_at X σ hσ k) (by decide)

theorem takenS_at (B : FVec Ideal S20000 .f32) (X : IVec S20000 32) (σ : Fin 20000 → Fin 20000)
    (hσ : ∀ k, X (ValueIdx.ix1 k) = BitVec.ofNat 32 (σ k).val) (k : Fin 20000) :
    takenS B X (ValueIdx.ix1 k) = B (ValueIdx.ix1 (σ k)) :=
  Routing.gather_take1 (N := 20000) (n := 20000) gather_S20000_S20000x1_S20000_n_0_n_n_0_1_1 rfl rfl rfl rfl
    B (column X) k (σ k) (column_at X σ hσ k) (by decide)

variable (V : Valuation τ sig (Elt Ideal))

theorem pre6_v88 : (after hostOps0_6 V (Proc.devRef .tc main_v88) : FVec Ideal S20000x4 .f32)
    = taken (V (Proc.devRef .tc main_v57)) (V (Proc.devRef .tc main_v81)) := by
  simp only [after_cons, after_nil]
  after_results_simp
  rfl

theorem pre6_v95 : (after hostOps0_6 V (Proc.devRef .tc main_v95) : FVec Ideal S20000 .f32)
    = takenS (V (Proc.devRef .tc main_v79)) (V (Proc.devRef .tc main_v81)) := by
  simp only [after_cons, after_nil]
  after_results_simp
  rfl

theorem pre6_boxes : (after hostOps0_6 V (Proc.devRef .tc main_v110_0) : FVec Ideal S20000x4 .f32)
    = taken (V (Proc.devRef .tc main_v57)) (V (Proc.devRef .tc main_v81)) := by
  simp only [after_cons, after_nil]
  after_results_simp
  rfl

theorem pre6_area (k : Fin 20000) (b : Fin 4 → EReal)
    (hb : ∀ f, taken (V (Proc.devRef .tc main_v57)) (V (Proc.devRef .tc main_v81)) (ValueIdx.ix2 k f) = b f) :
    (after hostOps0_6 V (Proc.devRef .tc main_v110_1) : FVec Ideal S20000 .f32) (ValueIdx.ix1 k) = (b 2 - b 0) * (b 3 - b 1) := by
  simp only [after_cons, after_nil]
  after_results_simp
  rw [← hb 0, ← hb 1, ← hb 2, ← hb 3,
    ← col_at (taken (V (Proc.devRef .tc main_v57)) (V (Proc.devRef .tc main_v81))) 0 slices_S20000x4_S20000x1_0_0,
    ← col_at (taken (V (Proc.devRef .tc main_v57)) (V (Proc.devRef .tc main_v81))) 1 slices_S20000x4_S20000x1_0_1,
    ← col_at (taken (V (Proc.devRef .tc main_v57)) (V (Proc.devRef .tc main_v81))) 2 slices_S20000x4_S20000x1_0_2,
    ← col_at (taken (V (Proc.devRef .tc main_v57)) (V (Proc.devRef .tc main_v81))) 3 slices_S20000x4_S20000x1_0_3]
  rfl

theorem pre6_iota (k : Fin 20000) :
    (after hostOps0_6 V (Proc.devRef .tc main_v110_2) : IVec S20000 32) (ValueIdx.ix1 k) = BitVec.ofNat 32 k.val := by
  simp only [after_cons, after_nil]
  after_results_simp
  rfl

theorem pre6_trip (j : S_.Idx) : (after hostOps0_6 V (Proc.devRef .tc main_v110_4) : IVec S_ 32) j = 0#32 := by
  simp only [after_cons, after_nil]
  after_results_simp
  rfl

theorem pre6_marks (k : Fin 20000) (x : EReal)
    (hx : takenS (V (Proc.devRef .tc main_v79)) (V (Proc.devRef .tc main_v81)) (ValueIdx.ix1 k) = x) :
    (after hostOps0_6 V (Proc.devRef .tc main_v110_5) : IVec S20000 1) (ValueIdx.ix1 k) = Ideal.cmp .olt x (Ideal.ofBits .f32 0x00000000#32) := by
  simp only [after_cons, after_nil]
  after_results_simp
  rw [← hx]
  rfl

end Cert.ReferenceIdeal.Hand
-- ==== Proof.RI.Entry.lean ====
/- What the reference's loop starts from, over the extended reals: the rows in order of falling score. -/
module

public import proofs.«01_k».proof.Proof.RI.Sorted

@[expose] public section

set_option maxRecDepth 16384

noncomputable section

namespace Cert.ReferenceIdeal.Hand

open Idealize.ShloMosaic Idealize.ShloMosaic.StableHlo Idealize.SL.Sem Cert.ReferenceIdeal Cert.ReferenceIdeal.Gen Cert.ReferenceIdeal.Value

variable (m : (ℓ : Loc nD τ sig) → Buf (Elt Ideal) ℓ)

/-- The deltas. -/
abbrev argD (c : Dev nD) : Spec.Four := m ((c.tc : Thread nD τ).loc main_arg0)
/-- The objectness. -/
abbrev argO (c : Dev nD) : Spec.One := m ((c.tc : Thread nD τ).loc main_arg1)
/-- The anchors. -/
abbrev argA (c : Dev nD) : Spec.Four := m ((c.tc : Thread nD τ).loc main_arg2)

/-- The contents after each stretch before the loop. -/
def U0 (c : Dev nD) : Valuation τ sig (Elt Ideal) := after hostOps0 (entryContents [] m c)
def U1 (c : Dev nD) : Valuation τ sig (Elt Ideal) := after hostOps0_1 (U0 m c)
def U2 (c : Dev nD) : Valuation τ sig (Elt Ideal) := after hostOps0_2 (U1 m c)
def U3 (c : Dev nD) : Valuation τ sig (Elt Ideal) := after hostOps0_3 (U2 m c)
def U4 (c : Dev nD) : Valuation τ sig (Elt Ideal) := after hostOps0_4 (U3 m c)
def U5 (c : Dev nD) : Valuation τ sig (Elt Ideal) := after hostOps0_5 (U4 m c)

theorem entry_eq (c : Dev nD) : entryContents preI m c = after hostOps0_6 (U5 m c) := by
  unfold U5 U4 U3 U2 U1 U0
  simp only [entryContents, preI, afterL_cons, afterL_nil]

theorem boxes_at (c : Dev nD) (i : Fin 20000) (k : Fin 4) :
    (U1 m c (Proc.devRef .tc main_v57) : FVec Ideal S20000x4 .f32) (ValueIdx.ix2 i k) = Spec.box (argD m c) (argA m c) i k := by
  rw [← corner_clip]
  exact pre1_v57 (U0 m c) i k _ (pre0_v56 (entryContents [] m c) _ _ rfl rfl i k) (pre0_lo _) (pre0_hi _)

theorem scores_at (c : Dev nD) (i : Fin 20000) :
    (U3 m c (Proc.devRef .tc main_v79) : FVec Ideal S20000 .f32) (ValueIdx.ix1 i) = Spec.score (argD m c) (argO m c) (argA m c) i := by
  refine pre3_v79 (U2 m c) i _ _ (pre2_v72 (U1 m c) _ _ (boxes_at m c) i) (pre2_v78 (U1 m c) (argO m c) ?_ i) (pre2_cst (U1 m c))
  exact (after_of_writes_sub hostOps0_1 _ hostOps0_1_writes (r := main_arg1) (by decide)).trans
    (after_of_writes_sub hostOps0 _ hostOps0_writes (r := main_arg1) (by decide +kernel))

theorem order_at (c : Dev nD) (k : Fin 20000) :
    (U5 m c (Proc.devRef .tc main_v81) : IVec S20000 32) (ValueIdx.ix1 k)
      = BitVec.ofNat 32 (Spec.ord (argD m c) (argO m c) (argA m c) k).val :=
  pre5_v81 (U4 m c) _ _ _ (fun i => pre4_v80 (U3 m c) i _ (scores_at m c i)) k

theorem boxes_kept (c : Dev nD) : U5 m c (Proc.devRef .tc main_v57) = U1 m c (Proc.devRef .tc main_v57) := by
  unfold U5 U4 U3 U2
  rw [after_of_writes_sub hostOps0_5 _ hostOps0_5_writes (r := main_v57) (by decide), after_of_writes_sub hostOps0_4 _ hostOps0_4_writes (r := main_v57) (by decide),
    after_of_writes_sub hostOps0_3 _ hostOps0_3_writes (r := main_v57) (by decide), after_of_writes_sub hostOps0_2 _ hostOps0_2_writes (r := main_v57) (by decide)]

theorem scores_kept (c : Dev nD) : U5 m c (Proc.devRef .tc main_v79) = U3 m c (Proc.devRef .tc main_v79) := by
  unfold U5 U4
  rw [after_of_writes_sub hostOps0_5 _ hostOps0_5_writes (r := main_v79) (by decide), after_of_writes_sub hostOps0_4 _ hostOps0_4_writes (r := main_v79) (by decide)]

/-- Row `k` in order: its box, -/
theorem taken_box (c : Dev nD) (k : Fin 20000) (f : Fin 4) :
    taken (U5 m c (Proc.devRef .tc main_v57)) (U5 m c (Proc.devRef .tc main_v81)) (ValueIdx.ix2 k f)
      = Spec.box (argD m c) (argA m c) (Spec.ord (argD m c) (argO m c) (argA m c) k) f := by
  rw [taken_at _ _ _ (order_at m c), boxes_kept]
  exact boxes_at m c _ f

/-- and its score. -/
theorem taken_score (c : Dev nD) (k : Fin 20000) :
    takenS (U5 m c (Proc.devRef .tc main_v79)) (U5 m c (Proc.devRef .tc main_v81)) (ValueIdx.ix1 k)
      = Spec.score (argD m c) (argO m c) (argA m c) (Spec.ord (argD m c) (argO m c) (argA m c) k) := by
  rw [takenS_at _ _ _ (order_at m c), scores_kept]
  exact scores_at m c _

end Cert.ReferenceIdeal.Hand
-- ==== Proof.RI.Trip.lean ====
/- One trip of the reference's loop, over the extended reals: row `k`, unless it is marked, marks every later row it overlaps. -/
module

public import proofs.«01_k».proof.Proof.RI.Boxes
public import Idealize.ShloMosaic.Lib.DynamicIndex

@[expose] public section

set_option maxRecDepth 16384

noncomputable section

namespace Cert.ReferenceIdeal.Hand

open Idealize.ShloMosaic Idealize.ShloMosaic.StableHlo Idealize.SL.Sem Cert.ReferenceIdeal Cert.ReferenceIdeal.Gen Cert.ReferenceIdeal.Value
open Cert.KernelIdeal.Hand (Cand badRow ovRow interE areaE ratioE)

/-- The trip's number as a row index, counted from the end if below zero (it never is). -/
def rowWord (W : IVec S_ 32) : IVec S_ 32 :=
  select (cmpi .slt W (constantI S_ 32 0#32)) (addi W (constantI S_ 32 20000#32)) W

/-- A column's number, likewise. -/
def colWord (f : BitVec 32) : IVec S_ 32 :=
  select (cmpi .slt (constantI S_ 32 f) (constantI S_ 32 0#32)) (addi (constantI S_ 32 f) (constantI S_ 32 4#32)) (constantI S_ 32 f)

theorem rowWord_at (W : IVec S_ 32) (k : ℕ) (hk : k < 20000) (hW : ∀ j, W j = BitVec.ofNat 32 k) (j : S_.Idx) :
    (rowWord W j).toInt = (k : ℤ) := by
  have e : rowWord W j = BitVec.ofNat 32 k := by
    show Scalar.select (IntOp.cmpi .slt (W j) 0#32) _ (W j) = _
    rw [hW j]
    refine Routing.wrap_of_lt _ _ ?_
    rw [BitVec.toNat_ofNat, Nat.mod_eq_of_lt (by omega)]
    omega
  rw [e]
  exact StableHlo.Predicate.toInt_ofNat_small k (by omega)

theorem colWord_at (f : Fin 4) (j : S_.Idx) : (colWord (BitVec.ofNat 32 f.val) j).toInt = (f.val : ℤ) := by
  show (Scalar.select (IntOp.cmpi .slt (BitVec.ofNat 32 f.val) 0#32) (BitVec.ofNat 32 f.val + 4#32) (BitVec.ofNat 32 f.val)).toInt = _
  revert f
  decide

/-- Element `k` of a vector, read at the trip's number. -/
def pick1 {α : Type} (x : S20000.Idx → α) (W : IVec S_ 32) : S_.Idx → α :=
  shapeCast S_ (Host.dynamicSlice S1 x (fun k => ((![rowWord W] : Fin 1 → IVec S_ 32) k (Shape.Idx.first h_S_)).toInt) sliceFits_S20000_S1)
    shapeCasts_S1_S_

/-- Number `f` of row `k`, likewise. -/
def pick2 {α : Type} (x : S20000x4.Idx → α) (W : IVec S_ 32) (f : BitVec 32) : S_.Idx → α :=
  shapeCast S_ (Host.dynamicSlice S1x1 x (fun k => ((![rowWord W, colWord f] : Fin 2 → IVec S_ 32) k (Shape.Idx.first h_S_)).toInt)
    sliceFits_S20000x4_S1x1) shapeCasts_S1x1_S_

theorem pick1_eq {α : Type} (x : S20000.Idx → α) (W : IVec S_ 32) (k : Fin 20000) (hW : ∀ j, W j = BitVec.ofNat 32 k.val) :
    pick1 x W = fun _ => x (ValueIdx.ix1 k) := by
  funext j
  unfold pick1
  have hoff : S20000.Slices ![k.val] S1 := by
    refine ⟨rfl, fun a => ?_⟩
    match a with
    | ⟨0, _⟩ => exact k.isLt
  rw [Host.dynamicSlice_eq_extractStridedSlice S1 x _ ![k.val] sliceFits_S20000_S1 hoff (fun a => by
    match a with
    | ⟨0, _⟩ => exact rowWord_at W k.val k.isLt hW _)]
  refine (shapeCast_apply _ _ j (ValueIdx.ix1 (0 : Fin 1)) ?_).trans ?_
  · exact congrArg Fin.val (Subsingleton.elim (α := Fin 1) _ _)
  · refine congrArg x (funext fun a => ?_)
    match a with
    | ⟨0, _⟩ => exact Fin.ext (show k.val + 0 = k.val from rfl)

theorem pick2_eq {α : Type} (x : S20000x4.Idx → α) (W : IVec S_ 32) (k : Fin 20000) (f : Fin 4) (hW : ∀ j, W j = BitVec.ofNat 32 k.val) :
    pick2 x W (BitVec.ofNat 32 f.val) = fun _ => x (ValueIdx.ix2 k f) := by
  funext j
  unfold pick2
  have hoff : S20000x4.Slices ![k.val, f.val] S1x1 := by
    refine ⟨rfl, fun a => ?_⟩
    match a with
    | ⟨0, _⟩ => exact k.isLt
    | ⟨1, _⟩ => exact f.isLt
  rw [Host.dynamicSlice_eq_extractStridedSlice S1x1 x _ ![k.val, f.val] sliceFits_S20000x4_S1x1 hoff (fun a => by
    match a with
    | ⟨0, _⟩ => exact rowWord_at W k.val k.isLt hW _
    | ⟨1, _⟩ => exact colWord_at f _)]
  refine (shapeCast_apply _ _ j (ValueIdx.ix2 (0 : Fin 1) (0 : Fin 1)) ?_).trans ?_
  · exact congrArg Fin.val (Subsingleton.elim (α := Fin 1) _ _)
  · refine congrArg x (funext fun a => ?_)
    match a with
    | ⟨0, _⟩ => exact Fin.ext (show k.val + 0 = k.val from rfl)
    | ⟨1, _⟩ => exact Fin.ext (show f.val + 0 = f.val from rfl)

/-- Column `f` of the boxes. -/
def colV (B : FVec Ideal S20000x4 .f32) (f : Fin 4) (hs : S20000x4.Slices ![0, f.val] S20000x1) : FVec Ideal S20000 .f32 :=
  shapeCast S20000 (extractStridedSlice S20000x1 ![0, f.val] B hs) shapeCasts_S20000x1_S20000

/-- A number for every row. -/
abbrev spread {α : Type} (x : S_.Idx → α) : S20000.Idx → α := broadcastInDim S20000 ![] bcast_S_S20000 x

/-- The overlaps of row `k`'s box with every box, as the trip computes them. -/
def interArr (B : FVec Ideal S20000x4 .f32) (W : IVec S_ 32) : FVec Ideal S20000 .f32 :=
  mulf (maximumf (spread (id (constant S_ .f32 0x00000000#32)))
      (subf (minimumf (spread (pick2 B W 2#32)) (colV B 2 slices_S20000x4_S20000x1_0_2))
        (maximumf (spread (pick2 B W 0#32)) (colV B 0 slices_S20000x4_S20000x1_0_0))))
    (maximumf (spread (id (constant S_ .f32 0x00000000#32)))
      (subf (minimumf (spread (pick2 B W 3#32)) (colV B 3 slices_S20000x4_S20000x1_0_3))
        (maximumf (spread (pick2 B W 1#32)) (colV B 1 slices_S20000x4_S20000x1_0_1))))

/-- The marks after the trip, as it computes them. -/
def stepArr (B : FVec Ideal S20000x4 .f32) (A : FVec Ideal S20000 .f32) (I : IVec S20000 32) (W : IVec S_ 32) (M : IVec S20000 1) :
    IVec S20000 1 :=
  ori M (andi (andi (spread (noti (pick1 M W)))
      (cmpf .ogt (Host.divf (interArr B W) (addf (subf (addf (spread (pick1 A W)) A) (interArr B W)) (spread (constant S_ .f32 0x3089705F#32))))
        (spread (constant S_ .f32 0x3F000000#32))))
    (cmpi .sgt I (spread (id W))))

theorem interArr_eq (V : Valuation τ sig (Elt Ideal)) :
    (res_main_while0b_v224 V : FVec Ideal S20000 .f32) = interArr (V (Proc.devRef .tc main_v110_0)) (V (Proc.devRef .tc main_v110_4)) := rfl

theorem stepArr_eq (V : Valuation τ sig (Elt Ideal)) :
    (step_main_v110_5 V : IVec S20000 1) = stepArr (V (Proc.devRef .tc main_v110_0)) (V (Proc.devRef .tc main_v110_1))
      (V (Proc.devRef .tc main_v110_2)) (V (Proc.devRef .tc main_v110_4)) (V (Proc.devRef .tc main_v110_5)) := by
  unfold step_main_v110_5
  rw [interArr_eq]
  rfl

theorem interArr_at (B : FVec Ideal S20000x4 .f32) (W : IVec S_ 32) (k j : Fin 20000) (hW : ∀ j, W j = BitVec.ofNat 32 k.val)
    (row : ℕ → Cand Ideal)
    (hB : ∀ i : Fin 20000, B (ValueIdx.ix2 i 0) = (row i.val).x1 ∧ B (ValueIdx.ix2 i 1) = (row i.val).y1
      ∧ B (ValueIdx.ix2 i 2) = (row i.val).x2 ∧ B (ValueIdx.ix2 i 3) = (row i.val).y2) :
    interArr B W (ValueIdx.ix1 j) = interE (row k.val) (row j.val) := by
  obtain ⟨k0, k1, k2, k3⟩ := hB k
  obtain ⟨j0, j1, j2, j3⟩ := hB j
  have p0 := pick2_eq B W k 0 hW
  have p1 := pick2_eq B W k 1 hW
  have p2 := pick2_eq B W k 2 hW
  have p3 := pick2_eq B W k 3 hW
  have c0 : colV B 0 slices_S20000x4_S20000x1_0_0 (ValueIdx.ix1 j) = _ := col_at B 0 _ j
  have c1 : colV B 1 slices_S20000x4_S20000x1_0_1 (ValueIdx.ix1 j) = _ := col_at B 1 _ j
  have c2 : colV B 2 slices_S20000x4_S20000x1_0_2 (ValueIdx.ix1 j) = _ := col_at B 2 _ j
  have c3 : colV B 3 slices_S20000x4_S20000x1_0_3 (ValueIdx.ix1 j) = _ := col_at B 3 _ j
  rw [k0] at p0; rw [k1] at p1; rw [k2] at p2; rw [k3] at p3
  rw [j0] at c0; rw [j1] at c1; rw [j2] at c2; rw [j3] at c3
  have e : interArr B W (ValueIdx.ix1 j)
      = max (Ideal.ofBits .f32 0x00000000#32) (min (row k.val).x2 (colV B 2 slices_S20000x4_S20000x1_0_2 (ValueIdx.ix1 j))
            - max (row k.val).x1 (colV B 0 slices_S20000x4_S20000x1_0_0 (ValueIdx.ix1 j)))
        * max (Ideal.ofBits .f32 0x00000000#32) (min (row k.val).y2 (colV B 3 slices_S20000x4_S20000x1_0_3 (ValueIdx.ix1 j))
            - max (row k.val).y1 (colV B 1 slices_S20000x4_S20000x1_0_1 (ValueIdx.ix1 j))) := by
    unfold interArr
    rw [show (2#32 : BitVec 32) = BitVec.ofNat 32 (2 : Fin 4).val from rfl, show (0#32 : BitVec 32) = BitVec.ofNat 32 (0 : Fin 4).val from rfl,
      show (3#32 : BitVec 32) = BitVec.ofNat 32 (3 : Fin 4).val from rfl, show (1#32 : BitVec 32) = BitVec.ofNat 32 (1 : Fin 4).val from rfl,
      p0, p1, p2, p3]
    rfl
  rw [e, c0, c1, c2, c3, Ideal.ofBits_zero_f32]
  unfold interE
  rw [max_comm (0 : EReal), max_comm (0 : EReal)]

theorem bit_or (a b c d : BitVec 1) : IntOp.ori a (IntOp.andi (IntOp.andi (~~~b) c) d) = 1#1 ↔ (a = 1#1 ∨ (¬ b = 1#1 ∧ c = 1#1 ∧ d = 1#1)) := by
  revert a b c d; decide

theorem sgt_small (a b : ℕ) (ha : a < 2 ^ 31) (hb : b < 2 ^ 31) :
    IntOp.cmpi .sgt (BitVec.ofNat 32 a) (BitVec.ofNat 32 b) = 1#1 ↔ b < a :=
  Cert.KernelIdeal.Hand.slt_small b a hb ha

theorem stepArr_at (B : FVec Ideal S20000x4 .f32) (A : FVec Ideal S20000 .f32) (I : IVec S20000 32) (W : IVec S_ 32) (M : IVec S20000 1)
    (k j : Fin 20000) (hW : ∀ j, W j = BitVec.ofNat 32 k.val) (row : ℕ → Cand Ideal)
    (hB : ∀ i : Fin 20000, B (ValueIdx.ix2 i 0) = (row i.val).x1 ∧ B (ValueIdx.ix2 i 1) = (row i.val).y1
      ∧ B (ValueIdx.ix2 i 2) = (row i.val).x2 ∧ B (ValueIdx.ix2 i 3) = (row i.val).y2)
    (hA : ∀ i : Fin 20000, A (ValueIdx.ix1 i) = areaE (row i.val))
    (hI : ∀ i : Fin 20000, I (ValueIdx.ix1 i) = BitVec.ofNat 32 i.val)
    (hM : ∀ i : Fin 20000, M (ValueIdx.ix1 i) = 1#1 ↔ Nms.marks badRow ovRow row k.val i.val) :
    stepArr B A I W M (ValueIdx.ix1 j) = 1#1 ↔ Nms.marks badRow ovRow row (k.val + 1) j.val := by
  have hi := interArr_at B W k j hW row hB
  have pM := pick1_eq M W k hW
  have pA := pick1_eq A W k hW
  have hWc : W = fun _ => BitVec.ofNat 32 k.val := funext hW
  have e : stepArr B A I W M (ValueIdx.ix1 j)
      = IntOp.ori (M (ValueIdx.ix1 j)) (IntOp.andi (IntOp.andi (~~~(M (ValueIdx.ix1 k)))
          (Ideal.cmp .ogt (Ideal.div (interArr B W (ValueIdx.ix1 j))
            (A (ValueIdx.ix1 k) + A (ValueIdx.ix1 j) - interArr B W (ValueIdx.ix1 j) + Ideal.ofBits .f32 0x3089705F#32))
            (Ideal.ofBits .f32 0x3F000000#32)))
          (IntOp.cmpi .sgt (I (ValueIdx.ix1 j)) (W ValueIdx.ix0))) := by
    unfold stepArr
    rw [pM, pA]
    generalize interArr B W = T
    rw [hWc]
    rfl
  rw [e, bit_or, hi, hA, hA, hI, hW, hM, hM, sgt_small _ _ (by have := j.isLt; omega) (by have := k.isLt; omega)]
  rfl

end Cert.ReferenceIdeal.Hand
-- ==== Proof.RI.Marks.lean ====
/- The reference's marks, over the extended reals: after `k` trips they are the table of marks after `k` rows have had their turn. -/
module

public import proofs.«01_k».proof.Proof.RI.Entry
public import proofs.«01_k».proof.Proof.RI.Trip

@[expose] public section

set_option maxRecDepth 16384

noncomputable section

namespace Cert.ReferenceIdeal.Hand

open Idealize.ShloMosaic Idealize.ShloMosaic.StableHlo Idealize.SL.Sem Cert.ReferenceIdeal Cert.ReferenceIdeal.Gen Cert.ReferenceIdeal.Value
open Cert.KernelIdeal.Hand (Cand badRow ovRow interE areaE ratioE place place_val)

/-- What the loop's buffers hold after `k` trips. -/
structure Turn (row : ℕ → Cand Ideal) (k : ℕ) (V : Valuation τ sig (Elt Ideal)) : Prop where
  boxes : ∀ i : Fin 20000, (V (Proc.devRef .tc main_v110_0) : FVec Ideal S20000x4 .f32) (ValueIdx.ix2 i 0) = (row i.val).x1
    ∧ (V (Proc.devRef .tc main_v110_0) : FVec Ideal S20000x4 .f32) (ValueIdx.ix2 i 1) = (row i.val).y1
    ∧ (V (Proc.devRef .tc main_v110_0) : FVec Ideal S20000x4 .f32) (ValueIdx.ix2 i 2) = (row i.val).x2
    ∧ (V (Proc.devRef .tc main_v110_0) : FVec Ideal S20000x4 .f32) (ValueIdx.ix2 i 3) = (row i.val).y2
  area : ∀ i : Fin 20000, (V (Proc.devRef .tc main_v110_1) : FVec Ideal S20000 .f32) (ValueIdx.ix1 i) = areaE (row i.val)
  place : ∀ i : Fin 20000, (V (Proc.devRef .tc main_v110_2) : IVec S20000 32) (ValueIdx.ix1 i) = BitVec.ofNat 32 i.val
  trip : ∀ j : S_.Idx, (V (Proc.devRef .tc main_v110_4) : IVec S_ 32) j = BitVec.ofNat 32 k
  marks : ∀ i : Fin 20000, (V (Proc.devRef .tc main_v110_5) : IVec S20000 1) (ValueIdx.ix1 i) = 1#1 ↔ Nms.marks badRow ovRow row k i.val

/-- One trip. -/
theorem Turn.next {row : ℕ → Cand Ideal} {k : ℕ} (hk : k < 20000) {V : Valuation τ sig (Elt Ideal)} (h : Turn row k V) :
    Turn row (k + 1) (STEP V) where
  boxes i := by rw [STEP_main_v110_0]; exact h.boxes i
  area i := by rw [STEP_main_v110_1]; exact h.area i
  place i := by rw [STEP_main_v110_2]; exact h.place i
  trip j := by
    rw [STEP_main_v110_4]
    show IntOp.addi ((V (Proc.devRef .tc main_v110_4) : IVec S_ 32) j) 1#32 = _
    rw [h.trip j]
    exact (BitVec.ofNat_add _ _).symm
  marks i := by
    rw [STEP_main_v110_5, stepArr_eq]
    exact stepArr_at _ _ _ _ _ ⟨k, hk⟩ i h.trip row h.boxes h.area h.place h.marks

theorem Turn.iterate {row : ℕ → Cand Ideal} {V : Valuation τ sig (Elt Ideal)} (h : Turn row 0 V) (k : ℕ) (hk : k ≤ 20000) :
    Turn row k (STEP^[k] V) := by
  induction k with
  | zero => exact h
  | succ k ih =>
    rw [Function.iterate_succ_apply']
    exact (ih (by omega)).next (by omega)

variable (m : (ℓ : Loc nD τ sig) → Buf (Elt Ideal) ℓ)

/-- The rows in order. -/
abbrev rowOf (c : Dev nD) : ℕ → Cand Ideal := Spec.sortedRow (argD m c) (argO m c) (argA m c)

theorem place_self (i : Fin 20000) : place i.val = i := Fin.ext (place_val i.isLt)

theorem rowOf_at (c : Dev nD) (i : Fin 20000) : rowOf m c i.val
    = ⟨Spec.box (argD m c) (argA m c) (Spec.ord (argD m c) (argO m c) (argA m c) i) 0,
      Spec.box (argD m c) (argA m c) (Spec.ord (argD m c) (argO m c) (argA m c) i) 1,
      Spec.box (argD m c) (argA m c) (Spec.ord (argD m c) (argO m c) (argA m c) i) 2,
      Spec.box (argD m c) (argA m c) (Spec.ord (argD m c) (argO m c) (argA m c) i) 3,
      Spec.score (argD m c) (argO m c) (argA m c) (Spec.ord (argD m c) (argO m c) (argA m c) i)⟩ := by
  unfold rowOf Spec.sortedRow
  rw [place_self]

/-- Before the first trip. -/
theorem turn_first (c : Dev nD) : Turn (rowOf m c) 0 (entryContents preI m c) := by
  rw [entry_eq]
  have hb := taken_box m c
  have hs := taken_score m c
  constructor
  · intro i
    rw [pre6_boxes, rowOf_at]
    exact ⟨hb i 0, hb i 1, hb i 2, hb i 3⟩
  · intro i
    rw [pre6_area _ i _ (hb i), rowOf_at]
    rfl
  · intro i; exact pre6_iota _ i
  · intro j; exact pre6_trip _ j
  · intro i
    rw [pre6_marks _ i _ (hs i), Cert.KernelIdeal.Hand.cmp_olt_iff, Ideal.ofBits_zero_f32]
    show _ ↔ badRow (rowOf m c i.val)
    rw [Spec.badRow_iff, rowOf_at]

/-- After the last trip. -/
theorem turn_last (c : Dev nD) (k : ℕ) (hk : k ≤ 20000) (i : Fin 20000) :
    (after condOps (atK m k c) (Proc.devRef .tc main_v110_5) : IVec S20000 1) (ValueIdx.ix1 i) = 1#1
      ↔ Nms.marks badRow ovRow (rowOf m c) k i.val := by
  have h1 := cond_keeps (atK m k c) main_v110_5 (by decide)
  have h2 := atK_agree m c k main_v110_5 (by decide)
  rw [h1, h2]
  exact ((turn_first m c).iterate k hk).marks i

end Cert.ReferenceIdeal.Hand
-- ==== Proof.RI.Hist.lean ====
/- Counting by scatter: twenty thousand ones added into a shorter vector, each at its own index, leave at every entry the number of
positions with that index. -/
module

public import Idealize.ShloMosaic.Lib.Routing.Ops
public import Idealize.ShloMosaic.Lib.Routing.Count

@[expose] public section

set_option maxRecDepth 16384

noncomputable section

namespace Cert.ReferenceIdeal.Hand

open Idealize.ShloMosaic Idealize.ShloMosaic.Routing
open Idealize.ShloMosaic.ValueIdx

/-- Where one update lands: at the entry its index word names. The vector of updates and the vector added into differ in length. -/
theorem lands_at {M N : ℕ} (d : ScatterDims (shape1 M) (shape2 N 1) (shape1 N)) (hw : d.insertedWindowDims = [0])
    (ho : d.scatterDimsToOperandDims = [0]) (hv : d.indexVectorDim = 1) (idx : IVec (shape2 N 1) 32) (i : Fin N) (y : Fin M) :
    d.resultIdx? (ix1 i) idx = some (ix1 y) ↔ (idx (ix2 i (0 : Fin 1))).toInt = (y.val : ℤ) := by
  have mem0 : (0 : Fin 1) ∈ d.scatterDimsToOperandDims := ho ▸ List.mem_singleton.2 rfl
  have offset0 : d.window (ix1 i) 0 = 0 := by
    unfold ScatterDims.window
    refine dif_neg fun h => ?_
    have := of_decide_eq_true (List.mem_filter.1 h).2
    exact this (hw ▸ List.mem_singleton.2 rfl)
  have at0 : d.siIdx (ix1 i) ⟨d.scatterDimsToOperandDims.idxOf 0, List.idxOf_lt_length_iff.2 mem0⟩ = ix2 i (0 : Fin 1) := by
    refine funext fun a => Fin.ext ?_
    unfold ScatterDims.siIdx
    match a with
    | ⟨0, _⟩ =>
      rw [dif_neg (by rw [hv]; exact Nat.zero_ne_one)]
      unfold ScatterDims.siCoord
      simp only [Fin.val_cast]
      have one : ∀ X : Fin 1, (ix1 i X).val = i.val := fun X => by
        obtain rfl : X = 0 := Subsingleton.elim _ _
        rfl
      exact one _
    | ⟨1, _⟩ =>
      rw [dif_pos (by rw [hv])]
      show List.idxOf (0 : Fin 1) d.scatterDimsToOperandDims = 0
      rw [ho]; simp
  have begin0 : d.start (ix1 i) idx 0 = (idx (ix2 i (0 : Fin 1))).toInt := by
    unfold ScatterDims.start
    rw [dif_pos mem0, at0]
  have hy := y.isLt
  have key : ∀ a : Fin 1, d.start (ix1 i) idx a + (d.window (ix1 i) a : ℤ) = (idx (ix2 i (0 : Fin 1))).toInt := fun a => by
    obtain rfl : a = 0 := Subsingleton.elim _ _
    rw [begin0, offset0, Int.ofNat_zero, Int.add_zero]
  unfold ScatterDims.resultIdx?
  by_cases h : 0 ≤ (idx (ix2 i (0 : Fin 1))).toInt ∧ (idx (ix2 i (0 : Fin 1))).toInt < (M : ℤ)
  · rw [dif_pos (fun a => by
      rw [key a]
      obtain rfl : a = 0 := Subsingleton.elim _ _
      exact h)]
    constructor
    · intro e
      have e0 : (d.start (ix1 i) idx 0 + (d.window (ix1 i) 0 : ℤ)).toNat = y.val := congrArg Fin.val (congrFun (Option.some.inj e) 0)
      rw [key 0] at e0
      omega
    · intro e
      refine congrArg some (funext fun a => Fin.ext ?_)
      obtain rfl : a = 0 := Subsingleton.elim _ _
      show (d.start (ix1 i) idx 0 + (d.window (ix1 i) 0 : ℤ)).toNat = y.val
      rw [key 0]
      omega
  · rw [dif_neg (fun g => h (by
      have g0 := g 0
      rw [key 0] at g0
      exact g0))]
    exact ⟨fun e => (by cases e), fun e => (h (by omega)).elim⟩

/-- Ones added at the indices `g`: entry `y` counts the positions whose index is `y`. -/
theorem hist_at {M N : ℕ} (d : ScatterDims (shape1 M) (shape2 N 1) (shape1 N)) (hw : d.insertedWindowDims = [0])
    (ho : d.scatterDimsToOperandDims = [0]) (hv : d.indexVectorDim = 1) (z : IVec (shape1 M) 32) (hz : ∀ i, z i = 0#32)
    (idx : IVec (shape2 N 1) 32) (one : IVec (shape1 N) 32) (h1 : ∀ i, one i = 1#32) (g : ℕ → ℕ)
    (hg : ∀ i : Fin N, idx (ix2 i (0 : Fin 1)) = BitVec.ofNat 32 (g i.val)) (hs : ∀ i : Fin N, g i.val < 2 ^ 31) (y : Fin M) :
    Host.scatter d IntOp.addi z idx one (ix1 y) = BitVec.ofNat 32 (Nat.count (fun i => g i = y.val) N) := by
  have lands : ∀ i : Fin N, d.resultIdx? (ix1 i) idx = some (ix1 y) ↔ g i.val = y.val := fun i => by
    rw [lands_at d hw ho hv idx i y, hg, StableHlo.Predicate.toInt_ofNat_small _ (hs i)]
    exact Int.ofNat_inj
  unfold Host.scatter
  refine (foldl_count _ (ix1 y) (fun n => decide (g n.val = y.val)) (fun r n => ?_) _ z 0 (hz _)).trans ?_
  · rw [symm1]
    have hn : _ ↔ g n.val = y.val := lands (n.cast (numel1 N))
    generalize d.resultIdx? (ix1 (n.cast (numel1 N))) idx = o at hn ⊢
    by_cases e : g n.val = y.val
    · rw [hn.2 e]
      dsimp only
      rw [if_pos rfl, h1, if_pos (decide_eq_true e)]
    · rw [if_neg fun h => e (of_decide_eq_true h)]
      cases o with
      | none => rfl
      | some q =>
        dsimp only
        exact if_neg fun h => e (hn.1 (congrArg some h.symm))
  · rw [Nat.zero_add, countP_finRange _ (fun i => g i = y.val), numel1]

end Cert.ReferenceIdeal.Hand
-- ==== Proof.RI.Pick.lean ====
/- The places of the rows kept, as the reference finds them: a running count of the rows kept, the number of places at each
   count, and a running sum of those numbers. For `s` below the total, entry `s` is the place of the `s`-th row kept. -/
module

public import proofs.«01_k».proof.Proof.RI.Hist
public import proofs.«01_k».proof.Proof.RI.Boxes

@[expose] public section

set_option maxRecDepth 16384

noncomputable section

namespace Cert.ReferenceIdeal.Hand

open Idealize.ShloMosaic Idealize.ShloMosaic.StableHlo Idealize.SL.Sem Cert.ReferenceIdeal Cert.ReferenceIdeal.Gen Cert.ReferenceIdeal.Value

/-- The bits as numbers. -/
abbrev ones (K : IVec S20000 1) : IVec S20000 32 := extui 32 K natLt_1_32

/-- The running count. -/
def running (K : IVec S20000 1) : IVec S20000 32 :=
  Host.reduceWindow IntOp.addi ![20000] ![1] ![19999] ![0] (ones K) (broadcastInDim S_ ![] bcast_S_S_ (constantI S_ 32 0#32))
    reduceWindows_S20000_S20000_w20000s1p19999_0 h_S_

/-- How many places have each count. -/
def places (R : IVec S20000 32) : IVec S1000 32 :=
  Host.scatter scatter_S1000_S20000x1_S20000_n_0_0_1 IntOp.addi (broadcastInDim S1000 ![] bcast_S_S1000 (constantI S_ 32 0#32))
    (broadcastInDim S20000x1 ![0] bcast_S20000_S20000x1_0
      (select (cmpi .slt R (broadcastInDim S20000 ![] bcast_S_S20000 (constantI S_ 32 0#32)))
        (addi R (broadcastInDim S20000 ![] bcast_S_S20000 (constantI S_ 32 1000#32))) R))
    (broadcastInDim S20000 ![] bcast_S_S20000 (constantI S_ 32 1#32))

/-- Their running sum. -/
def summed (H : IVec S1000 32) : IVec S1000 32 :=
  Host.reduceWindow IntOp.addi ![1000] ![1] ![999] ![0] H (broadcastInDim S_ ![] bcast_S_S_ (constantI S_ 32 0#32))
    reduceWindows_S1000_S1000_w1000s1p999_0 h_S_

/-- The total. -/
def total (K : IVec S20000 1) : IVec S_ 32 := Host.reduce IntOp.addi (ones K) (constantI S_ 32 0#32) reducesTo_S20000_S_d0 h_S_

section Counts

variable (P : ℕ → Prop) [DecidablePred P] (K : IVec S20000 1) (hK : ∀ i : Fin 20000, K (ValueIdx.ix1 i) = 1#1 ↔ P i.val)

include hK

theorem ones_at (i : Fin 20000) : ones K (ValueIdx.ix1 i) = BitVec.ofNat 32 (if P i.val then 1 else 0) := by
  show (K (ValueIdx.ix1 i)).setWidth 32 = _
  by_cases h : P i.val
  · rw [(hK i).2 h, if_pos h]; rfl
  · rcases Cert.KernelIdeal.Hand.bit_cases (K (ValueIdx.ix1 i)) with e | e
    · rw [e, if_neg h]; rfl
    · exact (h ((hK i).1 e)).elim

theorem running_at (j : Fin 20000) : running K (ValueIdx.ix1 j) = BitVec.ofNat 32 (Nat.count P (j.val + 1)) := by
  unfold running
  refine (Routing.cumsum1 (N := 20000) (Nm1 := 19999) rfl (ones K) (fun i => if P i then 1 else 0) (ones_at P K hK) _ rfl
    reduceWindows_S20000_S20000_w20000s1p19999_0 h_S_ j).trans ?_
  rw [Routing.sum_map_ite]

theorem places_at (y : Fin 1000) : places (running K) (ValueIdx.ix1 y)
    = BitVec.ofNat 32 (Nat.count (fun i => Nat.count P (i + 1) = y.val) 20000) := by
  have hR := running_at P K hK
  unfold places
  generalize running K = R at hR
  have le : ∀ i : Fin 20000, Nat.count P (i.val + 1) < 2 ^ 31 := fun i => by
    have := Nat.count_le P (n := i.val + 1)
    have := i.isLt
    omega
  refine hist_at (M := 1000) (N := 20000) scatter_S1000_S20000x1_S20000_n_0_0_1 rfl rfl rfl _ (fun i => rfl) _ _ (fun i => rfl)
    (fun i => Nat.count P (i + 1)) (fun i => ?_) le y
  refine (Routing.bcCol (n := 20000) _ _ i).trans ?_
  show Scalar.select (IntOp.cmpi .slt (R (ValueIdx.ix1 i)) 0#32) _ (R (ValueIdx.ix1 i)) = _
  rw [hR i]
  refine Routing.wrap_of_lt _ _ ?_
  have := le i
  rw [BitVec.toNat_ofNat, Nat.mod_eq_of_lt (by omega)]
  exact this

theorem summed_at (s : Fin 1000) : summed (places (running K)) (ValueIdx.ix1 s)
    = BitVec.ofNat 32 (Nat.count (fun i => Nat.count P (i + 1) ≤ s.val) 20000) := by
  unfold summed
  refine (Routing.cumsum1 (N := 1000) (Nm1 := 999) rfl (places (running K)) (fun y => Nat.count (fun i => Nat.count P (i + 1) = y) 20000)
    (places_at P K hK) _ rfl reduceWindows_S1000_S1000_w1000s1p999_0 h_S_ s).trans ?_
  rw [Routing.sum_count_eq]

theorem total_at : total K ValueIdx.ix0 = BitVec.ofNat 32 (Nat.count P 20000) := by
  unfold total
  refine (Routing.reduce_sum (N := 20000) (ones K) (fun i => if P i then 1 else 0) (ones_at P K hK) reducesTo_S20000_S_d0 h_S_).trans ?_
  rw [Routing.sum_map_ite]

end Counts

/-! ### Words below twenty thousand -/

/-- A quotient by one, rounded down. -/
def floorWord (x b : BitVec 32) : BitVec 32 :=
  Scalar.select (IntOp.andi (IntOp.cmpi .ne (if x = 0 then (0 : BitVec 32) else if x.msb then -1 else 1)
      (if b = 0 then (0 : BitVec 32) else if b.msb then -1 else 1))
    (IntOp.cmpi .ne (IntOp.remsi .host x b) 0#32)) (IntOp.subi (IntOp.divsi .host x b) 1#32) (IntOp.divsi .host x b)

/-- A remainder with the divisor's sign. -/
def restWord (x b : BitVec 32) : BitVec 32 :=
  Scalar.select (IntOp.andi (IntOp.cmpi .ne (IntOp.cmpi .slt (IntOp.remsi .host x b) 0#32) (IntOp.cmpi .slt b 0#32))
    (IntOp.cmpi .ne (IntOp.remsi .host x b) 0#32)) (IntOp.addi (IntOp.remsi .host x b) b) (IntOp.remsi .host x b)

theorem floorWord_one (x : BitVec 32) : floorWord x 1#32 = x := by
  have hc : ¬ IntOp.SDivCorner x 1#32 := by
    rintro (h | ⟨_, h⟩)
    · exact absurd h (by decide)
    · exact absurd h (by decide)
  have hd : IntOp.divsi .host x 1#32 = x := by
    unfold IntOp.divsi; rw [if_neg hc]
    exact BitVec.sdiv_one
  have hr : IntOp.remsi .host x 1#32 = 0#32 := by
    unfold IntOp.remsi; rw [if_neg hc]
    exact BitVec.srem_one
  unfold floorWord
  rw [hd, hr]
  have e : IntOp.cmpi .ne (0#32 : BitVec 32) 0#32 = 0#1 := by decide
  rw [e]
  have e' : ∀ b : BitVec 1, IntOp.andi b 0#1 = 0#1 := by decide
  rw [e', ValueIdx.select_zero]

theorem restWord_small (n : ℕ) (hn : n < 20000) : restWord (BitVec.ofNat 32 n) 20000#32 = BitVec.ofNat 32 n := by
  have hc : ¬ IntOp.SDivCorner (BitVec.ofNat 32 n) 20000#32 := by
    rintro (h | ⟨_, h⟩)
    · exact absurd h (by decide)
    · exact absurd h (by decide)
  have hx : (BitVec.ofNat 32 n).toNat = n := by rw [BitVec.toNat_ofNat, Nat.mod_eq_of_lt (by omega)]
  have hm : (BitVec.ofNat 32 n).msb = false := by
    rw [BitVec.msb_eq_decide, hx]
    exact decide_eq_false (by omega)
  have hr : IntOp.remsi .host (BitVec.ofNat 32 n) 20000#32 = BitVec.ofNat 32 n := by
    unfold IntOp.remsi; rw [if_neg hc, BitVec.srem_eq, hm]
    apply BitVec.eq_of_toNat_eq
    show (BitVec.umod _ _).toNat = _
    rw [BitVec.umod_eq, BitVec.toNat_umod, hx]
    exact Nat.mod_eq_of_lt hn
  have hs : IntOp.cmpi .slt (BitVec.ofNat 32 n) 0#32 = 0#1 := by
    rcases Cert.KernelIdeal.Hand.bit_cases (IntOp.cmpi .slt (BitVec.ofNat 32 n) 0#32) with e | e
    · exact e
    · exact absurd ((Cert.KernelIdeal.Hand.slt_small n 0 (by omega) (by omega)).1 e) (by omega)
  unfold restWord
  rw [hr, hs]
  have e : IntOp.cmpi .ne (0#1 : BitVec 1) (IntOp.cmpi .slt (20000#32 : BitVec 32) 0#32) = 0#1 := by decide
  have e' : ∀ b : BitVec 1, IntOp.andi 0#1 b = 0#1 := by decide
  rw [e, e', ValueIdx.select_zero]

end Cert.ReferenceIdeal.Hand
-- ==== Proof.RI.Last.lean ====
/- The reference's last lines, over the extended reals: the rows at the chosen places, times one where a row is there and times
   zero where none is. -/
module

public import proofs.«01_k».proof.Proof.RI.Pick

@[expose] public section

set_option maxRecDepth 16384

noncomputable section

namespace Cert.ReferenceIdeal.Hand

open Idealize.ShloMosaic Idealize.ShloMosaic.StableHlo Idealize.SL.Sem Cert.ReferenceIdeal Cert.ReferenceIdeal.Gen Cert.ReferenceIdeal.Value

/-- The chosen places: those found, and zero from the total on. -/
def chosen (K : IVec S20000 1) (Q : IVec S1000 32) : IVec S1000 32 :=
  select (cmpi .sge (iotaInDim S1000 32 0) (broadcastInDim S1000 ![0] bcast_S1_S1000_0 (broadcastInDim S1 ![] bcast_S_S1 (total K))))
    (broadcastInDim S1000 ![0] bcast_S1_S1000_0 (broadcastInDim S1 ![] bcast_S_S1 (constantI S_ 32 0#32))) Q

/-- One where a row is there, zero where none is. -/
def mask (K : IVec S20000 1) : FVec Ideal S1000 .f32 :=
  uitofp .f32 (cmpi .slt (iotaInDim S1000 32 0) (broadcastInDim S1000 ![] bcast_S_S1000 (minsi (total K) (constantI S_ 32 1000#32))))

/-- The places as a column, those below zero (there are none) counted from the end. -/
def chosenCol (I : IVec S1000 32) : IVec S1000x1 32 :=
  broadcastInDim S1000x1 ![0] bcast_S1000_S1000x1_0
    (select (cmpi .slt I (broadcastInDim S1000 ![] bcast_S_S1000 (constantI S_ 32 0#32)))
      (addi I (broadcastInDim S1000 ![] bcast_S_S1000 (constantI S_ 32 20000#32))) I)

/-- The chosen boxes. -/
def lastBoxes (B : FVec Ideal S20000x4 .f32) (M : FVec Ideal S1000 .f32) (I : IVec S1000 32) : FVec Ideal S1000x4 .f32 :=
  mulf (Host.gather gather_S20000x4_S1000x1_S1000x4_1_0_n_n_0_1_14 B (chosenCol I))
    (broadcastInDim S1000x4 ![0, 1] bcast_S1000x1_S1000x4_0_1 (broadcastInDim S1000x1 ![0] bcast_S1000_S1000x1_0 M))

/-- The chosen scores. -/
def lastScores (S : FVec Ideal S20000 .f32) (M : FVec Ideal S1000 .f32) (I : IVec S1000 32) : FVec Ideal S1000 .f32 :=
  mulf (Host.gather gather_S20000_S1000x1_S1000_n_0_n_n_0_1_1 S (chosenCol I)) M

/-- The result. -/
def lastRows (B : FVec Ideal S20000x4 .f32) (S : FVec Ideal S20000 .f32) (M : FVec Ideal S1000 .f32) (I : IVec S1000 32) :
    FVec Ideal S1000x5 .f32 :=
  concatenate S1000x5 1 [⟨S1000x4, lastBoxes B M I⟩, ⟨S1000x1, broadcastInDim S1000x1 ![0] bcast_S1000_S1000x1_0 (lastScores S M I)⟩]
    concatenates_S1000x4_S1000x1_S1000x5_d1

theorem total_any (P : ℕ → Prop) [DecidablePred P] (K : IVec S20000 1) (hK : ∀ i : Fin 20000, K (ValueIdx.ix1 i) = 1#1 ↔ P i.val) :
    total K = fun _ => BitVec.ofNat 32 (Nat.count P 20000) := by
  funext j
  rw [ValueIdx.eq_ix0 j]
  exact total_at P K hK

section At

variable (K : IVec S20000 1) (T : ℕ) (hle : T ≤ 20000) (ht : total K = fun _ => BitVec.ofNat 32 T)

include hle ht

theorem mask_at (s : Fin 1000) : mask K (ValueIdx.ix1 s) = if s.val < T then 1 else 0 := by
  have hs := s.isLt
  have e : mask K (ValueIdx.ix1 s) = (((IntOp.cmpi .slt (BitVec.ofNat 32 s.val)
      (IntOp.minsi (BitVec.ofNat 32 T) (BitVec.ofNat 32 1000))).toNat : ℝ) : EReal) := by
    unfold mask
    rw [ht]
    rfl
  have hm : IntOp.minsi (BitVec.ofNat 32 T) (BitVec.ofNat 32 1000) = BitVec.ofNat 32 (min T 1000) := by
    unfold IntOp.minsi
    have h1 : (BitVec.ofNat 32 T).toInt = (T : ℤ) := StableHlo.Predicate.toInt_ofNat_small _ (by omega)
    have h2 : (BitVec.ofNat 32 1000).toInt = (1000 : ℤ) := by decide
    rw [BitVec.slt_eq_decide, h1, h2]
    by_cases h : T < 1000
    · rw [if_pos (decide_eq_true (by omega)), min_eq_left (by omega)]
    · rw [if_neg (by rw [decide_eq_true_eq]; omega), min_eq_right (by omega)]
  rw [e, hm]
  have hlt := Cert.KernelIdeal.Hand.slt_small s.val (min T 1000) (by omega) (by omega)
  by_cases h : s.val < T
  · have h1 : IntOp.cmpi .slt (BitVec.ofNat 32 s.val) (BitVec.ofNat 32 (min T 1000)) = 1#1 := hlt.2 (by omega)
    rw [h1, if_pos h]
    norm_num
  · have h1 : IntOp.cmpi .slt (BitVec.ofNat 32 s.val) (BitVec.ofNat 32 (min T 1000)) = 0#1 := by
      rcases Cert.KernelIdeal.Hand.bit_cases (IntOp.cmpi .slt (BitVec.ofNat 32 s.val) (BitVec.ofNat 32 (min T 1000))) with e | e
      · exact e
      · have := hlt.1 e; omega
    rw [h1, if_neg h]
    norm_num

theorem chosen_at (Q : IVec S1000 32) (s : Fin 1000) : chosen K Q (ValueIdx.ix1 s)
    = if s.val < T then Q (ValueIdx.ix1 s) else 0#32 := by
  have hs := s.isLt
  have e : chosen K Q (ValueIdx.ix1 s) = Scalar.select (IntOp.cmpi .sge (BitVec.ofNat 32 s.val) (BitVec.ofNat 32 T))
      0#32 (Q (ValueIdx.ix1 s)) := by
    unfold chosen
    rw [ht]
    rfl
  have h1 : (BitVec.ofNat 32 T).toInt = (T : ℤ) := StableHlo.Predicate.toInt_ofNat_small _ (by omega)
  have h2 : (BitVec.ofNat 32 s.val).toInt = (s.val : ℤ) := StableHlo.Predicate.toInt_ofNat_small _ (by omega)
  have hc : IntOp.cmpi .sge (BitVec.ofNat 32 s.val) (BitVec.ofNat 32 T)
      = BitVec.ofBool (decide ((T : ℤ) ≤ (s.val : ℤ))) := by
    rw [← h1, ← h2]
    show BitVec.ofBool (BitVec.sle _ _) = _
    rw [BitVec.sle_eq_decide]
  rw [e, hc]
  by_cases h : s.val < T
  · rw [if_pos h, decide_eq_false (by omega)]
    exact ValueIdx.select_zero _ _
  · rw [if_neg h, decide_eq_true (by omega)]
    exact ValueIdx.select_one _ _

end At

variable (B : FVec Ideal S20000x4 .f32) (S : FVec Ideal S20000 .f32) (M : FVec Ideal S1000 .f32) (I : IVec S1000 32)

theorem chosenCol_at (s : Fin 1000) (p : Fin 20000) (hp : I (ValueIdx.ix1 s) = BitVec.ofNat 32 p.val) :
    chosenCol I (ValueIdx.ix2 s (0 : Fin 1)) = BitVec.ofNat 32 p.val := by
  unfold chosenCol
  refine (Routing.bcCol (n := 1000) _ _ s).trans ?_
  show Scalar.select (IntOp.cmpi .slt (I (ValueIdx.ix1 s)) 0#32) _ (I (ValueIdx.ix1 s)) = _
  rw [hp]
  refine Routing.wrap_of_lt _ _ ?_
  have := p.isLt
  rw [BitVec.toNat_ofNat, Nat.mod_eq_of_lt (by omega)]
  omega

theorem lastBoxes_at (s : Fin 1000) (p : Fin 20000) (hp : I (ValueIdx.ix1 s) = BitVec.ofNat 32 p.val) (f : Fin 4) :
    lastBoxes B M I (ValueIdx.ix2 s f) = B (ValueIdx.ix2 p f) * M (ValueIdx.ix1 s) := by
  have h1 := Routing.gather_row (nb := 20000) (B := 4) (n := 1000) gather_S20000x4_S1000x1_S1000x4_1_0_n_n_0_1_14 rfl rfl rfl rfl rfl
    B (chosenCol I) s f p (chosenCol_at I s p hp) (by decide)
  have h2 := Routing.bcRows (n := 1000) (m := 4) bcast_S1000_S1000x1_0 bcast_S1000x1_S1000x4_0_1 M s f
  exact congr (congrArg (fun a b : EReal => a * b) h1) h2

theorem lastScores_at (s : Fin 1000) (p : Fin 20000) (hp : I (ValueIdx.ix1 s) = BitVec.ofNat 32 p.val) :
    lastScores S M I (ValueIdx.ix1 s) = S (ValueIdx.ix1 p) * M (ValueIdx.ix1 s) := by
  have h1 := Routing.gather_take1 (N := 20000) (n := 1000) gather_S20000_S1000x1_S1000_n_0_n_n_0_1_1 rfl rfl rfl rfl
    S (chosenCol I) s p (chosenCol_at I s p hp) (by decide)
  exact congrArg (fun a : EReal => a * M (ValueIdx.ix1 s)) h1

theorem lastRows_box (s : Fin 1000) (p : Fin 20000) (hp : I (ValueIdx.ix1 s) = BitVec.ofNat 32 p.val) (f : Fin 4) :
    lastRows B S M I (ValueIdx.ix2 s (⟨f.val, by omega⟩ : Fin 5)) = B (ValueIdx.ix2 p f) * M (ValueIdx.ix1 s) := by
  unfold lastRows
  refine (concatenate_apply_piece (t := S1000x5) (1 : Fin 2) _ _ (ValueIdx.ix2 s (⟨f.val, by omega⟩ : Fin 5)) 0 (by simp)
    S1000x4 _ rfl rfl 0 rfl (ValueIdx.ix2 s f) (fun b hb => ?_) ?_).trans (lastBoxes_at B M I s p hp f)
  · match b with
    | ⟨0, _⟩ => rfl
    | ⟨1, _⟩ => exact absurd rfl hb
  · show 0 + f.val = f.val
    omega

theorem lastRows_score (s : Fin 1000) (p : Fin 20000) (hp : I (ValueIdx.ix1 s) = BitVec.ofNat 32 p.val) :
    lastRows B S M I (ValueIdx.ix2 s (4 : Fin 5)) = S (ValueIdx.ix1 p) * M (ValueIdx.ix1 s) := by
  unfold lastRows
  refine (concatenate_apply_piece (t := S1000x5) (1 : Fin 2) _ _ (ValueIdx.ix2 s (4 : Fin 5)) 1 (by simp)
    S1000x1 _ rfl rfl 4 rfl (ValueIdx.ix2 s (0 : Fin 1)) (fun b hb => ?_) rfl).trans ?_
  · match b with
    | ⟨0, _⟩ => rfl
    | ⟨1, _⟩ => exact absurd rfl hb
  · exact (Routing.bcCol (n := 1000) bcast_S1000_S1000x1_0 (lastScores S M I) s).trans (lastScores_at S M I s p hp)

end Cert.ReferenceIdeal.Hand
-- ==== Proof.RI.Post.lean ====
/- The reference's lines after its loop, each stretch from any contents. -/
module

public import proofs.«01_k».proof.Proof.RI.Last

@[expose] public section

set_option maxRecDepth 16384

noncomputable section

namespace Cert.ReferenceIdeal.Hand

open Idealize.ShloMosaic Idealize.ShloMosaic.StableHlo Idealize.SL.Sem Cert.ReferenceIdeal Cert.ReferenceIdeal.Gen Cert.ReferenceIdeal.Value

variable (V : Valuation τ sig (Elt Ideal))

theorem post7_v111 : (after hostOps0_7 V (Proc.devRef .tc main_v111) : IVec S20000 1) = noti (V (Proc.devRef .tc main_v110_5)) := by
  simp only [after_cons, after_nil]
  after_results_simp

theorem post8_v112 : (after hostOps0_8 V (Proc.devRef .tc main_v112) : IVec S20000 32) = running (V (Proc.devRef .tc main_v111)) := by
  simp only [after_cons, after_nil]
  after_results_simp
  simp only [TRef.toBuf, TRef.ofBuf, cast_eq]
  rfl

theorem post9_v121 : (after hostOps0_9 V (Proc.devRef .tc main_v121) : IVec S1000 32) = places (V (Proc.devRef .tc main_v112)) := by
  simp only [after_cons, after_nil]
  after_results_simp
  rfl

theorem post10_v122 : (after hostOps0_10 V (Proc.devRef .tc main_v122) : IVec S1000 32) = summed (V (Proc.devRef .tc main_v121)) := by
  simp only [after_cons, after_nil]
  after_results_simp
  simp only [TRef.toBuf, TRef.ofBuf, cast_eq]
  rfl

theorem post11_c : (after hostOps0_11 V (Proc.devRef .tc main_c_24) : IVec S_ 32) = constantI S_ 32 1#32 := by
  simp only [after_cons, after_nil]
  after_results_simp

theorem post12_v123 (hc : (V (Proc.devRef .tc main_c_24) : IVec S_ 32) = constantI S_ 32 1#32) (s : Fin 1000) :
    (after hostOps0_12 V (Proc.devRef .tc main_v123) : IVec S1000 32) (ValueIdx.ix1 s)
      = floorWord ((V (Proc.devRef .tc main_v122) : IVec S1000 32) (ValueIdx.ix1 s)) 1#32 := by
  simp only [after_cons, after_nil]
  after_results_simp
  simp only [TRef.toBuf, TRef.ofBuf, cast_eq]
  rw [hc]
  rfl

theorem post13_c : (after hostOps0_13 V (Proc.devRef .tc main_c_25) : IVec S_ 32) = constantI S_ 32 20000#32 := by
  simp only [after_cons, after_nil]
  after_results_simp

theorem post14_v124 (hc : (V (Proc.devRef .tc main_c_25) : IVec S_ 32) = constantI S_ 32 20000#32) (s : Fin 1000) :
    (after hostOps0_14 V (Proc.devRef .tc main_v124) : IVec S1000 32) (ValueIdx.ix1 s)
      = restWord ((V (Proc.devRef .tc main_v123) : IVec S1000 32) (ValueIdx.ix1 s))
        (Scalar.select (IntOp.cmpi .eq (20000#32 : BitVec 32) 0#32) 1#32 20000#32) := by
  simp only [after_cons, after_nil]
  after_results_simp
  simp only [TRef.toBuf, TRef.ofBuf, cast_eq]
  rw [hc]
  rfl

theorem post15_v130 : (after hostOps0_15 V (Proc.devRef .tc main_v130) : IVec S1000 1)
    = cmpi .sge (iotaInDim S1000 32 0) (broadcastInDim S1000 ![0] bcast_S1_S1000_0 (broadcastInDim S1 ![] bcast_S_S1
      (total (V (Proc.devRef .tc main_v111))))) := by
  simp only [after_cons, after_nil]
  after_results_simp
  rfl

theorem post15_v131 : (after hostOps0_15 V (Proc.devRef .tc main_v131) : IVec S1 32)
    = broadcastInDim S1 ![] bcast_S_S1 (constantI S_ 32 0#32) := by
  simp only [after_cons, after_nil]
  after_results_simp

theorem post16_v132 : (after hostOps0_16 V (Proc.devRef .tc main_v132) : IVec S1000 32)
    = select (V (Proc.devRef .tc main_v130) : IVec S1000 1)
        (broadcastInDim S1000 ![0] bcast_S1_S1000_0 (V (Proc.devRef .tc main_v131) : IVec S1 32)) (V (Proc.devRef .tc main_v124)) := by
  simp only [after_cons, after_nil]
  after_results_simp
  simp only [TRef.toBuf, TRef.ofBuf, cast_eq]

/-- The last line: the scores laid beside the boxes. -/
abbrev lastOps {F : FTy → Type} [FloatOps F] : List (HloOp τ sig (Elt F)) :=
  [ StableHlo.binary main_v149 main_v158 main_v159 ((fun a b => concatenate S1000x5 1 [⟨S1000x4, a⟩, ⟨S1000x1, b⟩] concatenates_S1000x4_S1000x1_S1000x5_d1) : (⟨S1000x4, .f32⟩ : BufTy).Contents (Elt F) → (⟨S1000x1, .f32⟩ : BufTy).Contents (Elt F) → (⟨S1000x5, .f32⟩ : BufTy).Contents (Elt F)) ]

theorem post17_cut {F : FTy → Type} [FloatOps F] : (hostOps0_17 : List (HloOp τ sig (Elt F))) = hostOps0_17.take 32 ++ lastOps := rfl

theorem last_v159 : (after lastOps V (Proc.devRef .tc main_v159) : FVec Ideal S1000x5 .f32)
    = concatenate S1000x5 1 [⟨S1000x4, (V (Proc.devRef .tc main_v149) : FVec Ideal S1000x4 .f32)⟩,
      ⟨S1000x1, (V (Proc.devRef .tc main_v158) : FVec Ideal S1000x1 .f32)⟩] concatenates_S1000x4_S1000x1_S1000x5_d1 := by
  simp only [after_cons, after_nil]
  after_results_simp

theorem before_last (r : Ref sig .tc) (h : r ∉ [main_v159]) :
    after (hostOps0_17.take 32) V (Proc.devRef .tc r) = after hostOps0_17 V (Proc.devRef .tc r) := by
  conv_rhs => rw [post17_cut, after_append]
  exact (after_of_writes_sub lastOps _ (W := [main_v159]) (forall_writes_sub_of_map rfl) h).symm

theorem post17_v149 : (after hostOps0_17 V (Proc.devRef .tc main_v149) : FVec Ideal S1000x4 .f32)
    = lastBoxes (V (Proc.devRef .tc main_v88)) (mask (V (Proc.devRef .tc main_v111))) (V (Proc.devRef .tc main_v132)) := by
  simp only [after_cons, after_nil]
  after_results_simp
  rfl

theorem post17_v158 : (after hostOps0_17 V (Proc.devRef .tc main_v158) : FVec Ideal S1000x1 .f32)
    = broadcastInDim S1000x1 ![0] bcast_S1000_S1000x1_0
        (lastScores (V (Proc.devRef .tc main_v95)) (mask (V (Proc.devRef .tc main_v111))) (V (Proc.devRef .tc main_v132))) := by
  simp only [after_cons, after_nil]
  after_results_simp
  rfl

theorem post17_v159 : (after hostOps0_17 V (Proc.devRef .tc main_v159) : FVec Ideal S1000x5 .f32)
    = lastRows (V (Proc.devRef .tc main_v88)) (V (Proc.devRef .tc main_v95)) (mask (V (Proc.devRef .tc main_v111)))
        (V (Proc.devRef .tc main_v132)) := by
  unfold lastRows
  rw [← post17_v149, ← post17_v158, ← before_last V main_v149 (by decide), ← before_last V main_v158 (by decide), ← last_v159,
    ← after_append, ← post17_cut]

end Cert.ReferenceIdeal.Hand
-- ==== Proof.RI.Ending.lean ====
/- What the reference's lines after its loop make of the marks: row `s` of the result is the `s`-th unmarked row, or zero. -/
module

public import proofs.«01_k».proof.Proof.RI.Post
public import proofs.«01_k».proof.Proof.RI.Frame

@[expose] public section

set_option maxRecDepth 16384

noncomputable section

namespace Cert.ReferenceIdeal.Hand

open Idealize.ShloMosaic Idealize.ShloMosaic.StableHlo Idealize.SL.Sem Cert.ReferenceIdeal Cert.ReferenceIdeal.Gen Cert.ReferenceIdeal.Value

variable (V : Valuation τ sig (Elt Ideal))

/-- The contents after each stretch behind the loop. -/
def P7 : Valuation τ sig (Elt Ideal) := after hostOps0_7 V
def P8 : Valuation τ sig (Elt Ideal) := after hostOps0_8 (P7 V)
def P9 : Valuation τ sig (Elt Ideal) := after hostOps0_9 (P8 V)
def P10 : Valuation τ sig (Elt Ideal) := after hostOps0_10 (P9 V)
def P11 : Valuation τ sig (Elt Ideal) := after hostOps0_11 (P10 V)
def P12 : Valuation τ sig (Elt Ideal) := after hostOps0_12 (P11 V)
def P13 : Valuation τ sig (Elt Ideal) := after hostOps0_13 (P12 V)
def P14 : Valuation τ sig (Elt Ideal) := after hostOps0_14 (P13 V)
def P15 : Valuation τ sig (Elt Ideal) := after hostOps0_15 (P14 V)
def P16 : Valuation τ sig (Elt Ideal) := after hostOps0_16 (P15 V)

theorem postI_eq : afterL postI V = after hostOps0_17 (P16 V) := by
  unfold P16 P15 P14 P13 P12 P11 P10 P9 P8 P7
  simp only [postI, afterL_cons, afterL_nil]

theorem keep14 (r : Ref sig .tc) (h : r ∉ post8W ++ post9W ++ post10W ++ post11W ++ post12W ++ post13W ++ post14W) :
    P14 V (Proc.devRef .tc r) = P7 V (Proc.devRef .tc r) := by
  simp only [List.mem_append, not_or] at h
  obtain ⟨⟨⟨⟨⟨⟨h8, h9⟩, h10⟩, h11⟩, h12⟩, h13⟩, h14⟩ := h
  unfold P14 P13 P12 P11 P10 P9 P8
  rw [after_of_writes_sub hostOps0_14 _ post14_writes h14,
    after_of_writes_sub hostOps0_13 _ post13_writes h13, after_of_writes_sub hostOps0_12 _ post12_writes h12,
    after_of_writes_sub hostOps0_11 _ post11_writes h11, after_of_writes_sub hostOps0_10 _ post10_writes h10,
    after_of_writes_sub hostOps0_9 _ post9_writes h9, after_of_writes_sub hostOps0_8 _ post8_writes h8]

theorem keep16 (r : Ref sig .tc) (h : r ∉ post8W ++ post9W ++ post10W ++ post11W ++ post12W ++ post13W ++ post14W)
    (h15 : r ∉ post15W) (h16 : r ∉ post16W) : P16 V (Proc.devRef .tc r) = P7 V (Proc.devRef .tc r) := by
  unfold P16 P15
  rw [after_of_writes_sub hostOps0_16 _ post16_writes h16, after_of_writes_sub hostOps0_15 _ post15_writes h15, keep14 V r h]

theorem found_eq : (P10 V (Proc.devRef .tc main_v122) : IVec S1000 32)
    = summed (places (running (P7 V (Proc.devRef .tc main_v111)))) := by
  unfold P10
  rw [post10_v122]
  unfold P9
  rw [post9_v121]
  unfold P8
  rw [post8_v112]

theorem quotient_eq (s : Fin 1000) : (P12 V (Proc.devRef .tc main_v123) : IVec S1000 32) (ValueIdx.ix1 s)
    = summed (places (running (P7 V (Proc.devRef .tc main_v111)))) (ValueIdx.ix1 s) := by
  unfold P12
  rw [post12_v123 (P11 V) (post11_c (P10 V)) s, floorWord_one, ← found_eq]
  unfold P11
  rw [after_of_writes_sub hostOps0_11 _ post11_writes (r := main_v122) (by decide)]

theorem rest_eq (s : Fin 1000) (n : ℕ) (hn : n < 20000)
    (h : summed (places (running (P7 V (Proc.devRef .tc main_v111)))) (ValueIdx.ix1 s) = BitVec.ofNat 32 n) :
    (P14 V (Proc.devRef .tc main_v124) : IVec S1000 32) (ValueIdx.ix1 s) = BitVec.ofNat 32 n := by
  have q := (quotient_eq V s).trans h
  have k : P13 V (Proc.devRef .tc main_v123) = P12 V (Proc.devRef .tc main_v123) := by
    unfold P13
    exact after_of_writes_sub hostOps0_13 _ post13_writes (r := main_v123) (by decide)
  unfold P14
  rw [post14_v124 (P13 V) (post13_c (P12 V)) s, k, q,
    show Scalar.select (IntOp.cmpi .eq (20000#32 : BitVec 32) 0#32) 1#32 20000#32 = 20000#32 from by decide]
  exact restWord_small n hn

theorem index_eq : (P16 V (Proc.devRef .tc main_v132) : IVec S1000 32)
    = chosen (P7 V (Proc.devRef .tc main_v111)) (P14 V (Proc.devRef .tc main_v124)) := by
  unfold P16
  rw [post16_v132]
  unfold P15
  rw [post15_v130, post15_v131, after_of_writes_sub hostOps0_15 _ post15_writes (r := main_v124) (by decide), keep14 V main_v111 (by decide)]
  rfl

theorem end_rows : (afterL postI V (Proc.devRef .tc main_v159) : FVec Ideal S1000x5 .f32)
    = lastRows (V (Proc.devRef .tc main_v88)) (V (Proc.devRef .tc main_v95)) (mask (P7 V (Proc.devRef .tc main_v111)))
        (chosen (P7 V (Proc.devRef .tc main_v111)) (P14 V (Proc.devRef .tc main_v124))) := by
  rw [postI_eq, post17_v159, index_eq, keep16 V main_v111 (by decide) (by decide) (by decide),
    keep16 V main_v88 (by decide) (by decide) (by decide), keep16 V main_v95 (by decide) (by decide) (by decide)]
  unfold P7
  rw [after_of_writes_sub hostOps0_7 _ post7_writes (r := main_v88) (by decide), after_of_writes_sub hostOps0_7 _ post7_writes (r := main_v95) (by decide)]

theorem flip_bit (M : IVec S20000 1) (j : S20000.Idx) : noti M j = 1#1 ↔ ¬ M j = 1#1 := by
  show ~~~(M j) = 1#1 ↔ ¬ M j = 1#1
  generalize M j = b
  revert b
  decide

variable (P : ℕ → Prop) [DecidablePred P]
  (hP : ∀ i : Fin 20000, (V (Proc.devRef .tc main_v110_5) : IVec S20000 1) (ValueIdx.ix1 i) = 1#1 ↔ ¬ P i.val)

include hP

theorem unmarked_at (i : Fin 20000) : (P7 V (Proc.devRef .tc main_v111) : IVec S20000 1) (ValueIdx.ix1 i) = 1#1 ↔ P i.val := by
  have h := hP i
  unfold P7
  rw [post7_v111]
  refine (flip_bit _ (ValueIdx.ix1 i)).trans ?_
  rw [h, not_not]

/-- Where a row is there. -/
theorem end_there (s : Fin 1000) (hs : s.val < Nat.count P 20000) :
    ∃ p : Fin 20000, p.val = Nat.count (fun i => Nat.count P (i + 1) ≤ s.val) 20000
      ∧ (∀ f : Fin 4, (afterL postI V (Proc.devRef .tc main_v159) : FVec Ideal S1000x5 .f32) (ValueIdx.ix2 s (⟨f.val, by omega⟩ : Fin 5))
          = (V (Proc.devRef .tc main_v88) : FVec Ideal S20000x4 .f32) (ValueIdx.ix2 p f))
      ∧ (afterL postI V (Proc.devRef .tc main_v159) : FVec Ideal S1000x5 .f32) (ValueIdx.ix2 s (4 : Fin 5))
          = (V (Proc.devRef .tc main_v95) : FVec Ideal S20000 .f32) (ValueIdx.ix1 p) := by
  have hn := Routing.count_nonzero_lt P 20000 s.val hs
  have hK := unmarked_at V P hP
  have hQ := rest_eq V s _ hn (summed_at P _ hK s)
  have ht := total_any P _ hK
  have hle := Nat.count_le P (n := 20000)
  have hM := mask_at _ _ hle ht s
  have hC := chosen_at _ _ hle ht (P14 V (Proc.devRef .tc main_v124)) s
  rw [if_pos hs] at hM hC
  rw [hQ] at hC
  rw [end_rows]
  generalize Nat.count (fun i => Nat.count P (i + 1) ≤ s.val) 20000 = n at hn hC
  refine ⟨⟨n, hn⟩, rfl, fun f => ?_, ?_⟩
  · refine (lastRows_box _ _ _ _ s ⟨n, hn⟩ hC f).trans ?_
    rw [hM, mul_one]
  · refine (lastRows_score _ _ _ _ s ⟨n, hn⟩ hC).trans ?_
    rw [hM, mul_one]

/-- Where none is. -/
theorem end_none (s : Fin 1000) (hs : ¬ s.val < Nat.count P 20000) :
    (∀ f : Fin 4, (afterL postI V (Proc.devRef .tc main_v159) : FVec Ideal S1000x5 .f32) (ValueIdx.ix2 s (⟨f.val, by omega⟩ : Fin 5)) = (0 : EReal))
      ∧ (afterL postI V (Proc.devRef .tc main_v159) : FVec Ideal S1000x5 .f32) (ValueIdx.ix2 s (4 : Fin 5)) = (0 : EReal) := by
  have hK := unmarked_at V P hP
  have ht := total_any P _ hK
  have hle := Nat.count_le P (n := 20000)
  have hM := mask_at _ _ hle ht s
  have hC := chosen_at _ _ hle ht (P14 V (Proc.devRef .tc main_v124)) s
  rw [if_neg hs] at hM hC
  rw [end_rows]
  refine ⟨fun f => ?_, ?_⟩
  · refine (lastRows_box _ _ _ _ s ⟨0, by omega⟩ hC f).trans ?_
    rw [hM, mul_zero]
  · refine (lastRows_score _ _ _ _ s ⟨0, by omega⟩ hC).trans ?_
    rw [hM, mul_zero]

end Cert.ReferenceIdeal.Hand
-- ==== Proof.RI.Result.lean ====
/- The reference's result over the extended reals: row `s` is the `s`-th row kept, and zero where fewer are kept. -/
module

public import proofs.«01_k».proof.Proof.RI.Marks
public import proofs.«01_k».proof.Proof.RI.Ending

@[expose] public section

set_option maxRecDepth 16384

noncomputable section

namespace Cert.ReferenceIdeal.Hand

open Idealize.ShloMosaic Idealize.ShloMosaic.StableHlo Idealize.SL.Sem Cert.ReferenceIdeal Cert.ReferenceIdeal.Gen Cert.ReferenceIdeal.Value
open Cert.KernelIdeal.Hand (Cand badRow ovRow)

/-- The chosen rows listed in order: how many, and which is the `s`-th. -/
theorem listed {α : Type} (P : ℕ → Prop) [DecidablePred P] (row : ℕ → α) (L : List α) (N : ℕ)
    (hL : L = ((List.range N).filter fun j => decide (P j)).map row) :
    L.length = Nat.count P N ∧ ∀ s (h : s < L.length), L[s] = row (Nat.count (fun i => Nat.count P (i + 1) ≤ s) N) := by
  have hl : L.length = Nat.count P N := by rw [hL, List.length_map, Routing.length_filter_range]
  refine ⟨hl, fun s h => ?_⟩
  have hs : s < Nat.count P N := hl ▸ h
  have hg := Routing.getD_filter_range P N s hs
  have hf : s < ((List.range N).filter fun j => decide (P j)).length := by rw [Routing.length_filter_range]; exact hs
  rw [← List.getElem_eq_getD (h := hf)] at hg
  subst hL
  rw [List.getElem_map, hg]

/-- The result from the contents behind the loop. -/
theorem rows_from (V : Valuation τ sig (Elt Ideal)) (P : ℕ → Prop) [DecidablePred P]
    (hP : ∀ i : Fin 20000, (V (Proc.devRef .tc main_v110_5) : IVec S20000 1) (ValueIdx.ix1 i) = 1#1 ↔ ¬ P i.val)
    (row : ℕ → Cand Ideal) (L : List (Cand Ideal)) (hL : L = ((List.range 20000).filter fun j => decide (P j)).map row)
    (hb : ∀ (k : Fin 20000) (f : Fin 4), (V (Proc.devRef .tc main_v88) : FVec Ideal S20000x4 .f32) (ValueIdx.ix2 k f)
      = Spec.field (row k.val) (⟨f.val, by omega⟩ : Fin 5))
    (hs : ∀ k : Fin 20000, (V (Proc.devRef .tc main_v95) : FVec Ideal S20000 .f32) (ValueIdx.ix1 k) = (row k.val).sc)
    (s : Fin 1000) (f : Fin 5) :
    (afterL postI V (Proc.devRef .tc main_v159) : FVec Ideal S1000x5 .f32) (ValueIdx.ix2 s f)
      = if h : s.val < L.length then Spec.field L[s.val] f else 0 := by
  obtain ⟨hl, hr⟩ := listed P row L 20000 hL
  have hf : (∃ g : Fin 4, f = (⟨g.val, by omega⟩ : Fin 5)) ∨ f = 4 := by
    by_cases h : f.val < 4
    · exact Or.inl ⟨⟨f.val, h⟩, rfl⟩
    · exact Or.inr (Fin.ext (show f.val = 4 by omega))
  by_cases h : s.val < L.length
  · rw [dif_pos h, hr s.val h]
    obtain ⟨p, hp, h1, h2⟩ := end_there V P hP s (by rw [← hl]; exact h)
    rw [← hp]
    rcases hf with ⟨g, rfl⟩ | rfl
    · exact (h1 g).trans (hb p g)
    · exact h2.trans (hs p)
  · rw [dif_neg h]
    obtain ⟨h1, h2⟩ := end_none V P hP s (by rw [← hl]; exact h)
    rcases hf with ⟨g, rfl⟩ | rfl
    · exact h1 g
    · exact h2

variable (m : (ℓ : Loc nD τ sig) → Buf (Elt Ideal) ℓ)

theorem boxes_from (c : Dev nD) (n : ℕ) (k : Fin 20000) (f : Fin 4) :
    (after condOps (atK m n c) (Proc.devRef .tc main_v88) : FVec Ideal S20000x4 .f32) (ValueIdx.ix2 k f)
      = Spec.field (rowOf m c k.val) (⟨f.val, by omega⟩ : Fin 5) := by
  rw [loop_keep m main_v88 (by decide) (by decide) c n, entry_eq, pre6_v88, taken_box, rowOf_at]
  match f with
  | ⟨0, _⟩ => rfl
  | ⟨1, _⟩ => rfl
  | ⟨2, _⟩ => rfl
  | ⟨3, _⟩ => rfl

theorem scores_from (c : Dev nD) (n : ℕ) (k : Fin 20000) :
    (after condOps (atK m n c) (Proc.devRef .tc main_v95) : FVec Ideal S20000 .f32) (ValueIdx.ix1 k) = (rowOf m c k.val).sc := by
  rw [loop_keep m main_v95 (by decide) (by decide) c n, entry_eq, pre6_v95, taken_score, rowOf_at]

open scoped Classical in
theorem result_from (c : Dev nD) (n : ℕ) (hn : n = 20000) (s : Fin 1000) (f : Fin 5) :
    (afterL postI (after condOps (atK m n c)) (Proc.devRef .tc main_v159) : FVec Ideal S1000x5 .f32) (ValueIdx.ix2 s f)
      = Spec.out (argD m c) (argO m c) (argA m c) s.val f := by
  unfold Spec.out
  have hk : Spec.keptRows (argD m c) (argO m c) (argA m c) = _ := Nms.kept_eq_unmarked (rowOf m c) 20000
  refine @rows_from _ _ _ (fun i => ?_) (rowOf m c) _ hk (boxes_from m c n) (scores_from m c n) s f
  rw [turn_last m c n (by omega) i, not_not]
  exact Nms.marks_stable (rowOf m c) (by have := i.isLt; omega)

/-- The result. -/
theorem result_at (c : Dev nD) (s : Fin 1000) (f : Fin 5) :
    (endC m c (Proc.devRef .tc main_v159) : FVec Ideal S1000x5 .f32) (ValueIdx.ix2 s f)
      = Spec.out (argD m c) (argO m c) (argA m c) s.val f := result_from m c _ rfl s f

end Cert.ReferenceIdeal.Hand
-- ==== Proof.Values.lean ====
/- Kernel and reference end with the same result over the extended reals: the rows kept, in order. -/
module

public import proofs.«01_k».proof.Defs
public import proofs.«01_k».proof.Proof.KI.Result
public import proofs.«01_k».proof.Proof.RI.Result

@[expose] public section

set_option maxRecDepth 16384

noncomputable section

namespace Cert.Proof

open Idealize.ShloMosaic Idealize.SL.Sem

/-- The result as an array. -/
def rows (D : Spec.Four) (O : Spec.One) (A : Spec.Four) : FVec Ideal (⟨2, ![1000, 5]⟩ : Shape) .f32 :=
  fun i => Spec.out D O A (i 0).val (i 1)

/-- An array that reads the result everywhere is it. -/
theorem eq_rows (D : Spec.Four) (O : Spec.One) (A : Spec.Four) (X : FVec Ideal (⟨2, ![1000, 5]⟩ : Shape) .f32)
    (h : ∀ (s : Fin 1000) (f : Fin 5), X (ValueIdx.ix2 s f) = Spec.out D O A s.val f) : X = rows D O A := by
  funext i
  rw [ValueIdx.eq_ix2 i]
  exact h (i 0) (i 1)

/-- The kernel ends with the rows kept, its arguments as they were. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v48)
            = rows (Cert.KernelIdeal.Hand.argD m c) (Cert.KernelIdeal.Hand.argO m c) (Cert.KernelIdeal.Hand.argA m c)
          ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2)) :=
  (θ_run _ _ _).mono
    (fun r h c => ⟨(h.1 c Cert.KernelIdeal.main_v48 rfl).trans (eq_rows _ _ _ _ (Cert.KernelIdeal.Hand.result_at m c)),
      (h.1 c Cert.KernelIdeal.main_arg0 rfl).trans (Cert.KernelIdeal.Gen.V10_main_arg0 m _ c),
      (h.1 c Cert.KernelIdeal.main_arg1 rfl).trans (Cert.KernelIdeal.Gen.V10_main_arg1 m _ c),
      (h.1 c Cert.KernelIdeal.main_arg2 rfl).trans (Cert.KernelIdeal.Gen.V10_main_arg2 m _ c)⟩)
    (Cert.KernelIdeal.Hand.run_all m g)

/-- The reference ends with the rows kept, its arguments as they were. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v159)
            = rows (Cert.ReferenceIdeal.Hand.argD m c) (Cert.ReferenceIdeal.Hand.argO m c) (Cert.ReferenceIdeal.Hand.argA m c)
          ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)) :=
  (θ_run _ _ _).mono
    (fun r h c => ⟨(h c Cert.ReferenceIdeal.main_v159 rfl).trans (eq_rows _ _ _ _ (Cert.ReferenceIdeal.Hand.result_at m c)),
      (h c Cert.ReferenceIdeal.main_arg0 rfl).trans (Cert.ReferenceIdeal.Hand.end_arg0 m c),
      (h c Cert.ReferenceIdeal.main_arg1 rfl).trans (Cert.ReferenceIdeal.Hand.end_arg1 m c),
      (h c Cert.ReferenceIdeal.main_arg2 rfl).trans (Cert.ReferenceIdeal.Hand.end_arg2 m c)⟩)
    (Cert.ReferenceIdeal.Value.run_fold m g)

/-- Equal arguments, equal results. -/
theorem same_rows : @Cert.algebraic_KernelIdeal_ReferenceIdeal Cert.KernelIdeal.Gen.facts Cert.ReferenceIdeal.Gen.facts := by
  intro m g m' g' _ same
  refine ⟨fun c => rows (Cert.KernelIdeal.Hand.argD m c) (Cert.KernelIdeal.Hand.argO m c) (Cert.KernelIdeal.Hand.argA m c),
    kernel_run m g, (θ_run _ _ _).mono (fun r h c => ?_) (reference_run m' g')⟩
  obtain ⟨h0, h1⟩ := h c
  obtain ⟨e0, e1, e2⟩ := same c
  refine ⟨h0.trans ?_, h1⟩
  exact congr (congr (congrArg rows e0) e1) e2

end Cert.Proof
-- ==== Proof.lean ====
/- The claims about the kernel and its reference, put together: the runs are proved in the modules imported here. -/
module

public import proofs.«01_k».proof.Defs
public import proofs.«01_k».proof.Proof.K.Run
public import proofs.«01_k».proof.Proof.KI.Run
public import proofs.«01_k».proof.Proof.RI.Frame
public import proofs.«01_k».proof.Proof.Values

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m g _ => Cert.Kernel.Hand.frame_all m g, fun m g _ => Cert.KernelIdeal.Hand.frame_all m g,
  fun m g _ => Cert.ReferenceIdeal.Hand.frame_all m g, trivial, same_rows⟩

end Cert.Proof

end
